-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_operands [hPre_finite_operands : Cert.Pre_finite_operands.Facts] (m : (ℓ : Loc Cert.AttnIdeal.nD Cert.AttnIdeal.τ Cert.AttnIdeal.sig) → Buf (Elt Ideal) ℓ) : Prop :=
  ∀ c : Dev Cert.AttnIdeal.nD,
    (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_operands [hPre_finite_operands : Cert.Pre_finite_operands.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_Dqkv (m : (ℓ : Loc Cert.Dqkv.nD Cert.Dqkv.τ Cert.Dqkv.sig) → Buf (Elt Bits) ℓ) : Prop :=
  True

def Pre_DqkvIdeal (m : (ℓ : Loc Cert.DqkvIdeal.nD Cert.DqkvIdeal.τ Cert.DqkvIdeal.sig) → Buf (Elt Ideal) ℓ) : Prop :=
  True

def Pre_DqkvRefIdeal (m : (ℓ : Loc Cert.DqkvRefIdeal.nD Cert.DqkvRefIdeal.τ Cert.DqkvRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_DqkvSample (m : (ℓ : Loc Cert.DqkvSample.nD Cert.DqkvSample.τ Cert.DqkvSample.sig) → Buf (Elt Bits) ℓ) : Prop :=
  True

def Pre_DqkvSampleIdeal (m : (ℓ : Loc Cert.DqkvSampleIdeal.nD Cert.DqkvSampleIdeal.τ Cert.DqkvSampleIdeal.sig) → Buf (Elt Ideal) ℓ) : Prop :=
  True

def Pre_DqkvSampleRefIdeal (m : (ℓ : Loc Cert.DqkvSampleRefIdeal.nD Cert.DqkvSampleRefIdeal.τ Cert.DqkvSampleRefIdeal.sig) → Buf (Elt Ideal) ℓ) : Prop :=
  True

def Pre_SampleMixer (m : (ℓ : Loc Cert.SampleMixer.nD Cert.SampleMixer.τ Cert.SampleMixer.sig) → Buf (Elt Bits) ℓ) : Prop :=
  True

def Pre_SampleMixerIdeal (m : (ℓ : Loc Cert.SampleMixerIdeal.nD Cert.SampleMixerIdeal.τ Cert.SampleMixerIdeal.sig) → Buf (Elt Ideal) ℓ) : Prop :=
  True

def Pre_SampleMixerRefIdeal (m : (ℓ : Loc Cert.SampleMixerRefIdeal.nD Cert.SampleMixerRefIdeal.τ Cert.SampleMixerRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_operands [hAttnIdeal : Cert.AttnIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_operands m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_operands [hAttnRefIdeal : Cert.AttnRefIdeal.Facts] [hPre_finite_operands : Cert.Pre_finite_operands.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_operands m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3)
      ∧ r.2.mem ((c.tc : Thread Cert.MlaOut.nD Cert.MlaOut.τ).loc Cert.MlaOut.main_arg4) = m ((c.tc : Thread Cert.MlaOut.nD Cert.MlaOut.τ).loc Cert.MlaOut.main_arg4))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
      ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2)
      ∧ r.2.mem ((c.tc : Thread Cert.MlaOutRefIdeal.nD Cert.MlaOutRefIdeal.τ).loc Cert.MlaOutRefIdeal.main_arg3) = m ((c.tc : Thread Cert.MlaOutRefIdeal.nD Cert.MlaOutRefIdeal.τ).loc Cert.MlaOutRefIdeal.main_arg3)
      ∧ r.2.mem ((c.tc : Thread Cert.MlaOutRefIdeal.nD Cert.MlaOutRefIdeal.τ).loc Cert.MlaOutRefIdeal.main_arg4) = m ((c.tc : Thread Cert.MlaOutRefIdeal.nD Cert.MlaOutRefIdeal.τ).loc Cert.MlaOutRefIdeal.main_arg4))
      ∧ r.2.sem = fun _ => 0)

def quiescent_Dqkv [hDqkv : Cert.Dqkv.Facts] : Prop :=
  ∀ (m : (ℓ : Loc Cert.Dqkv.nD Cert.Dqkv.τ Cert.Dqkv.sig) → Buf (Elt Bits) ℓ) (g : Dev Cert.Dqkv.nD → PrngReg), Pre_Dqkv m →
    θ_run (Cert.Dqkv.defs (F := Bits)) (onTc (τ := Cert.Dqkv.τ) (Cert.Dqkv.main (F := Bits))) ⟨m, fun _ => 0, g⟩ (fun r => (∀ c : Dev Cert.Dqkv.nD,
      r.2.mem ((c.tc : Thread Cert.Dqkv.nD Cert.Dqkv.τ).loc Cert.Dqkv.main_arg0) = m ((c.tc : Thread Cert.Dqkv.nD Cert.Dqkv.τ).loc Cert.Dqkv.main_arg0)
      ∧ r.2.mem ((c.tc : Thread Cert.Dqkv.nD Cert.Dqkv.τ).loc Cert.Dqkv.main_arg1) = m ((c.tc : Thread Cert.Dqkv.nD Cert.Dqkv.τ).loc Cert.Dqkv.main_arg1)
      ∧ r.2.mem ((c.tc : Thread Cert.Dqkv.nD Cert.Dqkv.τ).loc Cert.Dqkv.main_arg2) = m ((c.tc : Thread Cert.Dqkv.nD Cert.Dqkv.τ).loc Cert.Dqkv.main_arg2)
      ∧ r.2.mem ((c.tc : Thread Cert.Dqkv.nD Cert.Dqkv.τ).loc Cert.Dqkv.main_arg3) = m ((c.tc : Thread Cert.Dqkv.nD Cert.Dqkv.τ).loc Cert.Dqkv.main_arg3)
      ∧ r.2.mem ((c.tc : Thread Cert.Dqkv.nD Cert.Dqkv.τ).loc Cert.Dqkv.main_arg4) = m ((c.tc : Thread Cert.Dqkv.nD Cert.Dqkv.τ).loc Cert.Dqkv.main_arg4)
      ∧ r.2.mem ((c.tc : Thread Cert.Dqkv.nD Cert.Dqkv.τ).loc Cert.Dqkv.main_arg5) = m ((c.tc : Thread Cert.Dqkv.nD Cert.Dqkv.τ).loc Cert.Dqkv.main_arg5)
      ∧ r.2.mem ((c.tc : Thread Cert.Dqkv.nD Cert.Dqkv.τ).loc Cert.Dqkv.main_arg6) = m ((c.tc : Thread Cert.Dqkv.nD Cert.Dqkv.τ).loc Cert.Dqkv.main_arg6)
      ∧ r.2.mem ((c.tc : Thread Cert.Dqkv.nD Cert.Dqkv.τ).loc Cert.Dqkv.main_arg7) = m ((c.tc : Thread Cert.Dqkv.nD Cert.Dqkv.τ).loc Cert.Dqkv.main_arg7))
      ∧ r.2.sem = fun _ => 0)

def quiescent_DqkvIdeal [hDqkvIdeal : Cert.DqkvIdeal.Facts] : Prop :=
  ∀ (m : (ℓ : Loc Cert.DqkvIdeal.nD Cert.DqkvIdeal.τ Cert.DqkvIdeal.sig) → Buf (Elt Ideal) ℓ) (g : Dev Cert.DqkvIdeal.nD → PrngReg), Pre_DqkvIdeal m →
    θ_run (Cert.DqkvIdeal.defs (F := Ideal)) (onTc (τ := Cert.DqkvIdeal.τ) (Cert.DqkvIdeal.main (F := Ideal))) ⟨m, fun _ => 0, g⟩ (fun r => (∀ c : Dev Cert.DqkvIdeal.nD,
      r.2.mem ((c.tc : Thread Cert.DqkvIdeal.nD Cert.DqkvIdeal.τ).loc Cert.DqkvIdeal.main_arg0) = m ((c.tc : Thread Cert.DqkvIdeal.nD Cert.DqkvIdeal.τ).loc Cert.DqkvIdeal.main_arg0)
      ∧ r.2.mem ((c.tc : Thread Cert.DqkvIdeal.nD Cert.DqkvIdeal.τ).loc Cert.DqkvIdeal.main_arg1) = m ((c.tc : Thread Cert.DqkvIdeal.nD Cert.DqkvIdeal.τ).loc Cert.DqkvIdeal.main_arg1)
      ∧ r.2.mem ((c.tc : Thread Cert.DqkvIdeal.nD Cert.DqkvIdeal.τ).loc Cert.DqkvIdeal.main_arg2) = m ((c.tc : Thread Cert.DqkvIdeal.nD Cert.DqkvIdeal.τ).loc Cert.DqkvIdeal.main_arg2)
      ∧ r.2.mem ((c.tc : Thread Cert.DqkvIdeal.nD Cert.DqkvIdeal.τ).loc Cert.DqkvIdeal.main_arg3) = m ((c.tc : Thread Cert.DqkvIdeal.nD Cert.DqkvIdeal.τ).loc Cert.DqkvIdeal.main_arg3)
      ∧ r.2.mem ((c.tc : Thread Cert.DqkvIdeal.nD Cert.DqkvIdeal.τ).loc Cert.DqkvIdeal.main_arg4) = m ((c.tc : Thread Cert.DqkvIdeal.nD Cert.DqkvIdeal.τ).loc Cert.DqkvIdeal.main_arg4)
      ∧ r.2.mem ((c.tc : Thread Cert.DqkvIdeal.nD Cert.DqkvIdeal.τ).loc Cert.DqkvIdeal.main_arg5) = m ((c.tc : Thread Cert.DqkvIdeal.nD Cert.DqkvIdeal.τ).loc Cert.DqkvIdeal.main_arg5)
      ∧ r.2.mem ((c.tc : Thread Cert.DqkvIdeal.nD Cert.DqkvIdeal.τ).loc Cert.DqkvIdeal.main_arg6) = m ((c.tc : Thread Cert.DqkvIdeal.nD Cert.DqkvIdeal.τ).loc Cert.DqkvIdeal.main_arg6)
      ∧ r.2.mem ((c.tc : Thread Cert.DqkvIdeal.nD Cert.DqkvIdeal.τ).loc Cert.DqkvIdeal.main_arg7) = m ((c.tc : Thread Cert.DqkvIdeal.nD Cert.DqkvIdeal.τ).loc Cert.DqkvIdeal.main_arg7))
      ∧ r.2.sem = fun _ => 0)

def quiescent_DqkvRefIdeal [hDqkvRefIdeal : Cert.DqkvRefIdeal.Facts] : Prop :=
  ∀ (m : (ℓ : Loc Cert.DqkvRefIdeal.nD Cert.DqkvRefIdeal.τ Cert.DqkvRefIdeal.sig) → Buf (Elt Ideal) ℓ) (g : Dev Cert.DqkvRefIdeal.nD → PrngReg), Pre_DqkvRefIdeal m →
    θ_run (Cert.DqkvRefIdeal.defs (F := Ideal)) (onTc (τ := Cert.DqkvRefIdeal.τ) (Cert.DqkvRefIdeal.main (F := Ideal))) ⟨m, fun _ => 0, g⟩ (fun r => (∀ c : Dev Cert.DqkvRefIdeal.nD,
      r.2.mem ((c.tc : Thread Cert.DqkvRefIdeal.nD Cert.DqkvRefIdeal.τ).loc Cert.DqkvRefIdeal.main_arg0) = m ((c.tc : Thread Cert.DqkvRefIdeal.nD Cert.DqkvRefIdeal.τ).loc Cert.DqkvRefIdeal.main_arg0)
      ∧ r.2.mem ((c.tc : Thread Cert.DqkvRefIdeal.nD Cert.DqkvRefIdeal.τ).loc Cert.DqkvRefIdeal.main_arg1) = m ((c.tc : Thread Cert.DqkvRefIdeal.nD Cert.DqkvRefIdeal.τ).loc Cert.DqkvRefIdeal.main_arg1)
      ∧ r.2.mem ((c.tc : Thread Cert.DqkvRefIdeal.nD Cert.DqkvRefIdeal.τ).loc Cert.DqkvRefIdeal.main_arg2) = m ((c.tc : Thread Cert.DqkvRefIdeal.nD Cert.DqkvRefIdeal.τ).loc Cert.DqkvRefIdeal.main_arg2)
      ∧ r.2.mem ((c.tc : Thread Cert.DqkvRefIdeal.nD Cert.DqkvRefIdeal.τ).loc Cert.DqkvRefIdeal.main_arg3) = m ((c.tc : Thread Cert.DqkvRefIdeal.nD Cert.DqkvRefIdeal.τ).loc Cert.DqkvRefIdeal.main_arg3)
      ∧ r.2.mem ((c.tc : Thread Cert.DqkvRefIdeal.nD Cert.DqkvRefIdeal.τ).loc Cert.DqkvRefIdeal.main_arg4) = m ((c.tc : Thread Cert.DqkvRefIdeal.nD Cert.DqkvRefIdeal.τ).loc Cert.DqkvRefIdeal.main_arg4)
      ∧ r.2.mem ((c.tc : Thread Cert.DqkvRefIdeal.nD Cert.DqkvRefIdeal.τ).loc Cert.DqkvRefIdeal.main_arg5) = m ((c.tc : Thread Cert.DqkvRefIdeal.nD Cert.DqkvRefIdeal.τ).loc Cert.DqkvRefIdeal.main_arg5)
      ∧ r.2.mem ((c.tc : Thread Cert.DqkvRefIdeal.nD Cert.DqkvRefIdeal.τ).loc Cert.DqkvRefIdeal.main_arg6) = m ((c.tc : Thread Cert.DqkvRefIdeal.nD Cert.DqkvRefIdeal.τ).loc Cert.DqkvRefIdeal.main_arg6)
      ∧ r.2.mem ((c.tc : Thread Cert.DqkvRefIdeal.nD Cert.DqkvRefIdeal.τ).loc Cert.DqkvRefIdeal.main_arg7) = m ((c.tc : Thread Cert.DqkvRefIdeal.nD Cert.DqkvRefIdeal.τ).loc Cert.DqkvRefIdeal.main_arg7))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3)
      ∧ r.2.mem ((c.tc : Thread Cert.QProjRefIdeal.nD Cert.QProjRefIdeal.τ).loc Cert.QProjRefIdeal.main_arg4) = m ((c.tc : Thread Cert.QProjRefIdeal.nD Cert.QProjRefIdeal.τ).loc Cert.QProjRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_DqkvSample [hDqkvSample : Cert.DqkvSample.Facts] : Prop :=
  ∀ (m : (ℓ : Loc Cert.DqkvSample.nD Cert.DqkvSample.τ Cert.DqkvSample.sig) → Buf (Elt Bits) ℓ) (g : Dev Cert.DqkvSample.nD → PrngReg), Pre_DqkvSample m →
    θ_run (Cert.DqkvSample.defs (F := Bits)) (onTc (τ := Cert.DqkvSample.τ) (Cert.DqkvSample.main (F := Bits))) ⟨m, fun _ => 0, g⟩ (fun r => (∀ c : Dev Cert.DqkvSample.nD,
      r.2.mem ((c.tc : Thread Cert.DqkvSample.nD Cert.DqkvSample.τ).loc Cert.DqkvSample.main_arg0) = m ((c.tc : Thread Cert.DqkvSample.nD Cert.DqkvSample.τ).loc Cert.DqkvSample.main_arg0)
      ∧ r.2.mem ((c.tc : Thread Cert.DqkvSample.nD Cert.DqkvSample.τ).loc Cert.DqkvSample.main_arg1) = m ((c.tc : Thread Cert.DqkvSample.nD Cert.DqkvSample.τ).loc Cert.DqkvSample.main_arg1)
      ∧ r.2.mem ((c.tc : Thread Cert.DqkvSample.nD Cert.DqkvSample.τ).loc Cert.DqkvSample.main_arg2) = m ((c.tc : Thread Cert.DqkvSample.nD Cert.DqkvSample.τ).loc Cert.DqkvSample.main_arg2)
      ∧ r.2.mem ((c.tc : Thread Cert.DqkvSample.nD Cert.DqkvSample.τ).loc Cert.DqkvSample.main_arg3) = m ((c.tc : Thread Cert.DqkvSample.nD Cert.DqkvSample.τ).loc Cert.DqkvSample.main_arg3)
      ∧ r.2.mem ((c.tc : Thread Cert.DqkvSample.nD Cert.DqkvSample.τ).loc Cert.DqkvSample.main_arg4) = m ((c.tc : Thread Cert.DqkvSample.nD Cert.DqkvSample.τ).loc Cert.DqkvSample.main_arg4)
      ∧ r.2.mem ((c.tc : Thread Cert.DqkvSample.nD Cert.DqkvSample.τ).loc Cert.DqkvSample.main_arg5) = m ((c.tc : Thread Cert.DqkvSample.nD Cert.DqkvSample.τ).loc Cert.DqkvSample.main_arg5)
      ∧ r.2.mem ((c.tc : Thread Cert.DqkvSample.nD Cert.DqkvSample.τ).loc Cert.DqkvSample.main_arg6) = m ((c.tc : Thread Cert.DqkvSample.nD Cert.DqkvSample.τ).loc Cert.DqkvSample.main_arg6)
      ∧ r.2.mem ((c.tc : Thread Cert.DqkvSample.nD Cert.DqkvSample.τ).loc Cert.DqkvSample.main_arg7) = m ((c.tc : Thread Cert.DqkvSample.nD Cert.DqkvSample.τ).loc Cert.DqkvSample.main_arg7))
      ∧ r.2.sem = fun _ => 0)

def quiescent_DqkvSampleIdeal [hDqkvSampleIdeal : Cert.DqkvSampleIdeal.Facts] : Prop :=
  ∀ (m : (ℓ : Loc Cert.DqkvSampleIdeal.nD Cert.DqkvSampleIdeal.τ Cert.DqkvSampleIdeal.sig) → Buf (Elt Ideal) ℓ) (g : Dev Cert.DqkvSampleIdeal.nD → PrngReg), Pre_DqkvSampleIdeal m →
    θ_run (Cert.DqkvSampleIdeal.defs (F := Ideal)) (onTc (τ := Cert.DqkvSampleIdeal.τ) (Cert.DqkvSampleIdeal.main (F := Ideal))) ⟨m, fun _ => 0, g⟩ (fun r => (∀ c : Dev Cert.DqkvSampleIdeal.nD,
      r.2.mem ((c.tc : Thread Cert.DqkvSampleIdeal.nD Cert.DqkvSampleIdeal.τ).loc Cert.DqkvSampleIdeal.main_arg0) = m ((c.tc : Thread Cert.DqkvSampleIdeal.nD Cert.DqkvSampleIdeal.τ).loc Cert.DqkvSampleIdeal.main_arg0)
      ∧ r.2.mem ((c.tc : Thread Cert.DqkvSampleIdeal.nD Cert.DqkvSampleIdeal.τ).loc Cert.DqkvSampleIdeal.main_arg1) = m ((c.tc : Thread Cert.DqkvSampleIdeal.nD Cert.DqkvSampleIdeal.τ).loc Cert.DqkvSampleIdeal.main_arg1)
      ∧ r.2.mem ((c.tc : Thread Cert.DqkvSampleIdeal.nD Cert.DqkvSampleIdeal.τ).loc Cert.DqkvSampleIdeal.main_arg2) = m ((c.tc : Thread Cert.DqkvSampleIdeal.nD Cert.DqkvSampleIdeal.τ).loc Cert.DqkvSampleIdeal.main_arg2)
      ∧ r.2.mem ((c.tc : Thread Cert.DqkvSampleIdeal.nD Cert.DqkvSampleIdeal.τ).loc Cert.DqkvSampleIdeal.main_arg3) = m ((c.tc : Thread Cert.DqkvSampleIdeal.nD Cert.DqkvSampleIdeal.τ).loc Cert.DqkvSampleIdeal.main_arg3)
      ∧ r.2.mem ((c.tc : Thread Cert.DqkvSampleIdeal.nD Cert.DqkvSampleIdeal.τ).loc Cert.DqkvSampleIdeal.main_arg4) = m ((c.tc : Thread Cert.DqkvSampleIdeal.nD Cert.DqkvSampleIdeal.τ).loc Cert.DqkvSampleIdeal.main_arg4)
      ∧ r.2.mem ((c.tc : Thread Cert.DqkvSampleIdeal.nD Cert.DqkvSampleIdeal.τ).loc Cert.DqkvSampleIdeal.main_arg5) = m ((c.tc : Thread Cert.DqkvSampleIdeal.nD Cert.DqkvSampleIdeal.τ).loc Cert.DqkvSampleIdeal.main_arg5)
      ∧ r.2.mem ((c.tc : Thread Cert.DqkvSampleIdeal.nD Cert.DqkvSampleIdeal.τ).loc Cert.DqkvSampleIdeal.main_arg6) = m ((c.tc : Thread Cert.DqkvSampleIdeal.nD Cert.DqkvSampleIdeal.τ).loc Cert.DqkvSampleIdeal.main_arg6)
      ∧ r.2.mem ((c.tc : Thread Cert.DqkvSampleIdeal.nD Cert.DqkvSampleIdeal.τ).loc Cert.DqkvSampleIdeal.main_arg7) = m ((c.tc : Thread Cert.DqkvSampleIdeal.nD Cert.DqkvSampleIdeal.τ).loc Cert.DqkvSampleIdeal.main_arg7))
      ∧ r.2.sem = fun _ => 0)

def quiescent_DqkvSampleRefIdeal [hDqkvSampleRefIdeal : Cert.DqkvSampleRefIdeal.Facts] : Prop :=
  ∀ (m : (ℓ : Loc Cert.DqkvSampleRefIdeal.nD Cert.DqkvSampleRefIdeal.τ Cert.DqkvSampleRefIdeal.sig) → Buf (Elt Ideal) ℓ) (g : Dev Cert.DqkvSampleRefIdeal.nD → PrngReg), Pre_DqkvSampleRefIdeal m →
    θ_run (Cert.DqkvSampleRefIdeal.defs (F := Ideal)) (onTc (τ := Cert.DqkvSampleRefIdeal.τ) (Cert.DqkvSampleRefIdeal.main (F := Ideal))) ⟨m, fun _ => 0, g⟩ (fun r => (∀ c : Dev Cert.DqkvSampleRefIdeal.nD,
      r.2.mem ((c.tc : Thread Cert.DqkvSampleRefIdeal.nD Cert.DqkvSampleRefIdeal.τ).loc Cert.DqkvSampleRefIdeal.main_arg0) = m ((c.tc : Thread Cert.DqkvSampleRefIdeal.nD Cert.DqkvSampleRefIdeal.τ).loc Cert.DqkvSampleRefIdeal.main_arg0)
      ∧ r.2.mem ((c.tc : Thread Cert.DqkvSampleRefIdeal.nD Cert.DqkvSampleRefIdeal.τ).loc Cert.DqkvSampleRefIdeal.main_arg1) = m ((c.tc : Thread Cert.DqkvSampleRefIdeal.nD Cert.DqkvSampleRefIdeal.τ).loc Cert.DqkvSampleRefIdeal.main_arg1)
      ∧ r.2.mem ((c.tc : Thread Cert.DqkvSampleRefIdeal.nD Cert.DqkvSampleRefIdeal.τ).loc Cert.DqkvSampleRefIdeal.main_arg2) = m ((c.tc : Thread Cert.DqkvSampleRefIdeal.nD Cert.DqkvSampleRefIdeal.τ).loc Cert.DqkvSampleRefIdeal.main_arg2)
      ∧ r.2.mem ((c.tc : Thread Cert.DqkvSampleRefIdeal.nD Cert.DqkvSampleRefIdeal.τ).loc Cert.DqkvSampleRefIdeal.main_arg3) = m ((c.tc : Thread Cert.DqkvSampleRefIdeal.nD Cert.DqkvSampleRefIdeal.τ).loc Cert.DqkvSampleRefIdeal.main_arg3)
      ∧ r.2.mem ((c.tc : Thread Cert.DqkvSampleRefIdeal.nD Cert.DqkvSampleRefIdeal.τ).loc Cert.DqkvSampleRefIdeal.main_arg4) = m ((c.tc : Thread Cert.DqkvSampleRefIdeal.nD Cert.DqkvSampleRefIdeal.τ).loc Cert.DqkvSampleRefIdeal.main_arg4)
      ∧ r.2.mem ((c.tc : Thread Cert.DqkvSampleRefIdeal.nD Cert.DqkvSampleRefIdeal.τ).loc Cert.DqkvSampleRefIdeal.main_arg5) = m ((c.tc : Thread Cert.DqkvSampleRefIdeal.nD Cert.DqkvSampleRefIdeal.τ).loc Cert.DqkvSampleRefIdeal.main_arg5)
      ∧ r.2.mem ((c.tc : Thread Cert.DqkvSampleRefIdeal.nD Cert.DqkvSampleRefIdeal.τ).loc Cert.DqkvSampleRefIdeal.main_arg6) = m ((c.tc : Thread Cert.DqkvSampleRefIdeal.nD Cert.DqkvSampleRefIdeal.τ).loc Cert.DqkvSampleRefIdeal.main_arg6)
      ∧ r.2.mem ((c.tc : Thread Cert.DqkvSampleRefIdeal.nD Cert.DqkvSampleRefIdeal.τ).loc Cert.DqkvSampleRefIdeal.main_arg7) = m ((c.tc : Thread Cert.DqkvSampleRefIdeal.nD Cert.DqkvSampleRefIdeal.τ).loc Cert.DqkvSampleRefIdeal.main_arg7))
      ∧ r.2.sem = fun _ => 0)

def quiescent_SampleMixer [hSampleMixer : Cert.SampleMixer.Facts] : Prop :=
  ∀ (m : (ℓ : Loc Cert.SampleMixer.nD Cert.SampleMixer.τ Cert.SampleMixer.sig) → Buf (Elt Bits) ℓ) (g : Dev Cert.SampleMixer.nD → PrngReg), Pre_SampleMixer m →
    θ_run (Cert.SampleMixer.defs (F := Bits)) (onTc (τ := Cert.SampleMixer.τ) (Cert.SampleMixer.main (F := Bits))) ⟨m, fun _ => 0, g⟩ (fun r => (∀ c : Dev Cert.SampleMixer.nD,
      r.2.mem ((c.tc : Thread Cert.SampleMixer.nD Cert.SampleMixer.τ).loc Cert.SampleMixer.main_arg0) = m ((c.tc : Thread Cert.SampleMixer.nD Cert.SampleMixer.τ).loc Cert.SampleMixer.main_arg0)
      ∧ r.2.mem ((c.tc : Thread Cert.SampleMixer.nD Cert.SampleMixer.τ).loc Cert.SampleMixer.main_arg1) = m ((c.tc : Thread Cert.SampleMixer.nD Cert.SampleMixer.τ).loc Cert.SampleMixer.main_arg1)
      ∧ r.2.mem ((c.tc : Thread Cert.SampleMixer.nD Cert.SampleMixer.τ).loc Cert.SampleMixer.main_arg2) = m ((c.tc : Thread Cert.SampleMixer.nD Cert.SampleMixer.τ).loc Cert.SampleMixer.main_arg2)
      ∧ r.2.mem ((c.tc : Thread Cert.SampleMixer.nD Cert.SampleMixer.τ).loc Cert.SampleMixer.main_arg3) = m ((c.tc : Thread Cert.SampleMixer.nD Cert.SampleMixer.τ).loc Cert.SampleMixer.main_arg3)
      ∧ r.2.mem ((c.tc : Thread Cert.SampleMixer.nD Cert.SampleMixer.τ).loc Cert.SampleMixer.main_arg4) = m ((c.tc : Thread Cert.SampleMixer.nD Cert.SampleMixer.τ).loc Cert.SampleMixer.main_arg4)
      ∧ r.2.mem ((c.tc : Thread Cert.SampleMixer.nD Cert.SampleMixer.τ).loc Cert.SampleMixer.main_arg5) = m ((c.tc : Thread Cert.SampleMixer.nD Cert.SampleMixer.τ).loc Cert.SampleMixer.main_arg5))
      ∧ r.2.sem = fun _ => 0)

def quiescent_SampleMixerIdeal [hSampleMixerIdeal : Cert.SampleMixerIdeal.Facts] : Prop :=
  ∀ (m : (ℓ : Loc Cert.SampleMixerIdeal.nD Cert.SampleMixerIdeal.τ Cert.SampleMixerIdeal.sig) → Buf (Elt Ideal) ℓ) (g : Dev Cert.SampleMixerIdeal.nD → PrngReg), Pre_SampleMixerIdeal m →
    θ_run (Cert.SampleMixerIdeal.defs (F := Ideal)) (onTc (τ := Cert.SampleMixerIdeal.τ) (Cert.SampleMixerIdeal.main (F := Ideal))) ⟨m, fun _ => 0, g⟩ (fun r => (∀ c : Dev Cert.SampleMixerIdeal.nD,
      r.2.mem ((c.tc : Thread Cert.SampleMixerIdeal.nD Cert.SampleMixerIdeal.τ).loc Cert.SampleMixerIdeal.main_arg0) = m ((c.tc : Thread Cert.SampleMixerIdeal.nD Cert.SampleMixerIdeal.τ).loc Cert.SampleMixerIdeal.main_arg0)
      ∧ r.2.mem ((c.tc : Thread Cert.SampleMixerIdeal.nD Cert.SampleMixerIdeal.τ).loc Cert.SampleMixerIdeal.main_arg1) = m ((c.tc : Thread Cert.SampleMixerIdeal.nD Cert.SampleMixerIdeal.τ).loc Cert.SampleMixerIdeal.main_arg1)
      ∧ r.2.mem ((c.tc : Thread Cert.SampleMixerIdeal.nD Cert.SampleMixerIdeal.τ).loc Cert.SampleMixerIdeal.main_arg2) = m ((c.tc : Thread Cert.SampleMixerIdeal.nD Cert.SampleMixerIdeal.τ).loc Cert.SampleMixerIdeal.main_arg2)
      ∧ r.2.mem ((c.tc : Thread Cert.SampleMixerIdeal.nD Cert.SampleMixerIdeal.τ).loc Cert.SampleMixerIdeal.main_arg3) = m ((c.tc : Thread Cert.SampleMixerIdeal.nD Cert.SampleMixerIdeal.τ).loc Cert.SampleMixerIdeal.main_arg3)
      ∧ r.2.mem ((c.tc : Thread Cert.SampleMixerIdeal.nD Cert.SampleMixerIdeal.τ).loc Cert.SampleMixerIdeal.main_arg4) = m ((c.tc : Thread Cert.SampleMixerIdeal.nD Cert.SampleMixerIdeal.τ).loc Cert.SampleMixerIdeal.main_arg4)
      ∧ r.2.mem ((c.tc : Thread Cert.SampleMixerIdeal.nD Cert.SampleMixerIdeal.τ).loc Cert.SampleMixerIdeal.main_arg5) = m ((c.tc : Thread Cert.SampleMixerIdeal.nD Cert.SampleMixerIdeal.τ).loc Cert.SampleMixerIdeal.main_arg5))
      ∧ r.2.sem = fun _ => 0)

def quiescent_SampleMixerRefIdeal [hSampleMixerRefIdeal : Cert.SampleMixerRefIdeal.Facts] : Prop :=
  ∀ (m : (ℓ : Loc Cert.SampleMixerRefIdeal.nD Cert.SampleMixerRefIdeal.τ Cert.SampleMixerRefIdeal.sig) → Buf (Elt Ideal) ℓ) (g : Dev Cert.SampleMixerRefIdeal.nD → PrngReg), Pre_SampleMixerRefIdeal m →
    θ_run (Cert.SampleMixerRefIdeal.defs (F := Ideal)) (onTc (τ := Cert.SampleMixerRefIdeal.τ) (Cert.SampleMixerRefIdeal.main (F := Ideal))) ⟨m, fun _ => 0, g⟩ (fun r => (∀ c : Dev Cert.SampleMixerRefIdeal.nD,
      r.2.mem ((c.tc : Thread Cert.SampleMixerRefIdeal.nD Cert.SampleMixerRefIdeal.τ).loc Cert.SampleMixerRefIdeal.main_arg0) = m ((c.tc : Thread Cert.SampleMixerRefIdeal.nD Cert.SampleMixerRefIdeal.τ).loc Cert.SampleMixerRefIdeal.main_arg0)
      ∧ r.2.mem ((c.tc : Thread Cert.SampleMixerRefIdeal.nD Cert.SampleMixerRefIdeal.τ).loc Cert.SampleMixerRefIdeal.main_arg1) = m ((c.tc : Thread Cert.SampleMixerRefIdeal.nD Cert.SampleMixerRefIdeal.τ).loc Cert.SampleMixerRefIdeal.main_arg1)
      ∧ r.2.mem ((c.tc : Thread Cert.SampleMixerRefIdeal.nD Cert.SampleMixerRefIdeal.τ).loc Cert.SampleMixerRefIdeal.main_arg2) = m ((c.tc : Thread Cert.SampleMixerRefIdeal.nD Cert.SampleMixerRefIdeal.τ).loc Cert.SampleMixerRefIdeal.main_arg2)
      ∧ r.2.mem ((c.tc : Thread Cert.SampleMixerRefIdeal.nD Cert.SampleMixerRefIdeal.τ).loc Cert.SampleMixerRefIdeal.main_arg3) = m ((c.tc : Thread Cert.SampleMixerRefIdeal.nD Cert.SampleMixerRefIdeal.τ).loc Cert.SampleMixerRefIdeal.main_arg3)
      ∧ r.2.mem ((c.tc : Thread Cert.SampleMixerRefIdeal.nD Cert.SampleMixerRefIdeal.τ).loc Cert.SampleMixerRefIdeal.main_arg4) = m ((c.tc : Thread Cert.SampleMixerRefIdeal.nD Cert.SampleMixerRefIdeal.τ).loc Cert.SampleMixerRefIdeal.main_arg4)
      ∧ r.2.mem ((c.tc : Thread Cert.SampleMixerRefIdeal.nD Cert.SampleMixerRefIdeal.τ).loc Cert.SampleMixerRefIdeal.main_arg5) = m ((c.tc : Thread Cert.SampleMixerRefIdeal.nD Cert.SampleMixerRefIdeal.τ).loc Cert.SampleMixerRefIdeal.main_arg5))
      ∧ r.2.sem = fun _ => 0)

def preserves_Attn_AttnIdeal : Prop :=
  IdealRules.named_const.Statement Cert.AttnIdeal.κ "mask" .f32 0xF149F2CA#32 ⊥
  ∧ IdealRules.named_const.Statement Cert.AttnIdeal.κ "scale" .f32 0x3D93CD3A#32 (((Real.sqrt 192)⁻¹ : ℝ) : EReal)

def algebraic_AttnIdeal_AttnRefIdeal_pre_finite_operands [hAttnIdeal : Cert.AttnIdeal.Facts] [hAttnRefIdeal : Cert.AttnRefIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_operands m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v34) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v28) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v10) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)
      ∧ m' ((c.tc : Thread Cert.MlaOutRefIdeal.nD Cert.MlaOutRefIdeal.τ).loc Cert.MlaOutRefIdeal.main_arg3) = m ((c.tc : Thread Cert.MlaOutIdeal.nD Cert.MlaOutIdeal.τ).loc Cert.MlaOutIdeal.main_arg3)
      ∧ m' ((c.tc : Thread Cert.MlaOutRefIdeal.nD Cert.MlaOutRefIdeal.τ).loc Cert.MlaOutRefIdeal.main_arg4) = m ((c.tc : Thread Cert.MlaOutIdeal.nD Cert.MlaOutIdeal.τ).loc Cert.MlaOutIdeal.main_arg4)) →
    ∃ (v0 : (c : Dev Cert.MlaOutIdeal.nD) → Buf (Elt Ideal) ((c.tc : Thread Cert.MlaOutIdeal.nD Cert.MlaOutIdeal.τ).loc Cert.MlaOutIdeal.main_v3)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v3) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
          ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v13) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2)
          ∧ r.2.mem ((c.tc : Thread Cert.MlaOutRefIdeal.nD Cert.MlaOutRefIdeal.τ).loc Cert.MlaOutRefIdeal.main_arg3) = m' ((c.tc : Thread Cert.MlaOutRefIdeal.nD Cert.MlaOutRefIdeal.τ).loc Cert.MlaOutRefIdeal.main_arg3)
          ∧ r.2.mem ((c.tc : Thread Cert.MlaOutRefIdeal.nD Cert.MlaOutRefIdeal.τ).loc Cert.MlaOutRefIdeal.main_arg4) = m' ((c.tc : Thread Cert.MlaOutRefIdeal.nD Cert.MlaOutRefIdeal.τ).loc Cert.MlaOutRefIdeal.main_arg4))

def preserves_Dqkv_DqkvIdeal : Prop :=
  True

def algebraic_DqkvIdeal_DqkvRefIdeal [hDqkvIdeal : Cert.DqkvIdeal.Facts] [hDqkvRefIdeal : Cert.DqkvRefIdeal.Facts] : Prop :=
  ∀ (m : (ℓ : Loc Cert.DqkvIdeal.nD Cert.DqkvIdeal.τ Cert.DqkvIdeal.sig) → Buf (Elt Ideal) ℓ) (g : Dev Cert.DqkvIdeal.nD → PrngReg)
    (m' : (ℓ : Loc Cert.DqkvRefIdeal.nD Cert.DqkvRefIdeal.τ Cert.DqkvRefIdeal.sig) → Buf (Elt Ideal) ℓ) (g' : Dev Cert.DqkvRefIdeal.nD → PrngReg), Pre_DqkvIdeal m →
    (∀ c : Dev Cert.DqkvIdeal.nD,
      m' ((c.tc : Thread Cert.DqkvRefIdeal.nD Cert.DqkvRefIdeal.τ).loc Cert.DqkvRefIdeal.main_arg0) = m ((c.tc : Thread Cert.DqkvIdeal.nD Cert.DqkvIdeal.τ).loc Cert.DqkvIdeal.main_arg0)
      ∧ m' ((c.tc : Thread Cert.DqkvRefIdeal.nD Cert.DqkvRefIdeal.τ).loc Cert.DqkvRefIdeal.main_arg1) = m ((c.tc : Thread Cert.DqkvIdeal.nD Cert.DqkvIdeal.τ).loc Cert.DqkvIdeal.main_arg1)
      ∧ m' ((c.tc : Thread Cert.DqkvRefIdeal.nD Cert.DqkvRefIdeal.τ).loc Cert.DqkvRefIdeal.main_arg2) = m ((c.tc : Thread Cert.DqkvIdeal.nD Cert.DqkvIdeal.τ).loc Cert.DqkvIdeal.main_arg2)
      ∧ m' ((c.tc : Thread Cert.DqkvRefIdeal.nD Cert.DqkvRefIdeal.τ).loc Cert.DqkvRefIdeal.main_arg3) = m ((c.tc : Thread Cert.DqkvIdeal.nD Cert.DqkvIdeal.τ).loc Cert.DqkvIdeal.main_arg3)
      ∧ m' ((c.tc : Thread Cert.DqkvRefIdeal.nD Cert.DqkvRefIdeal.τ).loc Cert.DqkvRefIdeal.main_arg4) = m ((c.tc : Thread Cert.DqkvIdeal.nD Cert.DqkvIdeal.τ).loc Cert.DqkvIdeal.main_arg4)
      ∧ m' ((c.tc : Thread Cert.DqkvRefIdeal.nD Cert.DqkvRefIdeal.τ).loc Cert.DqkvRefIdeal.main_arg5) = m ((c.tc : Thread Cert.DqkvIdeal.nD Cert.DqkvIdeal.τ).loc Cert.DqkvIdeal.main_arg5)
      ∧ m' ((c.tc : Thread Cert.DqkvRefIdeal.nD Cert.DqkvRefIdeal.τ).loc Cert.DqkvRefIdeal.main_arg6) = m ((c.tc : Thread Cert.DqkvIdeal.nD Cert.DqkvIdeal.τ).loc Cert.DqkvIdeal.main_arg6)
      ∧ m' ((c.tc : Thread Cert.DqkvRefIdeal.nD Cert.DqkvRefIdeal.τ).loc Cert.DqkvRefIdeal.main_arg7) = m ((c.tc : Thread Cert.DqkvIdeal.nD Cert.DqkvIdeal.τ).loc Cert.DqkvIdeal.main_arg7)) →
    ∃ (v0 : (c : Dev Cert.DqkvIdeal.nD) → Buf (Elt Ideal) ((c.tc : Thread Cert.DqkvIdeal.nD Cert.DqkvIdeal.τ).loc Cert.DqkvIdeal.main_v6_0)) (v1 : (c : Dev Cert.DqkvIdeal.nD) → Buf (Elt Ideal) ((c.tc : Thread Cert.DqkvIdeal.nD Cert.DqkvIdeal.τ).loc Cert.DqkvIdeal.main_v6_1)) (v2 : (c : Dev Cert.DqkvIdeal.nD) → Buf (Elt Ideal) ((c.tc : Thread Cert.DqkvIdeal.nD Cert.DqkvIdeal.τ).loc Cert.DqkvIdeal.main_v6_2)) (v3 : (c : Dev Cert.DqkvIdeal.nD) → Buf (Elt Ideal) ((c.tc : Thread Cert.DqkvIdeal.nD Cert.DqkvIdeal.τ).loc Cert.DqkvIdeal.main_v6_3)) (v4 : (c : Dev Cert.DqkvIdeal.nD) → Buf (Elt Ideal) ((c.tc : Thread Cert.DqkvIdeal.nD Cert.DqkvIdeal.τ).loc Cert.DqkvIdeal.main_v6_4)),
      θ_run (Cert.DqkvIdeal.defs (F := Ideal)) (onTc (τ := Cert.DqkvIdeal.τ) (Cert.DqkvIdeal.main (F := Ideal))) ⟨m, fun _ => 0, g⟩ (fun r => ∀ c : Dev Cert.DqkvIdeal.nD,
          r.2.mem ((c.tc : Thread Cert.DqkvIdeal.nD Cert.DqkvIdeal.τ).loc Cert.DqkvIdeal.main_v6_0) = v0 c
          ∧ r.2.mem ((c.tc : Thread Cert.DqkvIdeal.nD Cert.DqkvIdeal.τ).loc Cert.DqkvIdeal.main_v6_1) = v1 c
          ∧ r.2.mem ((c.tc : Thread Cert.DqkvIdeal.nD Cert.DqkvIdeal.τ).loc Cert.DqkvIdeal.main_v6_2) = v2 c
          ∧ r.2.mem ((c.tc : Thread Cert.DqkvIdeal.nD Cert.DqkvIdeal.τ).loc Cert.DqkvIdeal.main_v6_3) = v3 c
          ∧ r.2.mem ((c.tc : Thread Cert.DqkvIdeal.nD Cert.DqkvIdeal.τ).loc Cert.DqkvIdeal.main_v6_4) = v4 c
          ∧ r.2.mem ((c.tc : Thread Cert.DqkvIdeal.nD Cert.DqkvIdeal.τ).loc Cert.DqkvIdeal.main_arg0) = m ((c.tc : Thread Cert.DqkvIdeal.nD Cert.DqkvIdeal.τ).loc Cert.DqkvIdeal.main_arg0)
          ∧ r.2.mem ((c.tc : Thread Cert.DqkvIdeal.nD Cert.DqkvIdeal.τ).loc Cert.DqkvIdeal.main_arg1) = m ((c.tc : Thread Cert.DqkvIdeal.nD Cert.DqkvIdeal.τ).loc Cert.DqkvIdeal.main_arg1)
          ∧ r.2.mem ((c.tc : Thread Cert.DqkvIdeal.nD Cert.DqkvIdeal.τ).loc Cert.DqkvIdeal.main_arg2) = m ((c.tc : Thread Cert.DqkvIdeal.nD Cert.DqkvIdeal.τ).loc Cert.DqkvIdeal.main_arg2)
          ∧ r.2.mem ((c.tc : Thread Cert.DqkvIdeal.nD Cert.DqkvIdeal.τ).loc Cert.DqkvIdeal.main_arg3) = m ((c.tc : Thread Cert.DqkvIdeal.nD Cert.DqkvIdeal.τ).loc Cert.DqkvIdeal.main_arg3)
          ∧ r.2.mem ((c.tc : Thread Cert.DqkvIdeal.nD Cert.DqkvIdeal.τ).loc Cert.DqkvIdeal.main_arg4) = m ((c.tc : Thread Cert.DqkvIdeal.nD Cert.DqkvIdeal.τ).loc Cert.DqkvIdeal.main_arg4)
          ∧ r.2.mem ((c.tc : Thread Cert.DqkvIdeal.nD Cert.DqkvIdeal.τ).loc Cert.DqkvIdeal.main_arg5) = m ((c.tc : Thread Cert.DqkvIdeal.nD Cert.DqkvIdeal.τ).loc Cert.DqkvIdeal.main_arg5)
          ∧ r.2.mem ((c.tc : Thread Cert.DqkvIdeal.nD Cert.DqkvIdeal.τ).loc Cert.DqkvIdeal.main_arg6) = m ((c.tc : Thread Cert.DqkvIdeal.nD Cert.DqkvIdeal.τ).loc Cert.DqkvIdeal.main_arg6)
          ∧ r.2.mem ((c.tc : Thread Cert.DqkvIdeal.nD Cert.DqkvIdeal.τ).loc Cert.DqkvIdeal.main_arg7) = m ((c.tc : Thread Cert.DqkvIdeal.nD Cert.DqkvIdeal.τ).loc Cert.DqkvIdeal.main_arg7))
      ∧ θ_run (Cert.DqkvRefIdeal.defs (F := Ideal)) (onTc (τ := Cert.DqkvRefIdeal.τ) (Cert.DqkvRefIdeal.main (F := Ideal))) ⟨m', fun _ => 0, g'⟩ (fun r => ∀ c : Dev Cert.DqkvRefIdeal.nD,
          r.2.mem ((c.tc : Thread Cert.DqkvRefIdeal.nD Cert.DqkvRefIdeal.τ).loc Cert.DqkvRefIdeal.main_v79) = v0 c
          ∧ r.2.mem ((c.tc : Thread Cert.DqkvRefIdeal.nD Cert.DqkvRefIdeal.τ).loc Cert.DqkvRefIdeal.main_v59) = v1 c
          ∧ r.2.mem ((c.tc : Thread Cert.DqkvRefIdeal.nD Cert.DqkvRefIdeal.τ).loc Cert.DqkvRefIdeal.main_v78) = v2 c
          ∧ r.2.mem ((c.tc : Thread Cert.DqkvRefIdeal.nD Cert.DqkvRefIdeal.τ).loc Cert.DqkvRefIdeal.main_v80) = v3 c
          ∧ r.2.mem ((c.tc : Thread Cert.DqkvRefIdeal.nD Cert.DqkvRefIdeal.τ).loc Cert.DqkvRefIdeal.main_v81) = v4 c
          ∧ r.2.mem ((c.tc : Thread Cert.DqkvRefIdeal.nD Cert.DqkvRefIdeal.τ).loc Cert.DqkvRefIdeal.main_arg0) = m' ((c.tc : Thread Cert.DqkvRefIdeal.nD Cert.DqkvRefIdeal.τ).loc Cert.DqkvRefIdeal.main_arg0)
          ∧ r.2.mem ((c.tc : Thread Cert.DqkvRefIdeal.nD Cert.DqkvRefIdeal.τ).loc Cert.DqkvRefIdeal.main_arg1) = m' ((c.tc : Thread Cert.DqkvRefIdeal.nD Cert.DqkvRefIdeal.τ).loc Cert.DqkvRefIdeal.main_arg1)
          ∧ r.2.mem ((c.tc : Thread Cert.DqkvRefIdeal.nD Cert.DqkvRefIdeal.τ).loc Cert.DqkvRefIdeal.main_arg2) = m' ((c.tc : Thread Cert.DqkvRefIdeal.nD Cert.DqkvRefIdeal.τ).loc Cert.DqkvRefIdeal.main_arg2)
          ∧ r.2.mem ((c.tc : Thread Cert.DqkvRefIdeal.nD Cert.DqkvRefIdeal.τ).loc Cert.DqkvRefIdeal.main_arg3) = m' ((c.tc : Thread Cert.DqkvRefIdeal.nD Cert.DqkvRefIdeal.τ).loc Cert.DqkvRefIdeal.main_arg3)
          ∧ r.2.mem ((c.tc : Thread Cert.DqkvRefIdeal.nD Cert.DqkvRefIdeal.τ).loc Cert.DqkvRefIdeal.main_arg4) = m' ((c.tc : Thread Cert.DqkvRefIdeal.nD Cert.DqkvRefIdeal.τ).loc Cert.DqkvRefIdeal.main_arg4)
          ∧ r.2.mem ((c.tc : Thread Cert.DqkvRefIdeal.nD Cert.DqkvRefIdeal.τ).loc Cert.DqkvRefIdeal.main_arg5) = m' ((c.tc : Thread Cert.DqkvRefIdeal.nD Cert.DqkvRefIdeal.τ).loc Cert.DqkvRefIdeal.main_arg5)
          ∧ r.2.mem ((c.tc : Thread Cert.DqkvRefIdeal.nD Cert.DqkvRefIdeal.τ).loc Cert.DqkvRefIdeal.main_arg6) = m' ((c.tc : Thread Cert.DqkvRefIdeal.nD Cert.DqkvRefIdeal.τ).loc Cert.DqkvRefIdeal.main_arg6)
          ∧ r.2.mem ((c.tc : Thread Cert.DqkvRefIdeal.nD Cert.DqkvRefIdeal.τ).loc Cert.DqkvRefIdeal.main_arg7) = m' ((c.tc : Thread Cert.DqkvRefIdeal.nD Cert.DqkvRefIdeal.τ).loc Cert.DqkvRefIdeal.main_arg7))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)
      ∧ m' ((c.tc : Thread Cert.QProjRefIdeal.nD Cert.QProjRefIdeal.τ).loc Cert.QProjRefIdeal.main_arg4) = m ((c.tc : Thread Cert.QProjIdeal.nD Cert.QProjIdeal.τ).loc Cert.QProjIdeal.main_arg4)) →
    ∃ (v0 : (c : Dev Cert.QProjIdeal.nD) → Buf (Elt Ideal) ((c.tc : Thread Cert.QProjIdeal.nD Cert.QProjIdeal.τ).loc Cert.QProjIdeal.main_v13_0)) (v1 : (c : Dev Cert.QProjIdeal.nD) → Buf (Elt Ideal) ((c.tc : Thread Cert.QProjIdeal.nD Cert.QProjIdeal.τ).loc Cert.QProjIdeal.main_v13_1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v13_0) = v0 c
          ∧ r.2.mem ((c.tc : Thread Cert.QProjIdeal.nD Cert.QProjIdeal.τ).loc Cert.QProjIdeal.main_v13_1) = v1 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v24) = v0 c
          ∧ r.2.mem ((c.tc : Thread Cert.QProjRefIdeal.nD Cert.QProjRefIdeal.τ).loc Cert.QProjRefIdeal.main_v26) = v1 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3)
          ∧ r.2.mem ((c.tc : Thread Cert.QProjRefIdeal.nD Cert.QProjRefIdeal.τ).loc Cert.QProjRefIdeal.main_arg4) = m' ((c.tc : Thread Cert.QProjRefIdeal.nD Cert.QProjRefIdeal.τ).loc Cert.QProjRefIdeal.main_arg4))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v0)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v0) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v50) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_DqkvSample_DqkvSampleIdeal : Prop :=
  True

def algebraic_DqkvSampleIdeal_DqkvSampleRefIdeal [hDqkvSampleIdeal : Cert.DqkvSampleIdeal.Facts] [hDqkvSampleRefIdeal : Cert.DqkvSampleRefIdeal.Facts] : Prop :=
  ∀ (m : (ℓ : Loc Cert.DqkvSampleIdeal.nD Cert.DqkvSampleIdeal.τ Cert.DqkvSampleIdeal.sig) → Buf (Elt Ideal) ℓ) (g : Dev Cert.DqkvSampleIdeal.nD → PrngReg)
    (m' : (ℓ : Loc Cert.DqkvSampleRefIdeal.nD Cert.DqkvSampleRefIdeal.τ Cert.DqkvSampleRefIdeal.sig) → Buf (Elt Ideal) ℓ) (g' : Dev Cert.DqkvSampleRefIdeal.nD → PrngReg), Pre_DqkvSampleIdeal m →
    (∀ c : Dev Cert.DqkvSampleIdeal.nD,
      m' ((c.tc : Thread Cert.DqkvSampleRefIdeal.nD Cert.DqkvSampleRefIdeal.τ).loc Cert.DqkvSampleRefIdeal.main_arg0) = m ((c.tc : Thread Cert.DqkvSampleIdeal.nD Cert.DqkvSampleIdeal.τ).loc Cert.DqkvSampleIdeal.main_arg0)
      ∧ m' ((c.tc : Thread Cert.DqkvSampleRefIdeal.nD Cert.DqkvSampleRefIdeal.τ).loc Cert.DqkvSampleRefIdeal.main_arg1) = m ((c.tc : Thread Cert.DqkvSampleIdeal.nD Cert.DqkvSampleIdeal.τ).loc Cert.DqkvSampleIdeal.main_arg1)
      ∧ m' ((c.tc : Thread Cert.DqkvSampleRefIdeal.nD Cert.DqkvSampleRefIdeal.τ).loc Cert.DqkvSampleRefIdeal.main_arg2) = m ((c.tc : Thread Cert.DqkvSampleIdeal.nD Cert.DqkvSampleIdeal.τ).loc Cert.DqkvSampleIdeal.main_arg2)
      ∧ m' ((c.tc : Thread Cert.DqkvSampleRefIdeal.nD Cert.DqkvSampleRefIdeal.τ).loc Cert.DqkvSampleRefIdeal.main_arg3) = m ((c.tc : Thread Cert.DqkvSampleIdeal.nD Cert.DqkvSampleIdeal.τ).loc Cert.DqkvSampleIdeal.main_arg3)
      ∧ m' ((c.tc : Thread Cert.DqkvSampleRefIdeal.nD Cert.DqkvSampleRefIdeal.τ).loc Cert.DqkvSampleRefIdeal.main_arg4) = m ((c.tc : Thread Cert.DqkvSampleIdeal.nD Cert.DqkvSampleIdeal.τ).loc Cert.DqkvSampleIdeal.main_arg4)
      ∧ m' ((c.tc : Thread Cert.DqkvSampleRefIdeal.nD Cert.DqkvSampleRefIdeal.τ).loc Cert.DqkvSampleRefIdeal.main_arg5) = m ((c.tc : Thread Cert.DqkvSampleIdeal.nD Cert.DqkvSampleIdeal.τ).loc Cert.DqkvSampleIdeal.main_arg5)
      ∧ m' ((c.tc : Thread Cert.DqkvSampleRefIdeal.nD Cert.DqkvSampleRefIdeal.τ).loc Cert.DqkvSampleRefIdeal.main_arg6) = m ((c.tc : Thread Cert.DqkvSampleIdeal.nD Cert.DqkvSampleIdeal.τ).loc Cert.DqkvSampleIdeal.main_arg6)
      ∧ m' ((c.tc : Thread Cert.DqkvSampleRefIdeal.nD Cert.DqkvSampleRefIdeal.τ).loc Cert.DqkvSampleRefIdeal.main_arg7) = m ((c.tc : Thread Cert.DqkvSampleIdeal.nD Cert.DqkvSampleIdeal.τ).loc Cert.DqkvSampleIdeal.main_arg7)) →
    ∃ (v0 : (c : Dev Cert.DqkvSampleIdeal.nD) → Buf (Elt Ideal) ((c.tc : Thread Cert.DqkvSampleIdeal.nD Cert.DqkvSampleIdeal.τ).loc Cert.DqkvSampleIdeal.main_v8_0)) (v1 : (c : Dev Cert.DqkvSampleIdeal.nD) → Buf (Elt Ideal) ((c.tc : Thread Cert.DqkvSampleIdeal.nD Cert.DqkvSampleIdeal.τ).loc Cert.DqkvSampleIdeal.main_v8_1)) (v2 : (c : Dev Cert.DqkvSampleIdeal.nD) → Buf (Elt Ideal) ((c.tc : Thread Cert.DqkvSampleIdeal.nD Cert.DqkvSampleIdeal.τ).loc Cert.DqkvSampleIdeal.main_v8_2)) (v3 : (c : Dev Cert.DqkvSampleIdeal.nD) → Buf (Elt Ideal) ((c.tc : Thread Cert.DqkvSampleIdeal.nD Cert.DqkvSampleIdeal.τ).loc Cert.DqkvSampleIdeal.main_v8_3)) (v4 : (c : Dev Cert.DqkvSampleIdeal.nD) → Buf (Elt Ideal) ((c.tc : Thread Cert.DqkvSampleIdeal.nD Cert.DqkvSampleIdeal.τ).loc Cert.DqkvSampleIdeal.main_v8_4)),
      θ_run (Cert.DqkvSampleIdeal.defs (F := Ideal)) (onTc (τ := Cert.DqkvSampleIdeal.τ) (Cert.DqkvSampleIdeal.main (F := Ideal))) ⟨m, fun _ => 0, g⟩ (fun r => ∀ c : Dev Cert.DqkvSampleIdeal.nD,
          r.2.mem ((c.tc : Thread Cert.DqkvSampleIdeal.nD Cert.DqkvSampleIdeal.τ).loc Cert.DqkvSampleIdeal.main_v8_0) = v0 c
          ∧ r.2.mem ((c.tc : Thread Cert.DqkvSampleIdeal.nD Cert.DqkvSampleIdeal.τ).loc Cert.DqkvSampleIdeal.main_v8_1) = v1 c
          ∧ r.2.mem ((c.tc : Thread Cert.DqkvSampleIdeal.nD Cert.DqkvSampleIdeal.τ).loc Cert.DqkvSampleIdeal.main_v8_2) = v2 c
          ∧ r.2.mem ((c.tc : Thread Cert.DqkvSampleIdeal.nD Cert.DqkvSampleIdeal.τ).loc Cert.DqkvSampleIdeal.main_v8_3) = v3 c
          ∧ r.2.mem ((c.tc : Thread Cert.DqkvSampleIdeal.nD Cert.DqkvSampleIdeal.τ).loc Cert.DqkvSampleIdeal.main_v8_4) = v4 c
          ∧ r.2.mem ((c.tc : Thread Cert.DqkvSampleIdeal.nD Cert.DqkvSampleIdeal.τ).loc Cert.DqkvSampleIdeal.main_arg0) = m ((c.tc : Thread Cert.DqkvSampleIdeal.nD Cert.DqkvSampleIdeal.τ).loc Cert.DqkvSampleIdeal.main_arg0)
          ∧ r.2.mem ((c.tc : Thread Cert.DqkvSampleIdeal.nD Cert.DqkvSampleIdeal.τ).loc Cert.DqkvSampleIdeal.main_arg1) = m ((c.tc : Thread Cert.DqkvSampleIdeal.nD Cert.DqkvSampleIdeal.τ).loc Cert.DqkvSampleIdeal.main_arg1)
          ∧ r.2.mem ((c.tc : Thread Cert.DqkvSampleIdeal.nD Cert.DqkvSampleIdeal.τ).loc Cert.DqkvSampleIdeal.main_arg2) = m ((c.tc : Thread Cert.DqkvSampleIdeal.nD Cert.DqkvSampleIdeal.τ).loc Cert.DqkvSampleIdeal.main_arg2)
          ∧ r.2.mem ((c.tc : Thread Cert.DqkvSampleIdeal.nD Cert.DqkvSampleIdeal.τ).loc Cert.DqkvSampleIdeal.main_arg3) = m ((c.tc : Thread Cert.DqkvSampleIdeal.nD Cert.DqkvSampleIdeal.τ).loc Cert.DqkvSampleIdeal.main_arg3)
          ∧ r.2.mem ((c.tc : Thread Cert.DqkvSampleIdeal.nD Cert.DqkvSampleIdeal.τ).loc Cert.DqkvSampleIdeal.main_arg4) = m ((c.tc : Thread Cert.DqkvSampleIdeal.nD Cert.DqkvSampleIdeal.τ).loc Cert.DqkvSampleIdeal.main_arg4)
          ∧ r.2.mem ((c.tc : Thread Cert.DqkvSampleIdeal.nD Cert.DqkvSampleIdeal.τ).loc Cert.DqkvSampleIdeal.main_arg5) = m ((c.tc : Thread Cert.DqkvSampleIdeal.nD Cert.DqkvSampleIdeal.τ).loc Cert.DqkvSampleIdeal.main_arg5)
          ∧ r.2.mem ((c.tc : Thread Cert.DqkvSampleIdeal.nD Cert.DqkvSampleIdeal.τ).loc Cert.DqkvSampleIdeal.main_arg6) = m ((c.tc : Thread Cert.DqkvSampleIdeal.nD Cert.DqkvSampleIdeal.τ).loc Cert.DqkvSampleIdeal.main_arg6)
          ∧ r.2.mem ((c.tc : Thread Cert.DqkvSampleIdeal.nD Cert.DqkvSampleIdeal.τ).loc Cert.DqkvSampleIdeal.main_arg7) = m ((c.tc : Thread Cert.DqkvSampleIdeal.nD Cert.DqkvSampleIdeal.τ).loc Cert.DqkvSampleIdeal.main_arg7))
      ∧ θ_run (Cert.DqkvSampleRefIdeal.defs (F := Ideal)) (onTc (τ := Cert.DqkvSampleRefIdeal.τ) (Cert.DqkvSampleRefIdeal.main (F := Ideal))) ⟨m', fun _ => 0, g'⟩ (fun r => ∀ c : Dev Cert.DqkvSampleRefIdeal.nD,
          r.2.mem ((c.tc : Thread Cert.DqkvSampleRefIdeal.nD Cert.DqkvSampleRefIdeal.τ).loc Cert.DqkvSampleRefIdeal.main_v73) = v0 c
          ∧ r.2.mem ((c.tc : Thread Cert.DqkvSampleRefIdeal.nD Cert.DqkvSampleRefIdeal.τ).loc Cert.DqkvSampleRefIdeal.main_v54) = v1 c
          ∧ r.2.mem ((c.tc : Thread Cert.DqkvSampleRefIdeal.nD Cert.DqkvSampleRefIdeal.τ).loc Cert.DqkvSampleRefIdeal.main_v72) = v2 c
          ∧ r.2.mem ((c.tc : Thread Cert.DqkvSampleRefIdeal.nD Cert.DqkvSampleRefIdeal.τ).loc Cert.DqkvSampleRefIdeal.main_v74) = v3 c
          ∧ r.2.mem ((c.tc : Thread Cert.DqkvSampleRefIdeal.nD Cert.DqkvSampleRefIdeal.τ).loc Cert.DqkvSampleRefIdeal.main_v75) = v4 c
          ∧ r.2.mem ((c.tc : Thread Cert.DqkvSampleRefIdeal.nD Cert.DqkvSampleRefIdeal.τ).loc Cert.DqkvSampleRefIdeal.main_arg0) = m' ((c.tc : Thread Cert.DqkvSampleRefIdeal.nD Cert.DqkvSampleRefIdeal.τ).loc Cert.DqkvSampleRefIdeal.main_arg0)
          ∧ r.2.mem ((c.tc : Thread Cert.DqkvSampleRefIdeal.nD Cert.DqkvSampleRefIdeal.τ).loc Cert.DqkvSampleRefIdeal.main_arg1) = m' ((c.tc : Thread Cert.DqkvSampleRefIdeal.nD Cert.DqkvSampleRefIdeal.τ).loc Cert.DqkvSampleRefIdeal.main_arg1)
          ∧ r.2.mem ((c.tc : Thread Cert.DqkvSampleRefIdeal.nD Cert.DqkvSampleRefIdeal.τ).loc Cert.DqkvSampleRefIdeal.main_arg2) = m' ((c.tc : Thread Cert.DqkvSampleRefIdeal.nD Cert.DqkvSampleRefIdeal.τ).loc Cert.DqkvSampleRefIdeal.main_arg2)
          ∧ r.2.mem ((c.tc : Thread Cert.DqkvSampleRefIdeal.nD Cert.DqkvSampleRefIdeal.τ).loc Cert.DqkvSampleRefIdeal.main_arg3) = m' ((c.tc : Thread Cert.DqkvSampleRefIdeal.nD Cert.DqkvSampleRefIdeal.τ).loc Cert.DqkvSampleRefIdeal.main_arg3)
          ∧ r.2.mem ((c.tc : Thread Cert.DqkvSampleRefIdeal.nD Cert.DqkvSampleRefIdeal.τ).loc Cert.DqkvSampleRefIdeal.main_arg4) = m' ((c.tc : Thread Cert.DqkvSampleRefIdeal.nD Cert.DqkvSampleRefIdeal.τ).loc Cert.DqkvSampleRefIdeal.main_arg4)
          ∧ r.2.mem ((c.tc : Thread Cert.DqkvSampleRefIdeal.nD Cert.DqkvSampleRefIdeal.τ).loc Cert.DqkvSampleRefIdeal.main_arg5) = m' ((c.tc : Thread Cert.DqkvSampleRefIdeal.nD Cert.DqkvSampleRefIdeal.τ).loc Cert.DqkvSampleRefIdeal.main_arg5)
          ∧ r.2.mem ((c.tc : Thread Cert.DqkvSampleRefIdeal.nD Cert.DqkvSampleRefIdeal.τ).loc Cert.DqkvSampleRefIdeal.main_arg6) = m' ((c.tc : Thread Cert.DqkvSampleRefIdeal.nD Cert.DqkvSampleRefIdeal.τ).loc Cert.DqkvSampleRefIdeal.main_arg6)
          ∧ r.2.mem ((c.tc : Thread Cert.DqkvSampleRefIdeal.nD Cert.DqkvSampleRefIdeal.τ).loc Cert.DqkvSampleRefIdeal.main_arg7) = m' ((c.tc : Thread Cert.DqkvSampleRefIdeal.nD Cert.DqkvSampleRefIdeal.τ).loc Cert.DqkvSampleRefIdeal.main_arg7))

def preserves_SampleMixer_SampleMixerIdeal : Prop :=
  True

def algebraic_SampleMixerIdeal_SampleMixerRefIdeal [hSampleMixerIdeal : Cert.SampleMixerIdeal.Facts] [hSampleMixerRefIdeal : Cert.SampleMixerRefIdeal.Facts] : Prop :=
  ∀ (m : (ℓ : Loc Cert.SampleMixerIdeal.nD Cert.SampleMixerIdeal.τ Cert.SampleMixerIdeal.sig) → Buf (Elt Ideal) ℓ) (g : Dev Cert.SampleMixerIdeal.nD → PrngReg)
    (m' : (ℓ : Loc Cert.SampleMixerRefIdeal.nD Cert.SampleMixerRefIdeal.τ Cert.SampleMixerRefIdeal.sig) → Buf (Elt Ideal) ℓ) (g' : Dev Cert.SampleMixerRefIdeal.nD → PrngReg), Pre_SampleMixerIdeal m →
    (∀ c : Dev Cert.SampleMixerIdeal.nD,
      m' ((c.tc : Thread Cert.SampleMixerRefIdeal.nD Cert.SampleMixerRefIdeal.τ).loc Cert.SampleMixerRefIdeal.main_arg0) = m ((c.tc : Thread Cert.SampleMixerIdeal.nD Cert.SampleMixerIdeal.τ).loc Cert.SampleMixerIdeal.main_arg0)
      ∧ m' ((c.tc : Thread Cert.SampleMixerRefIdeal.nD Cert.SampleMixerRefIdeal.τ).loc Cert.SampleMixerRefIdeal.main_arg1) = m ((c.tc : Thread Cert.SampleMixerIdeal.nD Cert.SampleMixerIdeal.τ).loc Cert.SampleMixerIdeal.main_arg1)
      ∧ m' ((c.tc : Thread Cert.SampleMixerRefIdeal.nD Cert.SampleMixerRefIdeal.τ).loc Cert.SampleMixerRefIdeal.main_arg2) = m ((c.tc : Thread Cert.SampleMixerIdeal.nD Cert.SampleMixerIdeal.τ).loc Cert.SampleMixerIdeal.main_arg2)
      ∧ m' ((c.tc : Thread Cert.SampleMixerRefIdeal.nD Cert.SampleMixerRefIdeal.τ).loc Cert.SampleMixerRefIdeal.main_arg3) = m ((c.tc : Thread Cert.SampleMixerIdeal.nD Cert.SampleMixerIdeal.τ).loc Cert.SampleMixerIdeal.main_arg3)
      ∧ m' ((c.tc : Thread Cert.SampleMixerRefIdeal.nD Cert.SampleMixerRefIdeal.τ).loc Cert.SampleMixerRefIdeal.main_arg4) = m ((c.tc : Thread Cert.SampleMixerIdeal.nD Cert.SampleMixerIdeal.τ).loc Cert.SampleMixerIdeal.main_arg4)
      ∧ m' ((c.tc : Thread Cert.SampleMixerRefIdeal.nD Cert.SampleMixerRefIdeal.τ).loc Cert.SampleMixerRefIdeal.main_arg5) = m ((c.tc : Thread Cert.SampleMixerIdeal.nD Cert.SampleMixerIdeal.τ).loc Cert.SampleMixerIdeal.main_arg5)) →
    ∃ (v0 : (c : Dev Cert.SampleMixerIdeal.nD) → Buf (Elt Ideal) ((c.tc : Thread Cert.SampleMixerIdeal.nD Cert.SampleMixerIdeal.τ).loc Cert.SampleMixerIdeal.main_v0_0)) (v1 : (c : Dev Cert.SampleMixerIdeal.nD) → Buf (Elt Ideal) ((c.tc : Thread Cert.SampleMixerIdeal.nD Cert.SampleMixerIdeal.τ).loc Cert.SampleMixerIdeal.main_v0_1)) (v2 : (c : Dev Cert.SampleMixerIdeal.nD) → Buf (Elt Ideal) ((c.tc : Thread Cert.SampleMixerIdeal.nD Cert.SampleMixerIdeal.τ).loc Cert.SampleMixerIdeal.main_v0_2)),
      θ_run (Cert.SampleMixerIdeal.defs (F := Ideal)) (onTc (τ := Cert.SampleMixerIdeal.τ) (Cert.SampleMixerIdeal.main (F := Ideal))) ⟨m, fun _ => 0, g⟩ (fun r => ∀ c : Dev Cert.SampleMixerIdeal.nD,
          r.2.mem ((c.tc : Thread Cert.SampleMixerIdeal.nD Cert.SampleMixerIdeal.τ).loc Cert.SampleMixerIdeal.main_v0_0) = v0 c
          ∧ r.2.mem ((c.tc : Thread Cert.SampleMixerIdeal.nD Cert.SampleMixerIdeal.τ).loc Cert.SampleMixerIdeal.main_v0_1) = v1 c
          ∧ r.2.mem ((c.tc : Thread Cert.SampleMixerIdeal.nD Cert.SampleMixerIdeal.τ).loc Cert.SampleMixerIdeal.main_v0_2) = v2 c
          ∧ r.2.mem ((c.tc : Thread Cert.SampleMixerIdeal.nD Cert.SampleMixerIdeal.τ).loc Cert.SampleMixerIdeal.main_arg0) = m ((c.tc : Thread Cert.SampleMixerIdeal.nD Cert.SampleMixerIdeal.τ).loc Cert.SampleMixerIdeal.main_arg0)
          ∧ r.2.mem ((c.tc : Thread Cert.SampleMixerIdeal.nD Cert.SampleMixerIdeal.τ).loc Cert.SampleMixerIdeal.main_arg1) = m ((c.tc : Thread Cert.SampleMixerIdeal.nD Cert.SampleMixerIdeal.τ).loc Cert.SampleMixerIdeal.main_arg1)
          ∧ r.2.mem ((c.tc : Thread Cert.SampleMixerIdeal.nD Cert.SampleMixerIdeal.τ).loc Cert.SampleMixerIdeal.main_arg2) = m ((c.tc : Thread Cert.SampleMixerIdeal.nD Cert.SampleMixerIdeal.τ).loc Cert.SampleMixerIdeal.main_arg2)
          ∧ r.2.mem ((c.tc : Thread Cert.SampleMixerIdeal.nD Cert.SampleMixerIdeal.τ).loc Cert.SampleMixerIdeal.main_arg3) = m ((c.tc : Thread Cert.SampleMixerIdeal.nD Cert.SampleMixerIdeal.τ).loc Cert.SampleMixerIdeal.main_arg3)
          ∧ r.2.mem ((c.tc : Thread Cert.SampleMixerIdeal.nD Cert.SampleMixerIdeal.τ).loc Cert.SampleMixerIdeal.main_arg4) = m ((c.tc : Thread Cert.SampleMixerIdeal.nD Cert.SampleMixerIdeal.τ).loc Cert.SampleMixerIdeal.main_arg4)
          ∧ r.2.mem ((c.tc : Thread Cert.SampleMixerIdeal.nD Cert.SampleMixerIdeal.τ).loc Cert.SampleMixerIdeal.main_arg5) = m ((c.tc : Thread Cert.SampleMixerIdeal.nD Cert.SampleMixerIdeal.τ).loc Cert.SampleMixerIdeal.main_arg5))
      ∧ θ_run (Cert.SampleMixerRefIdeal.defs (F := Ideal)) (onTc (τ := Cert.SampleMixerRefIdeal.τ) (Cert.SampleMixerRefIdeal.main (F := Ideal))) ⟨m', fun _ => 0, g'⟩ (fun r => ∀ c : Dev Cert.SampleMixerRefIdeal.nD,
          r.2.mem ((c.tc : Thread Cert.SampleMixerRefIdeal.nD Cert.SampleMixerRefIdeal.τ).loc Cert.SampleMixerRefIdeal.main_v117) = v0 c
          ∧ r.2.mem ((c.tc : Thread Cert.SampleMixerRefIdeal.nD Cert.SampleMixerRefIdeal.τ).loc Cert.SampleMixerRefIdeal.main_v82) = v1 c
          ∧ r.2.mem ((c.tc : Thread Cert.SampleMixerRefIdeal.nD Cert.SampleMixerRefIdeal.τ).loc Cert.SampleMixerRefIdeal.main_v98) = v2 c
          ∧ r.2.mem ((c.tc : Thread Cert.SampleMixerRefIdeal.nD Cert.SampleMixerRefIdeal.τ).loc Cert.SampleMixerRefIdeal.main_arg0) = m' ((c.tc : Thread Cert.SampleMixerRefIdeal.nD Cert.SampleMixerRefIdeal.τ).loc Cert.SampleMixerRefIdeal.main_arg0)
          ∧ r.2.mem ((c.tc : Thread Cert.SampleMixerRefIdeal.nD Cert.SampleMixerRefIdeal.τ).loc Cert.SampleMixerRefIdeal.main_arg1) = m' ((c.tc : Thread Cert.SampleMixerRefIdeal.nD Cert.SampleMixerRefIdeal.τ).loc Cert.SampleMixerRefIdeal.main_arg1)
          ∧ r.2.mem ((c.tc : Thread Cert.SampleMixerRefIdeal.nD Cert.SampleMixerRefIdeal.τ).loc Cert.SampleMixerRefIdeal.main_arg2) = m' ((c.tc : Thread Cert.SampleMixerRefIdeal.nD Cert.SampleMixerRefIdeal.τ).loc Cert.SampleMixerRefIdeal.main_arg2)
          ∧ r.2.mem ((c.tc : Thread Cert.SampleMixerRefIdeal.nD Cert.SampleMixerRefIdeal.τ).loc Cert.SampleMixerRefIdeal.main_arg3) = m' ((c.tc : Thread Cert.SampleMixerRefIdeal.nD Cert.SampleMixerRefIdeal.τ).loc Cert.SampleMixerRefIdeal.main_arg3)
          ∧ r.2.mem ((c.tc : Thread Cert.SampleMixerRefIdeal.nD Cert.SampleMixerRefIdeal.τ).loc Cert.SampleMixerRefIdeal.main_arg4) = m' ((c.tc : Thread Cert.SampleMixerRefIdeal.nD Cert.SampleMixerRefIdeal.τ).loc Cert.SampleMixerRefIdeal.main_arg4)
          ∧ r.2.mem ((c.tc : Thread Cert.SampleMixerRefIdeal.nD Cert.SampleMixerRefIdeal.τ).loc Cert.SampleMixerRefIdeal.main_arg5) = m' ((c.tc : Thread Cert.SampleMixerRefIdeal.nD Cert.SampleMixerRefIdeal.τ).loc Cert.SampleMixerRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlaOut : Cert.MlaOut.Facts) (hMlaOutIdeal : Cert.MlaOutIdeal.Facts) (hMlaOutRefIdeal : Cert.MlaOutRefIdeal.Facts) (hDqkv : Cert.Dqkv.Facts) (hDqkvIdeal : Cert.DqkvIdeal.Facts) (hDqkvRefIdeal : Cert.DqkvRefIdeal.Facts) (hQProj : Cert.QProj.Facts) (hQProjIdeal : Cert.QProjIdeal.Facts) (hQProjRefIdeal : Cert.QProjRefIdeal.Facts) (hFfnSample : Cert.FfnSample.Facts) (hFfnSampleIdeal : Cert.FfnSampleIdeal.Facts) (hFfnSampleRefIdeal : Cert.FfnSampleRefIdeal.Facts) (hDqkvSample : Cert.DqkvSample.Facts) (hDqkvSampleIdeal : Cert.DqkvSampleIdeal.Facts) (hDqkvSampleRefIdeal : Cert.DqkvSampleRefIdeal.Facts) (hSampleMixer : Cert.SampleMixer.Facts) (hSampleMixerIdeal : Cert.SampleMixerIdeal.Facts) (hSampleMixerRefIdeal : Cert.SampleMixerRefIdeal.Facts) (hPre_finite_operands : Cert.Pre_finite_operands.Facts),
    quiescent_Attn (hAttn := hAttn)
    ∧ quiescent_AttnIdeal (hAttnIdeal := hAttnIdeal)
    ∧ quiescent_AttnIdeal_pre_finite_operands (hAttnIdeal := hAttnIdeal) (hPre_finite_operands := hPre_finite_operands)
    ∧ quiescent_AttnRefIdeal (hAttnRefIdeal := hAttnRefIdeal)
    ∧ quiescent_AttnRefIdeal_pre_finite_operands (hAttnRefIdeal := hAttnRefIdeal) (hPre_finite_operands := hPre_finite_operands)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_Dqkv (hDqkv := hDqkv)
    ∧ quiescent_DqkvIdeal (hDqkvIdeal := hDqkvIdeal)
    ∧ quiescent_DqkvRefIdeal (hDqkvRefIdeal := hDqkvRefIdeal)
    ∧ quiescent_QProj (hQProj := hQProj)
    ∧ quiescent_QProjIdeal (hQProjIdeal := hQProjIdeal)
    ∧ quiescent_QProjRefIdeal (hQProjRefIdeal := hQProjRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_DqkvSample (hDqkvSample := hDqkvSample)
    ∧ quiescent_DqkvSampleIdeal (hDqkvSampleIdeal := hDqkvSampleIdeal)
    ∧ quiescent_DqkvSampleRefIdeal (hDqkvSampleRefIdeal := hDqkvSampleRefIdeal)
    ∧ quiescent_SampleMixer (hSampleMixer := hSampleMixer)
    ∧ quiescent_SampleMixerIdeal (hSampleMixerIdeal := hSampleMixerIdeal)
    ∧ quiescent_SampleMixerRefIdeal (hSampleMixerRefIdeal := hSampleMixerRefIdeal)
    ∧ preserves_Attn_AttnIdeal
    ∧ algebraic_AttnIdeal_AttnRefIdeal_pre_finite_operands (hAttnIdeal := hAttnIdeal) (hAttnRefIdeal := hAttnRefIdeal) (hPre_finite_operands := hPre_finite_operands)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MlaOut_MlaOutIdeal
    ∧ algebraic_MlaOutIdeal_MlaOutRefIdeal (hMlaOutIdeal := hMlaOutIdeal) (hMlaOutRefIdeal := hMlaOutRefIdeal)
    ∧ preserves_Dqkv_DqkvIdeal
    ∧ algebraic_DqkvIdeal_DqkvRefIdeal (hDqkvIdeal := hDqkvIdeal) (hDqkvRefIdeal := hDqkvRefIdeal)
    ∧ preserves_QProj_QProjIdeal
    ∧ algebraic_QProjIdeal_QProjRefIdeal (hQProjIdeal := hQProjIdeal) (hQProjRefIdeal := hQProjRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_DqkvSample_DqkvSampleIdeal
    ∧ algebraic_DqkvSampleIdeal_DqkvSampleRefIdeal (hDqkvSampleIdeal := hDqkvSampleIdeal) (hDqkvSampleRefIdeal := hDqkvSampleRefIdeal)
    ∧ preserves_SampleMixer_SampleMixerIdeal
    ∧ algebraic_SampleMixerIdeal_SampleMixerRefIdeal (hSampleMixerIdeal := hSampleMixerIdeal) (hSampleMixerRefIdeal := hSampleMixerRefIdeal)
-- ==== Pre_finite_operands.lean ====
abbrev S8x8x2048x256 : Shape := ⟨4, ![8, 8, 2048, 256]⟩
abbrev S8x8x2048x64 : Shape := ⟨4, ![8, 8, 2048, 64]⟩
abbrev S16384x256 : Shape := ⟨2, ![16384, 256]⟩
abbrev S16384x64 : Shape := ⟨2, ![16384, 64]⟩
abbrev S_ : Shape := ⟨0, ![]⟩

class Facts : Prop where
  bitsLt_bf16_f32 : FTy.bits .bf16 < FTy.bits .f32
  bcast_S_S8x8x2048x256 : S_.BroadcastsInDim S8x8x2048x256 (![] : Fin 0 → Fin S8x8x2048x256.rank)
  reducesTo_S8x8x2048x256_S_d0_1_2_3 : S8x8x2048x256.ReducesTo [0, 1, 2, 3] S_
  h_S_ : 0 < S_.numel
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  bcast_S_S16384x256 : S_.BroadcastsInDim S16384x256 (![] : Fin 0 → Fin S16384x256.rank)
  reducesTo_S16384x256_S_d0_1 : S16384x256.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_v16 : IVec S_ 1) (main_v17 : FVec F S16384x64 .f32) : IVec S_ 1 :=
  let main_v18 : FVec F S16384x64 .f32 := Host.absf main_v17
  let main_cst_4 : FVec F S_ .f32 := constant S_ .f32 0x7F800000#32
  let main_v19 : FVec F S16384x64 .f32 := broadcastInDim S16384x64 ![] bcast_S_S16384x64 main_cst_4
  let main_v20 : IVec S16384x64 1 := cmpf .olt main_v18 main_v19
  let main_c_5 : IVec S_ 1 := constantI S_ 1 1#1
  let main_v21 : IVec S_ 1 := (fun x v => Host.reduce IntOp.andi x v reducesTo_S16384x64_S_d0_1 h_S_) main_v20 main_c_5
  let main_v22 : IVec S_ 1 := andi main_v16 main_v21
  main_v22

def fn {F : FTy → Type} [FloatOps F] (main_arg0 : FVec F S8x8x2048x256 .bf16) (main_arg1 : FVec F S8x8x2048x64 .bf16) (main_arg2 : FVec F S16384x256 .bf16) (main_arg3 : FVec F S16384x64 .bf16) : IVec S_ 1 :=
  let main_v0 : FVec F S8x8x2048x256 .f32 := (extf .f32 · bitsLt_bf16_f32) main_arg0
  let main_v1 : FVec F S8x8x2048x256 .f32 := Host.absf main_v0
  let main_cst : FVec F S_ .f32 := constant S_ .f32 0x7F800000#32
  let main_v2 : FVec F S8x8x2048x256 .f32 := broadcastInDim S8x8x2048x256 ![] bcast_S_S8x8x2048x256 main_cst
  let main_v3 : IVec S8x8x2048x256 1 := cmpf .olt main_v1 main_v2
  let main_c : IVec S_ 1 := constantI S_ 1 1#1
  let main_v4 : IVec S_ 1 := (fun x v => Host.reduce IntOp.andi x v reducesTo_S8x8x2048x256_S_d0_1_2_3 h_S_) main_v3 main_c
  let main_v5 : FVec F S8x8x2048x64 .f32 := (extf .f32 · bitsLt_bf16_f32) main_arg1
  let main_v6 : FVec F S8x8x2048x64 .f32 := Host.absf main_v5
  let main_cst_0 : FVec F S_ .f32 := constant S_ .f32 0x7F800000#32
  let main_v7 : FVec F S8x8x2048x64 .f32 := broadcastInDim S8x8x2048x64 ![] bcast_S_S8x8x2048x64 main_cst_0
  let main_v8 : IVec S8x8x2048x64 1 := cmpf .olt main_v6 main_v7
  let main_c_1 : IVec S_ 1 := constantI S_ 1 1#1
  let main_v9 : IVec S_ 1 := (fun x v => Host.reduce IntOp.andi x v reducesTo_S8x8x2048x64_S_d0_1_2_3 h_S_) main_v8 main_c_1
  let main_v10 : IVec S_ 1 := andi main_v4 main_v9
  let main_v11 : FVec F S16384x256 .f32 := (extf .f32 · bitsLt_bf16_f32) main_arg2
  let main_v12 : FVec F S16384x256 .f32 := Host.absf main_v11
  let main_cst_2 : FVec F S_ .f32 := constant S_ .f32 0x7F800000#32
  let main_v13 : FVec F S16384x256 .f32 := broadcastInDim S16384x256 ![] bcast_S_S16384x256 main_cst_2
  let main_v14 : IVec S16384x256 1 := cmpf .olt main_v12 main_v13
  let main_c_3 : IVec S_ 1 := constantI S_ 1 1#1
  let main_v15 : IVec S_ 1 := (fun x v => Host.reduce IntOp.andi x v reducesTo_S16384x256_S_d0_1 h_S_) main_v14 main_c_3
  let main_v16 : IVec S_ 1 := andi main_v10 main_v15
  let main_v17 : FVec F S16384x64 .f32 := (extf .f32 · bitsLt_bf16_f32) main_arg3
  fn_part1 (F := F) main_v16 main_v17
-- ==== Attn.lean ====
abbrev S8x8x2048x256 : Shape := ⟨4, ![8, 8, 2048, 256]⟩
abbrev S8x8x2048x64 : Shape := ⟨4, ![8, 8, 2048, 64]⟩
abbrev S16384x256 : Shape := ⟨2, ![16384, 256]⟩
abbrev S16384x64 : Shape := ⟨2, ![16384, 64]⟩
abbrev S16384x2048 : Shape := ⟨2, ![16384, 2048]⟩
abbrev S1x8x256x256 : Shape := ⟨4, ![1, 8, 256, 256]⟩
abbrev S1x8x256x64 : Shape := ⟨4, ![1, 8, 256, 64]⟩
abbrev S2048x256 : Shape := ⟨2, ![2048, 256]⟩
abbrev S2048x64 : Shape := ⟨2, ![2048, 64]⟩
abbrev S256x2048 : Shape := ⟨2, ![256, 2048]⟩
abbrev S2048x1 : Shape := ⟨2, ![2048, 1]⟩
abbrev S8x256x256 : Shape := ⟨3, ![8, 256, 256]⟩
abbrev S8x256x64 : Shape := ⟨3, ![8, 256, 64]⟩
abbrev S256x256 : Shape := ⟨2, ![256, 256]⟩
abbrev S256x64 : Shape := ⟨2, ![256, 64]⟩
abbrev S2048 : Shape := ⟨1, ![2048]⟩

abbrev nBuf : Space → Nat
  | .hbm => 5
  | .vmem => 13
  | .smem => 0
  | _ => 0

abbrev bufTy : (tb : Table) → Fin (tcTables nBuf tb) → BufTy
  | .hbm, ⟨0, _⟩ => ⟨S8x8x2048x256, .bf16⟩
  | .hbm, ⟨1, _⟩ => ⟨S8x8x2048x64, .bf16⟩
  | .hbm, ⟨2, _⟩ => ⟨S16384x256, .bf16⟩
  | .hbm, ⟨3, _⟩ => ⟨S16384x64, .bf16⟩
  | .hbm, ⟨4, _⟩ => ⟨S16384x2048, .bf16⟩
  | .local _ .vmem, ⟨0, _⟩ => ⟨S1x8x256x256, .bf16⟩
  | .local _ .vmem, ⟨1, _⟩ => ⟨S1x8x256x256, .bf16⟩
  | .local _ .vmem, ⟨2, _⟩ => ⟨S1x8x256x64, .bf16⟩
  | .local _ .vmem, ⟨3, _⟩ => ⟨S1x8x256x64, .bf16⟩
  | .local _ .vmem, ⟨4, _⟩ => ⟨S2048x256, .bf16⟩
  | .local _ .vmem, ⟨5, _⟩ => ⟨S2048x256, .bf16⟩
  | .local _ .vmem, ⟨6, _⟩ => ⟨S2048x64, .bf16⟩
  | .local _ .vmem, ⟨7, _⟩ => ⟨S2048x64, .bf16⟩
  | .local _ .vmem, ⟨8, _⟩ => ⟨S256x2048, .bf16⟩
  | .local _ .vmem, ⟨9, _⟩ => ⟨S256x2048, .bf16⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | _, _ => ⟨S8x8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_15 : BitVec 32 := 0#32
  let arg1 : BitVec 32 := BitVec.ofNat 32 (i 1).val
  let v18 : BitVec 32 := Scalar.subi arg1 c0_i32_15
  let c1_i32 : BitVec 32 := 1#32
  let v20 : BitVec 32 := Scalar.divsi v18 c1_i32
  let v21 : BitVec 32 := Scalar.muli v20 c1_i32
  let v22 : BitVec 32 := Scalar.addi c0_i32_15 v21
  let c1_i32_16 : BitVec 32 := 1#32
  ⟨c0_i32_15, v22, c1_i32_16⟩
def k0_mult1 (i : grid0.Coords) (k0_t1 : Fin (k0_t1_loop i).trips) : BitVec 32 :=
  let c0_i32_15 : BitVec 32 := 0#32
  let c1_i32_16 : BitVec 32 := 1#32
  let arg10 : BitVec 32 := Scf.iv c0_i32_15 c1_i32_16 k0_t1
  let c256_i32_52 : BitVec 32 := 256#32
  let v97 : BitVec 32 := Scalar.muli arg10 c256_i32_52
  v97
def k0_off1 (i : grid0.Coords) (k0_t1 : Fin (k0_t1_loop i).trips) : Fin 2 → Nat :=
  let c0_i32_15 : BitVec 32 := 0#32
  let c1_i32_16 : BitVec 32 := 1#32
  let arg10 : BitVec 32 := Scf.iv c0_i32_15 c1_i32_16 k0_t1
  let c256_i32_52 : BitVec 32 := 256#32
  let v97 : BitVec 32 := Scalar.muli arg10 c256_i32_52
  let v98 : BitVec 32 := v97
  let v99 : Index := Scalar.indexCast v98
  let c0_53 : Index := 0#32
  ![v99.toNat, 0]
def k0_off2 (i : grid0.Coords) (k0_t1 : Fin (k0_t1_loop i).trips) : Fin 2 → Nat :=
  let c0_i32_15 : BitVec 32 := 0#32
  let c1_i32_16 : BitVec 32 := 1#32
  let arg10 : BitVec 32 := Scf.iv c0_i32_15 c1_i32_16 k0_t1
  let c256_i32_52 : BitVec 32 := 256#32
  let v97 : BitVec 32 := Scalar.muli arg10 c256_i32_52
  let v98 : BitVec 32 := v97
  let v101 : Index := Scalar.indexCast v98
  let c0_54 : Index := 0#32
  ![v101.toNat, 0]
@[reducible] def k0_t2_loop (i : grid0.Coords) : Scf.Loop 32 :=
  let c0_i32_15 : BitVec 32 := 0#32
  let arg1 : BitVec 32 := BitVec.ofNat 32 (i 1).val
  let v18 : BitVec 32 := Scalar.subi arg1 c0_i32_15
  let c1_i32 : BitVec 32 := 1#32
  let v20 : BitVec 32 := Scalar.divsi v18 c1_i32
  let v21 : BitVec 32 := Scalar.muli v20 c1_i32
  let v22 : BitVec 32 := Scalar.addi c0_i32_15 v21
  let v19 : BitVec 32 := Scalar.addi c0_i32_15 v18
  let c1_i32_17 : BitVec 32 := 1#32
  ⟨v22, v19, c1_i32_17⟩
def k0_mult2 (i : grid0.Coords) (k0_t2 : Fin (k0_t2_loop i).trips) : BitVec 32 :=
  let c0_i32_15 : BitVec 32 := 0#32
  let arg1 : BitVec 32 := BitVec.ofNat 32 (i 1).val
  let v18 : BitVec 32 := Scalar.subi arg1 c0_i32_15
  let c1_i32 : BitVec 32 := 1#32
  let v20 : BitVec 32 := Scalar.divsi v18 c1_i32
  let v21 : BitVec 32 := Scalar.muli v20 c1_i32
  let v22 : BitVec 32 := Scalar.addi c0_i32_15 v21
  let c1_i32_17 : BitVec 32 := 1#32
  let arg10 : BitVec 32 := Scf.iv v22 c1_i32_17 k0_t2
  let c256_i32_52 : BitVec 32 := 256#32
  let v97 : BitVec 32 := Scalar.muli arg10 c256_i32_52
  v97
def k0_off3 (i : grid0.Coords) (k0_t2 : Fin (k0_t2_loop i).trips) : Fin 2 → Nat :=
  let c0_i32_15 : BitVec 32 := 0#32
  let arg1 : BitVec 32 := BitVec.ofNat 32 (i 1).val
  let v18 : BitVec 32 := Scalar.subi arg1 c0_i32_15
  let c1_i32 : BitVec 32 := 1#32
  let v20 : BitVec 32 := Scalar.divsi v18 c1_i32
  let v21 : BitVec 32 := Scalar.muli v20 c1_i32
  let v22 : BitVec 32 := Scalar.addi c0_i32_15 v21
  let c1_i32_17 : BitVec 32 := 1#32
  let arg10 : BitVec 32 := Scf.iv v22 c1_i32_17 k0_t2
  let c256_i32_52 : BitVec 32 := 256#32
  let v97 : BitVec 32 := Scalar.muli arg10 c256_i32_52
  let v98 : BitVec 32 := v97
  let v99 : Index := Scalar.indexCast v98
  let c0_53 : Index := 0#32
  ![v99.toNat, 0]
def k0_off4 (i : grid0.Coords) (k0_t2 : Fin (k0_t2_loop i).trips) : Fin 2 → Nat :=
  let c0_i32_15 : BitVec 32 := 0#32
  let arg1 : BitVec 32 := BitVec.ofNat 32 (i 1).val
  let v18 : BitVec 32 := Scalar.subi arg1 c0_i32_15
  let c1_i32 : BitVec 32 := 1#32
  let v20 : BitVec 32 := Scalar.divsi v18 c1_i32
  let v21 : BitVec 32 := Scalar.muli v20 c1_i32
  let v22 : BitVec 32 := Scalar.addi c0_i32_15 v21
  let c1_i32_17 : BitVec 32 := 1#32
  let arg10 : BitVec 32 := Scf.iv v22 c1_i32_17 k0_t2
  let c256_i32_52 : BitVec 32 := 256#32
  let v97 : BitVec 32 := Scalar.muli arg10 c256_i32_52
  let v98 : BitVec 32 := v97
  let v101 : Index := Scalar.indexCast v98
  let c0_54 : Index := 0#32
  ![v101.toNat, 0]
def k0_mult3 (i : grid0.Coords) : BitVec 32 :=
  let arg1 : BitVec 32 := BitVec.ofNat 32 (i 1).val
  let c256_i32 : BitVec 32 := 256#32
  let v23 : BitVec 32 := Scalar.muli arg1 c256_i32
  v23
def k0_off5 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v25 : Index := Scalar.indexCast v24
  let c0_18 : Index := 0#32
  ![v25.toNat, 0]
def k0_off6 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v27 : Index := Scalar.indexCast v24
  let c0_19 : Index := 0#32
  ![v27.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | "scale" => some (((Real.sqrt 192)⁻¹ : ℝ) : EReal)
  | _ => none
-- ==== AttnRefIdeal.lean ====
abbrev S8x8x2048x256 : Shape := ⟨4, ![8, 8, 2048, 256]⟩
abbrev S8x8x2048x64 : Shape := ⟨4, ![8, 8, 2048, 64]⟩
abbrev S16384x256 : Shape := ⟨2, ![16384, 256]⟩
abbrev S16384x64 : Shape := ⟨2, ![16384, 64]⟩
abbrev S8x2048x256 : Shape := ⟨3, ![8, 2048, 256]⟩
abbrev S8x2048x64 : Shape := ⟨3, ![8, 2048, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x2048x8x256 : Shape := ⟨4, ![8, 2048, 8, 256]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x8x2048x256, .bf16⟩
  | .hbm, ⟨1, _⟩ => ⟨S8x8x2048x64, .bf16⟩
  | .hbm, ⟨2, _⟩ => ⟨S16384x256, .bf16⟩
  | .hbm, ⟨3, _⟩ => ⟨S16384x64, .bf16⟩
  | .hbm, ⟨4, _⟩ => ⟨S16384x256, .f32⟩
  | .hbm, ⟨5, _⟩ => ⟨S8x2048x256, .f32⟩
  | .hbm, ⟨6, _⟩ => ⟨S16384x64, .f32⟩
  | .hbm, ⟨7, _⟩ => ⟨S8x2048x64, .f32⟩
  | .hbm, ⟨8, _⟩ => ⟨S8x8x2048x256, .f32⟩
  | .hbm, ⟨9, _⟩ => ⟨S8x8x2048x2048, .f32⟩
  | .hbm, ⟨10, _⟩ => ⟨S8x8x2048x64, .f32⟩
  | .hbm, ⟨11, _⟩ => ⟨S8x8x2048x2048, .f32⟩
  | .hbm, ⟨12, _⟩ => ⟨S8x8x2048x2048, .f32⟩
  | .hbm, ⟨13, _⟩ => ⟨S_, .f32⟩
  | .hbm, ⟨14, _⟩ => ⟨S_, .f32⟩
  | .hbm, ⟨15, _⟩ => ⟨S8x8x2048x2048, .f32⟩
  | .hbm, ⟨16, _⟩ => ⟨S8x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x8x2048x2048, .i1⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048, .f32⟩
  | .hbm, ⟨31, _⟩ => ⟨S_, .f32⟩
  | .hbm, ⟨32, _⟩ => ⟨S8x8x2048, .f32⟩
  | .hbm, ⟨33, _⟩ => ⟨S8x8x2048, .f32⟩
  | .hbm, ⟨34, _⟩ => ⟨S8x8x2048x1, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x256x8x2048, .f32⟩
  | .hbm, ⟨44, _⟩ => ⟨S8x2048x8x256, .f32⟩
  | .hbm, ⟨45, _⟩ => ⟨S16384x2048, .f32⟩
  | .hbm, ⟨46, _⟩ => ⟨S16384x2048, .bf16⟩
  | _, _ => ⟨S8x8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x5632 : Shape := ⟨2, ![1024, 5632]⟩
abbrev S2816x1024 : Shape := ⟨2, ![2816, 1024]⟩
abbrev S512x1024 : Shape := ⟨2, ![512, 1024]⟩
abbrev S1x1x1x1024 : Shape := ⟨4, ![1, 1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 7
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c3_i32_5 : BitVec 32 := 3#32
  let c0_i32_6 : BitVec 32 := 0#32
  ![c3_i32.toNat, v16.toNat, c0_i32_4.toNat, c3_i32_5.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c4_i32_5 : BitVec 32 := 4#32
  let c0_i32_6 : BitVec 32 := 0#32
  ![c3_i32.toNat, v16.toNat, c0_i32_4.toNat, c4_i32_5.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c5_i32 : BitVec 32 := 5#32
  let c0_i32_5 : BitVec 32 := 0#32
  ![c3_i32.toNat, v16.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x5632 : Shape := ⟨2, ![1024, 5632]⟩
abbrev S2816x1024 : Shape := ⟨2, ![2816, 1024]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S8x2048x5632 : Shape := ⟨3, ![8, 2048, 5632]⟩
abbrev S8x2048x2816 : Shape := ⟨3, ![8, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8x2048x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x8x1x6144, .f32⟩
  | .hbm, ⟨25, _⟩ => ⟨S8x1x6144, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S1x8x1x6144, .f32⟩
  | .hbm, ⟨33, _⟩ => ⟨S8x1x6144, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S1024x5632, .f32⟩
  | .hbm, ⟨38, _⟩ => ⟨S8x2048x5632, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S_, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S8x2048x2816, .f32⟩
  | .hbm, ⟨51, _⟩ => ⟨S1x8x1x6144, .f32⟩
  | .hbm, ⟨52, _⟩ => ⟨S8x1x6144, .f32⟩
  | .hbm, ⟨53, _⟩ => ⟨S8x1x1024, .f32⟩
  | .hbm, ⟨54, _⟩ => ⟨S2816x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S1024, .f32⟩
  | .hbm, ⟨60, _⟩ => ⟨S8x2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1, .f32⟩
  | .hbm, ⟨71, _⟩ => ⟨S8x2048x1024, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x3584 : Shape := ⟨2, ![1024, 3584]⟩
abbrev S16384x3584 : Shape := ⟨2, ![16384, 3584]⟩
abbrev S512x1024 : Shape := ⟨2, ![512, 1024]⟩
abbrev S1x1x1x1024 : Shape := ⟨4, ![1, 1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x3584, .f32⟩
  | .hbm, ⟨4, _⟩ => ⟨S1024x3584, .bf16⟩
  | .hbm, ⟨5, _⟩ => ⟨S16384x3584, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x512, .bf16⟩
  | .local _ .vmem, ⟨8, _⟩ => ⟨S1024x512, .bf16⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x3584 : Shape := ⟨2, ![1024, 3584]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S8x2048x3584 : Shape := ⟨3, ![8, 2048, 3584]⟩
abbrev S16384x3584 : Shape := ⟨2, ![16384, 3584]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x3584, .f32⟩
  | .hbm, ⟨4, _⟩ => ⟨S8x2048x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1x8x1x6144, .f32⟩
  | .hbm, ⟨23, _⟩ => ⟨S8x1x6144, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S1x8x1x6144, .f32⟩
  | .hbm, ⟨31, _⟩ => ⟨S8x1x6144, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x3584, .f32⟩
  | .hbm, ⟨36, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S4x8x1x6144 : Shape := ⟨4, ![4, 8, 1, 6144]⟩
abbrev S512x1024 : Shape := ⟨2, ![512, 1024]⟩
abbrev S1024x512 : Shape := ⟨2, ![1024, 512]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S4x8x1x6144, .f32⟩
  | .hbm, ⟨4, _⟩ => ⟨S1024x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S1x1x1x512, .f32⟩
  | .local _ .vmem, ⟨7, _⟩ => ⟨S1x1x1x512, .f32⟩
  | .local _ .vmem, ⟨8, _⟩ => ⟨S512x512, .f32⟩
  | .local _ .vmem, ⟨9, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 arg1
  let c0_i32_5 : BitVec 32 := 0#32
  let c0_i32_6 : BitVec 32 := 0#32
  let c0_i32_7 : BitVec 32 := 0#32
  ![c0_i32_5.toNat, v16.toNat, c0_i32_6.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S16384x1024 : Shape := ⟨2, ![16384, 1024]⟩
abbrev S1024x1024 : Shape := ⟨2, ![1024, 1024]⟩
abbrev S4x8x1x6144 : Shape := ⟨4, ![4, 8, 1, 6144]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S4x8x1x6144, .f32⟩
  | .hbm, ⟨4, _⟩ => ⟨S16384x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S1x8x1x6144, .f32⟩
  | .hbm, ⟨9, _⟩ => ⟨S8x1x6144, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MlaOut.lean ====
abbrev S16384x2048 : Shape := ⟨2, ![16384, 2048]⟩
abbrev S256x8x128 : Shape := ⟨3, ![256, 8, 128]⟩
abbrev S1024x1024 : Shape := ⟨2, ![1024, 1024]⟩
abbrev S16384x1024 : Shape := ⟨2, ![16384, 1024]⟩
abbrev S4x8x1x6144 : Shape := ⟨4, ![4, 8, 1, 6144]⟩
abbrev S8x256x128 : Shape := ⟨3, ![8, 256, 128]⟩
abbrev S512x2048 : Shape := ⟨2, ![512, 2048]⟩
abbrev S512x1024 : Shape := ⟨2, ![512, 1024]⟩
abbrev S1x1x1x1024 : Shape := ⟨4, ![1, 1, 1, 1024]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S256x8x128, .f32⟩
  | .hbm, ⟨2, _⟩ => ⟨S1024x1024, .f32⟩
  | .hbm, ⟨3, _⟩ => ⟨S16384x1024, .f32⟩
  | .hbm, ⟨4, _⟩ => ⟨S4x8x1x6144, .f32⟩
  | .hbm, ⟨5, _⟩ => ⟨S8x256x128, .f32⟩
  | .hbm, ⟨6, _⟩ => ⟨S8x256x128, .bf16⟩
  | .hbm, ⟨7, _⟩ => ⟨S1024x1024, .bf16⟩
  | .hbm, ⟨8, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x128, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S512x1024, .f32⟩
  | .local _ .vmem, ⟨9, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c2_i32 : BitVec 32 := 2#32
  let c0_i32_6 : BitVec 32 := 0#32
  ![c1_i32_4.toNat, v16.toNat, c0_i32_5.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaOutRefIdeal.lean ====
abbrev S16384x2048 : Shape := ⟨2, ![16384, 2048]⟩
abbrev S256x8x128 : Shape := ⟨3, ![256, 8, 128]⟩
abbrev S1024x1024 : Shape := ⟨2, ![1024, 1024]⟩
abbrev S16384x1024 : Shape := ⟨2, ![16384, 1024]⟩
abbrev S4x8x1x6144 : Shape := ⟨4, ![4, 8, 1, 6144]⟩
abbrev S8x2048x8x256 : Shape := ⟨4, ![8, 2048, 8, 256]⟩
abbrev S8x128x8x2048 : Shape := ⟨4, ![8, 128, 8, 2048]⟩
abbrev S8x2048x8x128 : Shape := ⟨4, ![8, 2048, 8, 128]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S256x8x128, .f32⟩
  | .hbm, ⟨2, _⟩ => ⟨S1024x1024, .f32⟩
  | .hbm, ⟨3, _⟩ => ⟨S16384x1024, .f32⟩
  | .hbm, ⟨4, _⟩ => ⟨S4x8x1x6144, .f32⟩
  | .hbm, ⟨5, _⟩ => ⟨S16384x2048, .f32⟩
  | .hbm, ⟨6, _⟩ => ⟨S8x2048x8x256, .f32⟩
  | .hbm, ⟨7, _⟩ => ⟨S8x128x8x2048, .f32⟩
  | .hbm, ⟨8, _⟩ => ⟨S8x2048x8x128, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x8x1x6144, .f32⟩
  | .hbm, ⟨13, _⟩ => ⟨S8x1x6144, .f32⟩
  | .hbm, ⟨14, _⟩ => ⟨S8x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dqkv.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x704 : Shape := ⟨2, ![1024, 704]⟩
abbrev S1x384 : Shape := ⟨2, ![1, 384]⟩
abbrev S1x256 : Shape := ⟨2, ![1, 256]⟩
abbrev S2048x32 : Shape := ⟨2, ![2048, 32]⟩
abbrev S_ : Shape := ⟨0, ![]⟩
abbrev S1024x768 : Shape := ⟨2, ![1024, 768]⟩
abbrev S2048x128 : Shape := ⟨2, ![2048, 128]⟩
abbrev S16384x384 : Shape := ⟨2, ![16384, 384]⟩
abbrev S16384x256 : Shape := ⟨2, ![16384, 256]⟩
abbrev S16384x64 : Shape := ⟨2, ![16384, 64]⟩
abbrev S512x1024 : Shape := ⟨2, ![512, 1024]⟩
abbrev S1x1x1x1024 : Shape := ⟨4, ![1, 1, 1, 1024]⟩
abbrev S512x128 : Shape := ⟨2, ![512, 128]⟩
abbrev S512x384 : Shape := ⟨2, ![512, 384]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S512x768 : Shape := ⟨2, ![512, 768]⟩

abbrev nBuf : Space → Nat
  | .hbm => 21
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x704, .f32⟩
  | .hbm, ⟨4, _⟩ => ⟨S1x384, .f32⟩
  | .hbm, ⟨5, _⟩ => ⟨S1x256, .f32⟩
  | .hbm, ⟨6, _⟩ => ⟨S2048x32, .f32⟩
  | .hbm, ⟨7, _⟩ => ⟨S2048x32, .f32⟩
  | .hbm, ⟨8, _⟩ => ⟨S_, .i32⟩
  | .hbm, ⟨9, _⟩ => ⟨S_, .f32⟩
  | .hbm, ⟨10, _⟩ => ⟨S1024x768, .f32⟩
  | .hbm, ⟨11, _⟩ => ⟨S1024x768, .bf16⟩
  | .hbm, ⟨12, _⟩ => ⟨S2048x128, .f32⟩
  | .hbm, ⟨13, _⟩ => ⟨S2048x32, .f32⟩
  | .hbm, ⟨14, _⟩ => ⟨S2048x32, .f32⟩
  | .hbm, ⟨15, _⟩ => ⟨S2048x128, .f32⟩
  | .hbm, ⟨16, _⟩ => ⟨S16384x384, .bf16⟩
  | .hbm, ⟨17, _⟩ => ⟨S16384x256, .f32⟩
  | .hbm, ⟨18, _⟩ => ⟨S16384x64, .f32⟩
  | .hbm, ⟨19, _⟩ => ⟨S16384x256, .bf16⟩
  | .hbm, ⟨20, _⟩ => ⟨S16384x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x768, .bf16⟩
  | .local _ .vmem, ⟨8, _⟩ => ⟨S1x384, .f32⟩
  | .local _ .vmem, ⟨9, _⟩ => ⟨S1x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x384, .bf16⟩
  | .local _ .vmem, ⟨15, _⟩ => ⟨S512x384, .bf16⟩
  | .local _ .vmem, ⟨16, _⟩ => ⟨S512x256, .f32⟩
  | .local _ .vmem, ⟨17, _⟩ => ⟨S512x256, .f32⟩
  | .local _ .vmem, ⟨18, _⟩ => ⟨S512x64, .f32⟩
  | .local _ .vmem, ⟨19, _⟩ => ⟨S512x64, .f32⟩
  | .local _ .vmem, ⟨20, _⟩ => ⟨S512x256, .bf16⟩
  | .local _ .vmem, ⟨21, _⟩ => ⟨S512x256, .bf16⟩
  | .local _ .vmem, ⟨22, _⟩ => ⟨S512x64, .bf16⟩
  | .local _ .vmem, ⟨23, _⟩ => ⟨S512x64, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c1_i32_6 : BitVec 32 := 1#32
  let c0_i32_7 : BitVec 32 := 0#32
  ![c1_i32_4.toNat, v16.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DqkvRefIdeal.lean ====
abbrev S16384x1024 : Shape := ⟨2, ![16384, 1024]⟩
abbrev S1x1024 : Shape := ⟨2, ![1, 1024]⟩
abbrev S4x8x1x6144 : Shape := ⟨4, ![4, 8, 1, 6144]⟩
abbrev S1024x704 : Shape := ⟨2, ![1024, 704]⟩
abbrev S1x384 : Shape := ⟨2, ![1, 384]⟩
abbrev S1x256 : Shape := ⟨2, ![1, 256]⟩
abbrev S2048x32 : Shape := ⟨2, ![2048, 32]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S8x2048x704 : Shape := ⟨3, ![8, 2048, 704]⟩
abbrev S8x2048x384 : Shape := ⟨3, ![8, 2048, 384]⟩
abbrev S384 : Shape := ⟨1, ![384]⟩
abbrev S1x1x384 : Shape := ⟨3, ![1, 1, 384]⟩
abbrev S16384x384 : Shape := ⟨2, ![16384, 384]⟩
abbrev S8x2048x256 : Shape := ⟨3, ![8, 2048, 256]⟩
abbrev S256 : Shape := ⟨1, ![256]⟩
abbrev S1x1x256 : Shape := ⟨3, ![1, 1, 256]⟩
abbrev S16384x256 : Shape := ⟨2, ![16384, 256]⟩
abbrev S8x2048x64 : Shape := ⟨3, ![8, 2048, 64]⟩
abbrev S8x2048x1x64 : Shape := ⟨4, ![8, 2048, 1, 64]⟩
abbrev S8x2048x1x32 : Shape := ⟨4, ![8, 2048, 1, 32]⟩
abbrev S1x2048x1x32 : Shape := ⟨4, ![1, 2048, 1, 32]⟩
abbrev S16384x64 : Shape := ⟨2, ![16384, 64]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x8x1x6144, .f32⟩
  | .hbm, ⟨3, _⟩ => ⟨S1024x704, .f32⟩
  | .hbm, ⟨4, _⟩ => ⟨S1x384, .f32⟩
  | .hbm, ⟨5, _⟩ => ⟨S1x256, .f32⟩
  | .hbm, ⟨6, _⟩ => ⟨S2048x32, .f32⟩
  | .hbm, ⟨7, _⟩ => ⟨S2048x32, .f32⟩
  | .hbm, ⟨8, _⟩ => ⟨S8x2048x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1x8x1x6144, .f32⟩
  | .hbm, ⟨27, _⟩ => ⟨S8x1x6144, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1x8x1x6144, .f32⟩
  | .hbm, ⟨35, _⟩ => ⟨S8x1x6144, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x704, .f32⟩
  | .hbm, ⟨40, _⟩ => ⟨S8x2048x384, .f32⟩
  | .hbm, ⟨41, _⟩ => ⟨S384, .f32⟩
  | .hbm, ⟨42, _⟩ => ⟨S8x2048x384, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x384, .f32⟩
  | .hbm, ⟨54, _⟩ => ⟨S8x2048x384, .f32⟩
  | .hbm, ⟨55, _⟩ => ⟨S1x1x384, .f32⟩
  | .hbm, ⟨56, _⟩ => ⟨S8x2048x384, .f32⟩
  | .hbm, ⟨57, _⟩ => ⟨S8x2048x384, .f32⟩
  | .hbm, ⟨58, _⟩ => ⟨S16384x384, .f32⟩
  | .hbm, ⟨59, _⟩ => ⟨S8x2048x256, .f32⟩
  | .hbm, ⟨60, _⟩ => ⟨S256, .f32⟩
  | .hbm, ⟨61, _⟩ => ⟨S8x2048x256, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x256, .f32⟩
  | .hbm, ⟨73, _⟩ => ⟨S8x2048x256, .f32⟩
  | .hbm, ⟨74, _⟩ => ⟨S1x1x256, .f32⟩
  | .hbm, ⟨75, _⟩ => ⟨S8x2048x256, .f32⟩
  | .hbm, ⟨76, _⟩ => ⟨S8x2048x256, .f32⟩
  | .hbm, ⟨77, _⟩ => ⟨S16384x256, .f32⟩
  | .hbm, ⟨78, _⟩ => ⟨S8x2048x64, .f32⟩
  | .hbm, ⟨79, _⟩ => ⟨S8x2048x1x64, .f32⟩
  | .hbm, ⟨80, _⟩ => ⟨S8x2048x1x32, .f32⟩
  | .hbm, ⟨81, _⟩ => ⟨S8x2048x1x32, .f32⟩
  | .hbm, ⟨82, _⟩ => ⟨S1x2048x1x32, .f32⟩
  | .hbm, ⟨83, _⟩ => ⟨S1x2048x1x32, .f32⟩
  | .hbm, ⟨84, _⟩ => ⟨S8x2048x1x32, .f32⟩
  | .hbm, ⟨85, _⟩ => ⟨S8x2048x1x32, .f32⟩
  | .hbm, ⟨86, _⟩ => ⟨S8x2048x1x32, .f32⟩
  | .hbm, ⟨87, _⟩ => ⟨S8x2048x1x32, .f32⟩
  | .hbm, ⟨88, _⟩ => ⟨S8x2048x1x32, .f32⟩
  | .hbm, ⟨89, _⟩ => ⟨S8x2048x1x32, .f32⟩
  | .hbm, ⟨90, _⟩ => ⟨S8x2048x1x32, .f32⟩
  | .hbm, ⟨91, _⟩ => ⟨S8x2048x1x32, .f32⟩
  | .hbm, ⟨92, _⟩ => ⟨S8x2048x1x32, .f32⟩
  | .hbm, ⟨93, _⟩ => ⟨S8x2048x1x32, .f32⟩
  | .hbm, ⟨94, _⟩ => ⟨S8x2048x1x64, .f32⟩
  | .hbm, ⟨95, _⟩ => ⟨S8x2048x64, .f32⟩
  | .hbm, ⟨96, _⟩ => ⟨S16384x64, .f32⟩
  | .hbm, ⟨97, _⟩ => ⟨S16384x384, .bf16⟩
  | .hbm, ⟨98, _⟩ => ⟨S16384x256, .bf16⟩
  | .hbm, ⟨99, _⟩ => ⟨S16384x64, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== QProj.lean ====
abbrev S16384x384 : Shape := ⟨2, ![16384, 384]⟩
abbrev S384x1536 : Shape := ⟨2, ![384, 1536]⟩
abbrev S256x8x128 : Shape := ⟨3, ![256, 8, 128]⟩
abbrev S2048x32 : Shape := ⟨2, ![2048, 32]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S8x128x256 : Shape := ⟨3, ![8, 128, 256]⟩
abbrev S2048x128 : Shape := ⟨2, ![2048, 128]⟩
abbrev S8x8x2048x256 : Shape := ⟨4, ![8, 8, 2048, 256]⟩
abbrev S8x8x2048x64 : Shape := ⟨4, ![8, 8, 2048, 64]⟩
abbrev S512x384 : Shape := ⟨2, ![512, 384]⟩
abbrev S512x128 : Shape := ⟨2, ![512, 128]⟩
abbrev S1x8x512x256 : Shape := ⟨4, ![1, 8, 512, 256]⟩
abbrev S1x8x512x64 : Shape := ⟨4, ![1, 8, 512, 64]⟩
abbrev S512x1024 : Shape := ⟨2, ![512, 1024]⟩
abbrev S512x512 : Shape := ⟨2, ![512, 512]⟩
abbrev S1x128x256 : Shape := ⟨3, ![1, 128, 256]⟩
abbrev S128x256 : Shape := ⟨2, ![128, 256]⟩
abbrev S512x256 : Shape := ⟨2, ![512, 256]⟩
abbrev S1x1x512x256 : Shape := ⟨4, ![1, 1, 512, 256]⟩
abbrev S512x64 : Shape := ⟨2, ![512, 64]⟩
abbrev S1x1x512x64 : Shape := ⟨4, ![1, 1, 512, 64]⟩

abbrev nBuf : Space → Nat
  | .hbm => 20
  | .vmem => 13
  | .smem => 0
  | _ => 0

abbrev bufTy : (tb : Table) → Fin (tcTables nBuf tb) → BufTy
  | .hbm, ⟨0, _⟩ => ⟨S16384x384, .bf16⟩
  | .hbm, ⟨1, _⟩ => ⟨S384x1536, .f32⟩
  | .hbm, ⟨2, _⟩ => ⟨S256x8x128, .f32⟩
  | .hbm, ⟨3, _⟩ => ⟨S2048x32, .f32⟩
  | .hbm, ⟨4, _⟩ => ⟨S2048x32, .f32⟩
  | .hbm, ⟨5, _⟩ => ⟨S384x8x192, .f32⟩
  | .hbm, ⟨6, _⟩ => ⟨S384x8x128, .f32⟩
  | .hbm, ⟨7, _⟩ => ⟨S384x1024, .f32⟩
  | .hbm, ⟨8, _⟩ => ⟨S384x1024, .bf16⟩
  | .hbm, ⟨9, _⟩ => ⟨S384x8x64, .f32⟩
  | .hbm, ⟨10, _⟩ => ⟨S384x512, .f32⟩
  | .hbm, ⟨11, _⟩ => ⟨S384x512, .bf16⟩
  | .hbm, ⟨12, _⟩ => ⟨S8x128x256, .f32⟩
  | .hbm, ⟨13, _⟩ => ⟨S8x128x256, .bf16⟩
  | .hbm, ⟨14, _⟩ => ⟨S2048x128, .f32⟩
  | .hbm, ⟨15, _⟩ => ⟨S2048x32, .f32⟩
  | .hbm, ⟨16, _⟩ => ⟨S2048x32, .f32⟩
  | .hbm, ⟨17, _⟩ => ⟨S2048x128, .f32⟩
  | .hbm, ⟨18, _⟩ => ⟨S8x8x2048x256, .bf16⟩
  | .hbm, ⟨19, _⟩ => ⟨S8x8x2048x64, .bf16⟩
  | .local _ .vmem, ⟨0, _⟩ => ⟨S512x384, .bf16⟩
  | .local _ .vmem, ⟨1, _⟩ => ⟨S512x384, .bf16⟩
  | .local _ .vmem, ⟨2, _⟩ => ⟨S384x1024, .bf16⟩
  | .local _ .vmem, ⟨3, _⟩ => ⟨S384x512, .bf16⟩
  | .local _ .vmem, ⟨4, _⟩ => ⟨S8x128x256, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x8x512x256, .bf16⟩
  | .local _ .vmem, ⟨10, _⟩ => ⟨S1x8x512x256, .bf16⟩
  | .local _ .vmem, ⟨11, _⟩ => ⟨S1x8x512x64, .bf16⟩
  | .local _ .vmem, ⟨12, _⟩ => ⟨S1x8x512x64, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QProjRefIdeal.lean ====
abbrev S16384x384 : Shape := ⟨2, ![16384, 384]⟩
abbrev S384x1536 : Shape := ⟨2, ![384, 1536]⟩
abbrev S256x8x128 : Shape := ⟨3, ![256, 8, 128]⟩
abbrev S2048x32 : Shape := ⟨2, ![2048, 32]⟩
abbrev S8x2048x384 : Shape := ⟨3, ![8, 2048, 384]⟩
abbrev S8x2048x1536 : Shape := ⟨3, ![8, 2048, 1536]⟩
abbrev S8x2048x8x192 : Shape := ⟨4, ![8, 2048, 8, 192]⟩
abbrev S8x2048x8x128 : Shape := ⟨4, ![8, 2048, 8, 128]⟩
abbrev S8x256x8x2048 : Shape := ⟨4, ![8, 256, 8, 2048]⟩
abbrev S8x2048x8x256 : Shape := ⟨4, ![8, 2048, 8, 256]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S8x8x2048x256 : Shape := ⟨4, ![8, 8, 2048, 256]⟩
abbrev S8x8x2048x64 : Shape := ⟨4, ![8, 8, 2048, 64]⟩

abbrev nBuf : Space → Nat
  | .hbm => 32
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1536, .f32⟩
  | .hbm, ⟨2, _⟩ => ⟨S256x8x128, .f32⟩
  | .hbm, ⟨3, _⟩ => ⟨S2048x32, .f32⟩
  | .hbm, ⟨4, _⟩ => ⟨S2048x32, .f32⟩
  | .hbm, ⟨5, _⟩ => ⟨S16384x384, .f32⟩
  | .hbm, ⟨6, _⟩ => ⟨S8x2048x384, .f32⟩
  | .hbm, ⟨7, _⟩ => ⟨S8x2048x1536, .f32⟩
  | .hbm, ⟨8, _⟩ => ⟨S8x2048x8x192, .f32⟩
  | .hbm, ⟨9, _⟩ => ⟨S8x2048x8x128, .f32⟩
  | .hbm, ⟨10, _⟩ => ⟨S8x256x8x2048, .f32⟩
  | .hbm, ⟨11, _⟩ => ⟨S8x2048x8x256, .f32⟩
  | .hbm, ⟨12, _⟩ => ⟨S8x2048x8x64, .f32⟩
  | .hbm, ⟨13, _⟩ => ⟨S8x2048x8x32, .f32⟩
  | .hbm, ⟨14, _⟩ => ⟨S8x2048x8x32, .f32⟩
  | .hbm, ⟨15, _⟩ => ⟨S1x2048x1x32, .f32⟩
  | .hbm, ⟨16, _⟩ => ⟨S1x2048x1x32, .f32⟩
  | .hbm, ⟨17, _⟩ => ⟨S8x2048x8x32, .f32⟩
  | .hbm, ⟨18, _⟩ => ⟨S8x2048x8x32, .f32⟩
  | .hbm, ⟨19, _⟩ => ⟨S8x2048x8x32, .f32⟩
  | .hbm, ⟨20, _⟩ => ⟨S8x2048x8x32, .f32⟩
  | .hbm, ⟨21, _⟩ => ⟨S8x2048x8x32, .f32⟩
  | .hbm, ⟨22, _⟩ => ⟨S8x2048x8x32, .f32⟩
  | .hbm, ⟨23, _⟩ => ⟨S8x2048x8x32, .f32⟩
  | .hbm, ⟨24, _⟩ => ⟨S8x2048x8x32, .f32⟩
  | .hbm, ⟨25, _⟩ => ⟨S8x2048x8x32, .f32⟩
  | .hbm, ⟨26, _⟩ => ⟨S8x2048x8x32, .f32⟩
  | .hbm, ⟨27, _⟩ => ⟨S8x2048x8x64, .f32⟩
  | .hbm, ⟨28, _⟩ => ⟨S8x8x2048x256, .f32⟩
  | .hbm, ⟨29, _⟩ => ⟨S8x8x2048x256, .bf16⟩
  | .hbm, ⟨30, _⟩ => ⟨S8x8x2048x64, .f32⟩
  | .hbm, ⟨31, _⟩ => ⟨S8x8x2048x64, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== FfnSample.lean ====
abbrev S128x1024 : Shape := ⟨2, ![128, 1024]⟩
abbrev S1x1024 : Shape := ⟨2, ![1, 1024]⟩
abbrev S4x1x128x6144 : Shape := ⟨4, ![4, 1, 128, 6144]⟩
abbrev S1024x5632 : Shape := ⟨2, ![1024, 5632]⟩
abbrev S2816x1024 : Shape := ⟨2, ![2816, 1024]⟩
abbrev S1x1x128x1024 : Shape := ⟨4, ![1, 1, 128, 1024]⟩
abbrev S1024x1408 : Shape := ⟨2, ![1024, 1408]⟩
abbrev S1408x1024 : Shape := ⟨2, ![1408, 1024]⟩
abbrev S128 : Shape := ⟨1, ![128]⟩
abbrev S128x1 : Shape := ⟨2, ![128, 1]⟩
abbrev S128x1408 : Shape := ⟨2, ![128, 1408]⟩

abbrev nBuf : Space → Nat
  | .hbm => 7
  | .vmem => 15
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S4x1x128x6144, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1x1024, .f32⟩
  | .local _ .vmem, ⟨12, _⟩ => ⟨S128x1024, .f32⟩
  | .local _ .vmem, ⟨13, _⟩ => ⟨S128x1024, .bf16⟩
  | .local _ .vmem, ⟨14, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c3_i32_6 : BitVec 32 := 3#32
  let c0_i32_7 : BitVec 32 := 0#32
  ![c3_i32.toNat, v16.toNat, c0_i32_5.toNat, c3_i32_6.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c4_i32 : BitVec 32 := 4#32
  let c0_i32_6 : BitVec 32 := 0#32
  ![c3_i32.toNat, v16.toNat, c0_i32_5.toNat, c4_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c5_i32 : BitVec 32 := 5#32
  let c0_i32_6 : BitVec 32 := 0#32
  ![c3_i32.toNat, v16.toNat, c0_i32_5.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FfnSampleRefIdeal.lean ====
abbrev S128x1024 : Shape := ⟨2, ![128, 1024]⟩
abbrev S1x1024 : Shape := ⟨2, ![1, 1024]⟩
abbrev S4x1x128x6144 : Shape := ⟨4, ![4, 1, 128, 6144]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1x128x6144 : Shape := ⟨4, ![1, 1, 128, 6144]⟩
abbrev S128x6144 : Shape := ⟨2, ![128, 6144]⟩
abbrev S128x5632 : Shape := ⟨2, ![128, 5632]⟩
abbrev S128x2816 : Shape := ⟨2, ![128, 2816]⟩

abbrev nBuf : Space → Nat
  | .hbm => 72
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S4x1x128x6144, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S1x1x128x6144, .f32⟩
  | .hbm, ⟨24, _⟩ => ⟨S128x6144, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1x1x128x6144, .f32⟩
  | .hbm, ⟨31, _⟩ => ⟨S128x6144, .f32⟩
  | .hbm, ⟨32, _⟩ => ⟨S128x1024, .f32⟩
  | .hbm, ⟨33, _⟩ => ⟨S128x1024, .f32⟩
  | .hbm, ⟨34, _⟩ => ⟨S1024x5632, .f32⟩
  | .hbm, ⟨35, _⟩ => ⟨S128x5632, .f32⟩
  | .hbm, ⟨36, _⟩ => ⟨S128x2816, .f32⟩
  | .hbm, ⟨37, _⟩ => ⟨S128x2816, .f32⟩
  | .hbm, ⟨38, _⟩ => ⟨S128x2816, .f32⟩
  | .hbm, ⟨39, _⟩ => ⟨S_, .f32⟩
  | .hbm, ⟨40, _⟩ => ⟨S128x2816, .f32⟩
  | .hbm, ⟨41, _⟩ => ⟨S128x2816, .f32⟩
  | .hbm, ⟨42, _⟩ => ⟨S_, .f32⟩
  | .hbm, ⟨43, _⟩ => ⟨S128x2816, .f32⟩
  | .hbm, ⟨44, _⟩ => ⟨S128x2816, .f32⟩
  | .hbm, ⟨45, _⟩ => ⟨S128x2816, .f32⟩
  | .hbm, ⟨46, _⟩ => ⟨S128x2816, .f32⟩
  | .hbm, ⟨47, _⟩ => ⟨S128x2816, .f32⟩
  | .hbm, ⟨48, _⟩ => ⟨S1x1x128x6144, .f32⟩
  | .hbm, ⟨49, _⟩ => ⟨S128x6144, .f32⟩
  | .hbm, ⟨50, _⟩ => ⟨S128x1024, .f32⟩
  | .hbm, ⟨51, _⟩ => ⟨S2816x1024, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S1024, .f32⟩
  | .hbm, ⟨56, _⟩ => ⟨S128x1024, .f32⟩
  | .hbm, ⟨57, _⟩ => ⟨S_, .f32⟩
  | .hbm, ⟨58, _⟩ => ⟨S128, .f32⟩
  | .hbm, ⟨59, _⟩ => ⟨S128x1, .f32⟩
  | .hbm, ⟨60, _⟩ => ⟨S_, .f32⟩
  | .hbm, ⟨61, _⟩ => ⟨S128x1, .f32⟩
  | .hbm, ⟨62, _⟩ => ⟨S128x1, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S128x1, .f32⟩
  | .hbm, ⟨67, _⟩ => ⟨S128x1024, .f32⟩
  | .hbm, ⟨68, _⟩ => ⟨S128x1024, .f32⟩
  | .hbm, ⟨69, _⟩ => ⟨S1x1024, .f32⟩
  | .hbm, ⟨70, _⟩ => ⟨S128x1024, .f32⟩
  | .hbm, ⟨71, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== DqkvSample.lean ====
abbrev S128x1024 : Shape := ⟨2, ![128, 1024]⟩
abbrev S1x1024 : Shape := ⟨2, ![1, 1024]⟩
abbrev S4x1x128x6144 : Shape := ⟨4, ![4, 1, 128, 6144]⟩
abbrev S1024x704 : Shape := ⟨2, ![1024, 704]⟩
abbrev S1x384 : Shape := ⟨2, ![1, 384]⟩
abbrev S1x256 : Shape := ⟨2, ![1, 256]⟩
abbrev S1x32 : Shape := ⟨2, ![1, 32]⟩
abbrev S_ : Shape := ⟨0, ![]⟩
abbrev S1024x768 : Shape := ⟨2, ![1024, 768]⟩
abbrev S1x128 : Shape := ⟨2, ![1, 128]⟩
abbrev S128x128 : Shape := ⟨2, ![128, 128]⟩
abbrev S128x384 : Shape := ⟨2, ![128, 384]⟩
abbrev S128x256 : Shape := ⟨2, ![128, 256]⟩
abbrev S128x64 : Shape := ⟨2, ![128, 64]⟩
abbrev S1x1x128x1024 : Shape := ⟨4, ![1, 1, 128, 1024]⟩
abbrev S128 : Shape := ⟨1, ![128]⟩
abbrev S128x1 : Shape := ⟨2, ![128, 1]⟩
abbrev S128x768 : Shape := ⟨2, ![128, 768]⟩

abbrev nBuf : Space → Nat
  | .hbm => 23
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S4x1x128x6144, .f32⟩
  | .hbm, ⟨3, _⟩ => ⟨S1024x704, .f32⟩
  | .hbm, ⟨4, _⟩ => ⟨S1x384, .f32⟩
  | .hbm, ⟨5, _⟩ => ⟨S1x256, .f32⟩
  | .hbm, ⟨6, _⟩ => ⟨S1x32, .f32⟩
  | .hbm, ⟨7, _⟩ => ⟨S1x32, .f32⟩
  | .hbm, ⟨8, _⟩ => ⟨S_, .i32⟩
  | .hbm, ⟨9, _⟩ => ⟨S_, .f32⟩
  | .hbm, ⟨10, _⟩ => ⟨S1024x768, .f32⟩
  | .hbm, ⟨11, _⟩ => ⟨S1024x768, .bf16⟩
  | .hbm, ⟨12, _⟩ => ⟨S1x128, .f32⟩
  | .hbm, ⟨13, _⟩ => ⟨S1x32, .f32⟩
  | .hbm, ⟨14, _⟩ => ⟨S1x32, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S128x384, .bf16⟩
  | .hbm, ⟨19, _⟩ => ⟨S128x256, .f32⟩
  | .hbm, ⟨20, _⟩ => ⟨S128x64, .f32⟩
  | .hbm, ⟨21, _⟩ => ⟨S128x256, .bf16⟩
  | .hbm, ⟨22, _⟩ => ⟨S128x64, .bf16⟩
  | .local _ .vmem, ⟨0, _⟩ => ⟨S128x1024, .f32⟩
  | .local _ .vmem, ⟨1, _⟩ => ⟨S1x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1024x768, .bf16⟩
  | .local _ .vmem, ⟨5, _⟩ => ⟨S1x384, .f32⟩
  | .local _ .vmem, ⟨6, _⟩ => ⟨S1x256, .f32⟩
  | .local _ .vmem, ⟨7, _⟩ => ⟨S128x128, .f32⟩
  | .local _ .vmem, ⟨8, _⟩ => ⟨S128x128, .f32⟩
  | .local _ .vmem, ⟨9, _⟩ => ⟨S128x384, .bf16⟩
  | .local _ .vmem, ⟨10, _⟩ => ⟨S128x256, .f32⟩
  | .local _ .vmem, ⟨11, _⟩ => ⟨S128x64, .f32⟩
  | .local _ .vmem, ⟨12, _⟩ => ⟨S128x256, .bf16⟩
  | .local _ .vmem, ⟨13, _⟩ => ⟨S128x64, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  let c0_i32_8 : BitVec 32 := 0#32
  ![c1_i32_5.toNat, v16.toNat, c0_i32_6.toNat, c0_i32_7.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c1_i32_7 : BitVec 32 := 1#32
  let c0_i32_8 : BitVec 32 := 0#32
  ![c1_i32_5.toNat, v16.toNat, c0_i32_6.toNat, c1_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== DqkvSampleRefIdeal.lean ====
abbrev S128x1024 : Shape := ⟨2, ![128, 1024]⟩
abbrev S1x1024 : Shape := ⟨2, ![1, 1024]⟩
abbrev S4x1x128x6144 : Shape := ⟨4, ![4, 1, 128, 6144]⟩
abbrev S1024x704 : Shape := ⟨2, ![1024, 704]⟩
abbrev S1x384 : Shape := ⟨2, ![1, 384]⟩
abbrev S1x256 : Shape := ⟨2, ![1, 256]⟩
abbrev S1x32 : Shape := ⟨2, ![1, 32]⟩
abbrev S1024 : Shape := ⟨1, ![1024]⟩
abbrev S_ : Shape := ⟨0, ![]⟩
abbrev S128 : Shape := ⟨1, ![128]⟩
abbrev S128x1 : Shape := ⟨2, ![128, 1]⟩
abbrev S1x1x128x6144 : Shape := ⟨4, ![1, 1, 128, 6144]⟩
abbrev S128x6144 : Shape := ⟨2, ![128, 6144]⟩
abbrev S128x704 : Shape := ⟨2, ![128, 704]⟩
abbrev S128x384 : Shape := ⟨2, ![128, 384]⟩
abbrev S384 : Shape := ⟨1, ![384]⟩
abbrev S128x256 : Shape := ⟨2, ![128, 256]⟩
abbrev S256 : Shape := ⟨1, ![256]⟩
abbrev S128x64 : Shape := ⟨2, ![128, 64]⟩
abbrev S128x1x1x64 : Shape := ⟨4, ![128, 1, 1, 64]⟩
abbrev S128x1x1x32 : Shape := ⟨4, ![128, 1, 1, 32]⟩
abbrev S1x1x1x32 : Shape := ⟨4, ![1, 1, 1, 32]⟩

abbrev nBuf : Space → Nat
  | .hbm => 94
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S4x1x128x6144, .f32⟩
  | .hbm, ⟨3, _⟩ => ⟨S1024x704, .f32⟩
  | .hbm, ⟨4, _⟩ => ⟨S1x384, .f32⟩
  | .hbm, ⟨5, _⟩ => ⟨S1x256, .f32⟩
  | .hbm, ⟨6, _⟩ => ⟨S1x32, .f32⟩
  | .hbm, ⟨7, _⟩ => ⟨S1x32, .f32⟩
  | .hbm, ⟨8, _⟩ => ⟨S1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S1x1x128x6144, .f32⟩
  | .hbm, ⟨26, _⟩ => ⟨S128x6144, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S1x1x128x6144, .f32⟩
  | .hbm, ⟨33, _⟩ => ⟨S128x6144, .f32⟩
  | .hbm, ⟨34, _⟩ => ⟨S128x1024, .f32⟩
  | .hbm, ⟨35, _⟩ => ⟨S128x1024, .f32⟩
  | .hbm, ⟨36, _⟩ => ⟨S128x704, .f32⟩
  | .hbm, ⟨37, _⟩ => ⟨S128x384, .f32⟩
  | .hbm, ⟨38, _⟩ => ⟨S384, .f32⟩
  | .hbm, ⟨39, _⟩ => ⟨S128x384, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x384, .f32⟩
  | .hbm, ⟨51, _⟩ => ⟨S128x384, .f32⟩
  | .hbm, ⟨52, _⟩ => ⟨S1x384, .f32⟩
  | .hbm, ⟨53, _⟩ => ⟨S128x384, .f32⟩
  | .hbm, ⟨54, _⟩ => ⟨S128x384, .f32⟩
  | .hbm, ⟨55, _⟩ => ⟨S128x256, .f32⟩
  | .hbm, ⟨56, _⟩ => ⟨S256, .f32⟩
  | .hbm, ⟨57, _⟩ => ⟨S128x256, .f32⟩
  | .hbm, ⟨58, _⟩ => ⟨S_, .f32⟩
  | .hbm, ⟨59, _⟩ => ⟨S128, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S_, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S128x256, .f32⟩
  | .hbm, ⟨69, _⟩ => ⟨S128x256, .f32⟩
  | .hbm, ⟨70, _⟩ => ⟨S1x256, .f32⟩
  | .hbm, ⟨71, _⟩ => ⟨S128x256, .f32⟩
  | .hbm, ⟨72, _⟩ => ⟨S128x256, .f32⟩
  | .hbm, ⟨73, _⟩ => ⟨S128x64, .f32⟩
  | .hbm, ⟨74, _⟩ => ⟨S128x1x1x64, .f32⟩
  | .hbm, ⟨75, _⟩ => ⟨S128x1x1x32, .f32⟩
  | .hbm, ⟨76, _⟩ => ⟨S128x1x1x32, .f32⟩
  | .hbm, ⟨77, _⟩ => ⟨S1x1x1x32, .f32⟩
  | .hbm, ⟨78, _⟩ => ⟨S1x1x1x32, .f32⟩
  | .hbm, ⟨79, _⟩ => ⟨S128x1x1x32, .f32⟩
  | .hbm, ⟨80, _⟩ => ⟨S128x1x1x32, .f32⟩
  | .hbm, ⟨81, _⟩ => ⟨S128x1x1x32, .f32⟩
  | .hbm, ⟨82, _⟩ => ⟨S128x1x1x32, .f32⟩
  | .hbm, ⟨83, _⟩ => ⟨S128x1x1x32, .f32⟩
  | .hbm, ⟨84, _⟩ => ⟨S128x1x1x32, .f32⟩
  | .hbm, ⟨85, _⟩ => ⟨S128x1x1x32, .f32⟩
  | .hbm, ⟨86, _⟩ => ⟨S128x1x1x32, .f32⟩
  | .hbm, ⟨87, _⟩ => ⟨S128x1x1x32, .f32⟩
  | .hbm, ⟨88, _⟩ => ⟨S128x1x1x32, .f32⟩
  | .hbm, ⟨89, _⟩ => ⟨S128x1x1x64, .f32⟩
  | .hbm, ⟨90, _⟩ => ⟨S128x64, .f32⟩
  | .hbm, ⟨91, _⟩ => ⟨S128x384, .bf16⟩
  | .hbm, ⟨92, _⟩ => ⟨S128x256, .bf16⟩
  | .hbm, ⟨93, _⟩ => ⟨S128x64, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== SampleMixer.lean ====
abbrev S128x3584 : Shape := ⟨2, ![128, 3584]⟩
abbrev S128x2x512 : Shape := ⟨3, ![128, 2, 512]⟩
abbrev S128x4x128x128 : Shape := ⟨4, ![128, 4, 128, 128]⟩
abbrev S3x512 : Shape := ⟨2, ![3, 512]⟩
abbrev S2x512 : Shape := ⟨2, ![2, 512]⟩
abbrev S1x128 : Shape := ⟨2, ![1, 128]⟩
abbrev S128x1024 : Shape := ⟨2, ![128, 1024]⟩
abbrev S16x3584 : Shape := ⟨2, ![16, 3584]⟩
abbrev S16x2x512 : Shape := ⟨3, ![16, 2, 512]⟩
abbrev S16x4x128x128 : Shape := ⟨4, ![16, 4, 128, 128]⟩
abbrev S16x1024 : Shape := ⟨2, ![16, 1024]⟩
abbrev S16x512 : Shape := ⟨2, ![16, 512]⟩
abbrev S16x1x512 : Shape := ⟨3, ![16, 1, 512]⟩
abbrev S1x512 : Shape := ⟨2, ![1, 512]⟩
abbrev S512 : Shape := ⟨1, ![512]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩
abbrev S16x128 : Shape := ⟨2, ![16, 128]⟩
abbrev S16 : Shape := ⟨1, ![16]⟩
abbrev S16x1 : Shape := ⟨2, ![16, 1]⟩

abbrev nBuf : Space → Nat
  | .hbm => 9
  | .vmem => 16
  | .smem => 0
  | _ => 0

abbrev bufTy : (tb : Table) → Fin (tcTables nBuf tb) → BufTy
  | .hbm, ⟨0, _⟩ => ⟨S128x3584, .f32⟩
  | .hbm, ⟨1, _⟩ => ⟨S128x2x512, .f32⟩
  | .hbm, ⟨2, _⟩ => ⟨S128x4x128x128, .f32⟩
  | .hbm, ⟨3, _⟩ => ⟨S3x512, .f32⟩
  | .hbm, ⟨4, _⟩ => ⟨S2x512, .f32⟩
  | .hbm, ⟨5, _⟩ => ⟨S1x128, .f32⟩
  | .hbm, ⟨6, _⟩ => ⟨S128x1024, .bf16⟩
  | .hbm, ⟨7, _⟩ => ⟨S128x2x512, .f32⟩
  | .hbm, ⟨8, _⟩ => ⟨S128x4x128x128, .f32⟩
  | .local _ .vmem, ⟨0, _⟩ => ⟨S16x3584, .f32⟩
  | .local _ .vmem, ⟨1, _⟩ => ⟨S16x3584, .f32⟩
  | .local _ .vmem, ⟨2, _⟩ => ⟨S16x2x512, .f32⟩
  | .local _ .vmem, ⟨3, _⟩ => ⟨S16x2x512, .f32⟩
  | .local _ .vmem, ⟨4, _⟩ => ⟨S16x4x128x128, .f32⟩
  | .local _ .vmem, ⟨5, _⟩ => ⟨S16x4x128x128, .f32⟩
  | .local _ .vmem, ⟨6, _⟩ => ⟨S3x512, .f32⟩
  | .local _ .vmem, ⟨7, _⟩ => ⟨S2x512, .f32⟩
  | .local _ .vmem, ⟨8, _⟩ => ⟨S1x128, .f32⟩
  | .local _ .vmem, ⟨9, _⟩ => ⟨S16x1024, .bf16⟩
  | .local _ .vmem, ⟨10, _⟩ => ⟨S16x1024, .bf16⟩
  | .local _ .vmem, ⟨11, _⟩ => ⟨S16x2x512, .f32⟩
  | .local _ .vmem, ⟨12, _⟩ => ⟨S16x2x512, .f32⟩
  | .local _ .vmem, ⟨13, _⟩ => ⟨S16x4x128x128, .f32⟩
  | .local _ .vmem, ⟨14, _⟩ => ⟨S16x4x128x128, .f32⟩
  | .local _ .vmem, ⟨15, _⟩ => ⟨S16x512, .f32⟩
  | _, _ => ⟨S128x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleMixerRefIdeal.lean ====
abbrev S128x3584 : Shape := ⟨2, ![128, 3584]⟩
abbrev S128x2x512 : Shape := ⟨3, ![128, 2, 512]⟩
abbrev S128x4x128x128 : Shape := ⟨4, ![128, 4, 128, 128]⟩
abbrev S3x512 : Shape := ⟨2, ![3, 512]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S128x512 : Shape := ⟨2, ![128, 512]⟩
abbrev S128x1x512 : Shape := ⟨3, ![128, 1, 512]⟩
abbrev S128x4x128 : Shape := ⟨3, ![128, 4, 128]⟩
abbrev S128x4x128x1 : Shape := ⟨4, ![128, 4, 128, 1]⟩
abbrev S128x4x1x128 : Shape := ⟨4, ![128, 4, 1, 128]⟩
abbrev S128 : Shape := ⟨1, ![128]⟩
abbrev S128x4 : Shape := ⟨2, ![128, 4]⟩
abbrev S128x4x1 : Shape := ⟨3, ![128, 4, 1]⟩
abbrev S1x1x128 : Shape := ⟨3, ![1, 1, 128]⟩
abbrev S128x1024 : Shape := ⟨2, ![128, 1024]⟩

abbrev nBuf : Space → Nat
  | .hbm => 156
  | .vmem => 0
  | .smem => 0
  | _ => 0

abbrev hbmTy0_0 (i : Nat) : BufTy := match i % 128 with
  | 0 => ⟨S128x3584, .f32⟩
  | 1 => ⟨S128x2x512, .f32⟩
  | 2 => ⟨S128x4x128x128, .f32⟩
  | 3 => ⟨S3x512, .f32⟩
  | 4 => ⟨S2x512, .f32⟩
  | 5 => ⟨S1x128, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S1x512, .f32⟩
  | 21 => ⟨S_, .f32⟩
  | 22 => ⟨S1x512, .f32⟩
  | 23 => ⟨S_, .f32⟩
  | 24 => ⟨S_, .f32⟩
  | 25 => ⟨S2x512, .f32⟩
  | 26 => ⟨S1x512, .f32⟩
  | 27 => ⟨S2x512, .f32⟩
  | 28 => ⟨S1x512, .f32⟩
  | 29 => ⟨S512, .f32⟩
  | 30 => ⟨S128x512, .f32⟩
  | 31 => ⟨S128x512, .f32⟩
  | 32 => ⟨S128x512, .f32⟩
  | 33 => ⟨S128x512, .f32⟩
  | 34 => ⟨S128x512, .f32⟩
  | 35 => ⟨S128x512, .f32⟩
  | 36 => ⟨S128x512, .f32⟩
  | 37 => ⟨S_, .f32⟩
  | 38 => ⟨S512, .f32⟩
  | 39 => ⟨S512, .f32⟩
  | 40 => ⟨S128x512, .f32⟩
  | 41 => ⟨S128x512, .f32⟩
  | 42 => ⟨S_, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S1x512, .f32⟩
  | 49 => ⟨S128x512, .f32⟩
  | 50 => ⟨S128x512, .f32⟩
  | 51 => ⟨S1x512, .f32⟩
  | 52 => ⟨S128x512, .f32⟩
  | 53 => ⟨S128x512, .f32⟩
  | 54 => ⟨S_, .f32⟩
  | 55 => ⟨S512, .f32⟩
  | 56 => ⟨S512, .f32⟩
  | 57 => ⟨S128x512, .f32⟩
  | 58 => ⟨S128x512, .f32⟩
  | 59 => ⟨S128x512, .f32⟩
  | 60 => ⟨S_, .f32⟩
  | 61 => ⟨S128x512, .f32⟩
  | 62 => ⟨S128x512, .f32⟩
  | 63 => ⟨S_, .f32⟩
  | 64 => ⟨S128x512, .f32⟩
  | 65 => ⟨S128x512, .f32⟩
  | 66 => ⟨S1x512, .f32⟩
  | 67 => ⟨S128x512, .f32⟩
  | 68 => ⟨S128x512, .f32⟩
  | 69 => ⟨S128x512, .f32⟩
  | 70 => ⟨S128x512, .f32⟩
  | 71 => ⟨S128x512, .f32⟩
  | 72 => ⟨S_, .f32⟩
  | 73 => ⟨S128x512, .f32⟩
  | 74 => ⟨S128x512, .f32⟩
  | 75 => ⟨S_, .f32⟩
  | 76 => ⟨S128x512, .f32⟩
  | 77 => ⟨S128x512, .f32⟩
  | 78 => ⟨S128x512, .f32⟩
  | 79 => ⟨S_, .f32⟩
  | 80 => ⟨S128x512, .f32⟩
  | 81 => ⟨S128x512, .f32⟩
  | 82 => ⟨S128x512, .f32⟩
  | 83 => ⟨S128x512, .f32⟩
  | 84 => ⟨S_, .f32⟩
  | 85 => ⟨S128x512, .f32⟩
  | 86 => ⟨S128x512, .f32⟩
  | 87 => ⟨S_, .f32⟩
  | 88 => ⟨S128x512, .f32⟩
  | 89 => ⟨S128x512, .f32⟩
  | 90 => ⟨S128x512, .f32⟩
  | 91 => ⟨S1x512, .f32⟩
  | 92 => ⟨S512, .f32⟩
  | 93 => ⟨S128x1x512, .f32⟩
  | 94 => ⟨S128x512, .f32⟩
  | 95 => ⟨S1x512, .f32⟩
  | 96 => ⟨S128x512, .f32⟩
  | 97 => ⟨S128x512, .f32⟩
  | 98 => ⟨S1x512, .f32⟩
  | 99 => ⟨S512, .f32⟩
  | 100 => ⟨S128x1x512, .f32⟩
  | 101 => ⟨S128x512, .f32⟩
  | 102 => ⟨S1x512, .f32⟩
  | 103 => ⟨S128x512, .f32⟩
  | 104 => ⟨S128x512, .f32⟩
  | 105 => ⟨S128x512, .f32⟩
  | 106 => ⟨S1x512, .f32⟩
  | 107 => ⟨S512, .f32⟩
  | 108 => ⟨S1x512, .f32⟩
  | 109 => ⟨S128x512, .f32⟩
  | 110 => ⟨S128x512, .f32⟩
  | 111 => ⟨S128x512, .f32⟩
  | 112 => ⟨S128x512, .f32⟩
  | 113 => ⟨S128x1x512, .f32⟩
  | 114 => ⟨S128x512, .f32⟩
  | 115 => ⟨S128x1x512, .f32⟩
  | 116 => ⟨S128x1x512, .f32⟩
  | 117 => ⟨S128x2x512, .f32⟩
  | 118 => ⟨S128x4x128, .f32⟩
  | 119 => ⟨S128x4x128, .f32⟩
  | 120 => ⟨S128x4x128, .f32⟩
  | 121 => ⟨S128x4x128, .f32⟩
  | 122 => ⟨S128x4x128, .f32⟩
  | 123 => ⟨S128x4x128, .f32⟩
  | 124 => ⟨S128x4x128, .f32⟩
  | 125 => ⟨S128x4x128x1, .f32⟩
  | 126 => ⟨S128x4x128x128, .f32⟩
  | 127 => ⟨S128x4x128x128, .f32⟩
  | _ => ⟨S128x3584, .f32⟩

abbrev hbmTy0_1 (i : Nat) : BufTy := match i % 128 with
  | 0 => ⟨S128x4x128x1, .f32⟩
  | 1 => ⟨S128x4x1x128, .f32⟩
  | 2 => ⟨S128x4x128x128, .f32⟩
  | 3 => ⟨S128x4x128x128, .f32⟩
  | 4 => ⟨S128x4x128x128, .f32⟩
  | 5 => ⟨S128x4x128x128, .f32⟩
  | 6 => ⟨S128x4x128, .f32⟩
  | 7 => ⟨S128, .f32⟩
  | 8 => ⟨S128x4x128, .f32⟩
  | 9 => ⟨S_, .f32⟩
  | 10 => ⟨S128x4, .f32⟩
  | 11 => ⟨S128x4x1, .f32⟩
  | 12 => ⟨S_, .f32⟩
  | 13 => ⟨S128x4x1, .f32⟩
  | 14 => ⟨S128x4x1, .f32⟩
  | 15 => ⟨S_, .f32⟩
  | 16 => ⟨S128x4x1, .f32⟩
  | 17 => ⟨S128x4x1, .f32⟩
  | 18 => ⟨S128x4x1, .f32⟩
  | 19 => ⟨S128x4x128, .f32⟩
  | 20 => ⟨S128x4x128, .f32⟩
  | 21 => ⟨S1x1x128, .f32⟩
  | 22 => ⟨S128x4x128, .f32⟩
  | 23 => ⟨S128x4x128, .f32⟩
  | 24 => ⟨S128x4x128, .f32⟩
  | 25 => ⟨S128x512, .f32⟩
  | 26 => ⟨S128x1024, .f32⟩
  | 27 => ⟨S128x1024, .bf16⟩
  | _ => ⟨S128x3584, .f32⟩

abbrev hbmTy (i : Nat) : BufTy := match i / 128 with
  | 0 => hbmTy0_0 i
  | 1 => hbmTy0_1 i
  | _ => ⟨S128x3584, .f32⟩

abbrev bufTy : (tb : Table) → Fin (tcTables nBuf tb) → BufTy
  | .hbm, ⟨i, _⟩ => hbmTy i
  | _, _ => ⟨S128x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_call0_call0_cst : Ref sig .tc := ⟨.hbm, 23, rfl⟩
abbrev main_call0_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_10 : Ref sig .tc := ⟨.hbm, 137, rfl⟩
abbrev main_v102 : Ref sig .tc := ⟨.hbm, 138, rfl⟩
abbrev main_v103 : Ref sig .tc := ⟨.hbm, 139, rfl⟩
abbrev main_cst_11 : Ref sig .tc := ⟨.hbm, 140, rfl⟩
abbrev main_v104 : Ref sig .tc := ⟨.hbm, 141, rfl⟩
abbrev main_v105 : Ref sig .tc := ⟨.hbm, 142, rfl⟩
abbrev main_cst_12 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩

abbrev nD : Nat := 1
abbrev τ : Topo := Topo.v7x

variable {F : FTy → Type} [FloatOps F]
-- ==== Proof.AttnPoint.lean ====
/-
  What one grid point of the attention kernel writes, as a function of the blocks it reads: the running maximum, sum and
  weighted sum over the key blocks below the diagonal (a recursion over the key blocks), one masked block on the
  diagonal, the division, and the heads' slices laid side by side.
-/
module

public import proofs.«01_k».proof.Proof.Gen.AttnIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.Proof.Attn

open Cert.AttnIdeal Cert.AttnIdeal.Gen Idealize.ShloMosaic Idealize.ShloMosaic.TcCoe Idealize.ShloMosaic.Tactic Idealize.SL.Sem

/-- The 256 latents of key block `j`. -/
def keys (x2 : Vec Ideal S2048x256 .bf16) (j : Fin 8) : Vec Ideal S256x256 .bf16 :=
  fun y => x2 (ix2 ⟨256 * j.val + (y 0).val, by have : (y 0).val < 256 := (y 0).isLt; omega⟩ (y 1))

/-- The 256 rotary keys of key block `j`. -/
def ropes (x3 : Vec Ideal S2048x64 .bf16) (j : Fin 8) : Vec Ideal S256x64 .bf16 :=
  fun y => x3 (ix2 ⟨256 * j.val + (y 0).val, by have : (y 0).val < 256 := (y 0).isLt; omega⟩ (y 1))

/-- The running maximum, sum and weighted sum of every query row. -/
abbrev St := Vec Ideal S2048x1 .f32 × Vec Ideal S2048x1 .f32 × Vec Ideal S2048x256 .f32

/-- One key block below the diagonal. -/
def fold (x0 : Vec Ideal S1x8x256x256 .bf16) (x1 : Vec Ideal S1x8x256x64 .bf16) (kb : Vec Ideal S256x256 .bf16)
    (rb : Vec Ideal S256x64 .bf16) (s : St) : St :=
  (k0_pay18 (k0_pay2 (k0_pay13 x0) (k0_pay14 x1) kb rb s.1), k0_pay5 (k0_pay13 x0) (k0_pay14 x1) kb rb s.1 s.2.1,
    k0_pay6 (k0_pay13 x0) (k0_pay14 x1) kb rb s.1 s.2.2)

/-- The state after the first `k` key blocks. -/
def state (x0 : Vec Ideal S1x8x256x256 .bf16) (x1 : Vec Ideal S1x8x256x64 .bf16) (x2 : Vec Ideal S2048x256 .bf16)
    (x3 : Vec Ideal S2048x64 .bf16) : Nat → St
  | 0 => (k0_pay15 (F := Ideal), k0_pay16 (F := Ideal), k0_pay17 (F := Ideal))
  | k + 1 => if h : k < 8 then fold x0 x1 (keys x2 ⟨k, h⟩) (ropes x3 ⟨k, h⟩) (state x0 x1 x2 x3 k) else state x0 x1 x2 x3 k

/-- The loop over the key blocks runs once for each block below the point's own. -/
theorem t1_trips : ∀ i : grid0.Coords, (k0_t1_loop i).trips = (i 1).val := by decide +kernel

/-- The trip counts as the body computes them: the loop over the blocks below the diagonal makes one trip per block, the
    remainder loop after it none. -/
theorem t1_count : ∀ i : grid0.Coords, Scf.trips 0#32 (Scalar.addi 0#32
    (Scalar.muli (Scalar.divsi (Scalar.subi (BitVec.ofNat 32 (i 1).val) 0#32) 1#32) 1#32)) 1#32 = (i 1).val := by decide +kernel
/-- The loop for the rest of an uneven division never runs. -/
theorem t2_count : ∀ i : grid0.Coords, Scf.trips (Scalar.addi 0#32
    (Scalar.muli (Scalar.divsi (Scalar.subi (BitVec.ofNat 32 (i 1).val) 0#32) 1#32) 1#32))
    (Scalar.addi 0#32 (Scalar.subi (BitVec.ofNat 32 (i 1).val) 0#32)) 1#32 = 0 := by decide +kernel

/-- The place of a key block's latents in the sequence's. -/
theorem off1 : ∀ (i : grid0.Coords) (k : Fin (k0_t1_loop i).trips), k0_off1 i k = ![256 * k.val, 0] := by decide +kernel
/-- The place of a key block's rotary keys in the sequence's. -/
theorem off2 : ∀ (i : grid0.Coords) (k : Fin (k0_t1_loop i).trips), k0_off2 i k = ![256 * k.val, 0] := by decide +kernel
/-- The place of the diagonal's key block. -/
theorem off5 : ∀ (i : grid0.Coords), ![(Scalar.indexCast (Scalar.muli (BitVec.ofNat 32 (i 1).val) 256#32)).toNat, 0]
    = ![256 * (i 1).val, 0] := by decide +kernel

/-- A load of a whole scratch buffer is what it holds. -/
theorem load_col (a : Memref sig .tc .vmem S2048x1 .f32) (G : BufTy.Contents (Elt Ideal) a.view.ty)
    (inb : ∀ k, (![0, 0] : Fin 2 → Nat) k + (![2048, 1] : Fin 2 → Nat) k ≤ S2048x1.size k) :
    View.readAt (Elt Ideal) a.view (Rect.unit (s := S2048x1) ![0, 0] ![2048, 1] inb).toLoadRect G = a.view.read (Elt Ideal) G :=
  View.readAt_full a.view G inb

/-- A load of the whole accumulator reads what it holds. -/
theorem load_acc (a : Memref sig .tc .vmem S2048x256 .f32) (G : BufTy.Contents (Elt Ideal) a.view.ty)
    (inb : ∀ k, (![0, 0] : Fin 2 → Nat) k + (![2048, 256] : Fin 2 → Nat) k ≤ S2048x256.size k) :
    View.readAt (Elt Ideal) a.view (Rect.unit (s := S2048x256) ![0, 0] ![2048, 256] inb).toLoadRect G = a.view.read (Elt Ideal) G :=
  View.readAt_full a.view G inb

/-- A load of a whole query block is the block. -/
theorem load_q0 (a : Memref sig .tc .vmem S1x8x256x256 .bf16) (h : a.IsWhole) (x : Vec Ideal S1x8x256x256 .bf16)
    (inb : ∀ k, (![0, 0, 0, 0] : Fin 4 → Nat) k + (![1, 8, 256, 256] : Fin 4 → Nat) k ≤ S1x8x256x256.size k) :
    View.readAt (Elt Ideal) a.view (Rect.unit (s := S1x8x256x256) ![0, 0, 0, 0] ![1, 8, 256, 256] inb).toLoadRect (h.unread x) = x :=
  (View.readAt_full a.view _ inb).trans (h.read_unread x)

/-- A load of the whole block of queries, rotary part, reads the block. -/
theorem load_q1 (a : Memref sig .tc .vmem S1x8x256x64 .bf16) (h : a.IsWhole) (x : Vec Ideal S1x8x256x64 .bf16)
    (inb : ∀ k, (![0, 0, 0, 0] : Fin 4 → Nat) k + (![1, 8, 256, 64] : Fin 4 → Nat) k ≤ S1x8x256x64.size k) :
    View.readAt (Elt Ideal) a.view (Rect.unit (s := S1x8x256x64) ![0, 0, 0, 0] ![1, 8, 256, 64] inb).toLoadRect (h.unread x) = x :=
  (View.readAt_full a.view _ inb).trans (h.read_unread x)

/-- A load of 256 rows from row `256 j` on is key block `j`. -/
theorem load_keys (a4 : Memref sig .tc .vmem S2048x256 .bf16) (h4 : a4.IsWhole) (x2 : Vec Ideal S2048x256 .bf16) (j : Fin 8)
    (off : Fin 2 → Nat) (inb : ∀ a, off a + S256x256.size a ≤ S2048x256.size a) (h : off = ![256 * j.val, 0]) :
    View.readAt (Elt Ideal) a4.view (Rect.unit (s := S2048x256) off S256x256.size inb).toLoadRect (h4.unread x2) = keys x2 j := by
  subst h
  rw [View.readAt_eq_ld, h4.read_unread]
  funext y
  unfold keys
  refine congrArg x2 (funext fun a => Fin.ext ?_)
  fin_cases a
  · show 256 * j.val + 1 * (y 0).val = 256 * j.val + (y 0).val; omega
  · show 0 + 1 * (y 1).val = (y 1).val; omega

/-- A load of 256 rows at a key block's place reads that block's rotary keys. -/
theorem load_ropes (a5 : Memref sig .tc .vmem S2048x64 .bf16) (h5 : a5.IsWhole) (x3 : Vec Ideal S2048x64 .bf16) (j : Fin 8)
    (off : Fin 2 → Nat) (inb : ∀ a, off a + S256x64.size a ≤ S2048x64.size a) (h : off = ![256 * j.val, 0]) :
    View.readAt (Elt Ideal) a5.view (Rect.unit (s := S2048x64) off S256x64.size inb).toLoadRect (h5.unread x3) = ropes x3 j := by
  subst h
  rw [View.readAt_eq_ld, h5.read_unread]
  funext y
  unfold ropes
  refine congrArg x3 (funext fun a => Fin.ext ?_)
  fin_cases a
  · show 256 * j.val + 1 * (y 0).val = 256 * j.val + (y 0).val; omega
  · show 0 + 1 * (y 1).val = (y 1).val; omega

variable (c : Dev nD) (i : grid0.Coords) (arg2 : Memref sig .tc .vmem S1x8x256x256 .bf16) (harg2 : arg2.IsWhole) (arg3 : Memref sig .tc .vmem S1x8x256x64 .bf16) (harg3 : arg3.IsWhole) (arg4 : Memref sig .tc .vmem S2048x256 .bf16) (harg4 : arg4.IsWhole) (arg5 : Memref sig .tc .vmem S2048x64 .bf16) (harg5 : arg5.IsWhole) (arg6 : Memref sig .tc .vmem S256x2048 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole)
variable (x0 : Vec Ideal S1x8x256x256 .bf16) (x1 : Vec Ideal S1x8x256x64 .bf16) (x2 : Vec Ideal S2048x256 .bf16) (x3 : Vec Ideal S2048x64 .bf16)
variable (G7 : BufTy.Contents (Elt Ideal) arg7.view.ty) (G8 : BufTy.Contents (Elt Ideal) arg8.view.ty) (G9 : BufTy.Contents (Elt Ideal) arg9.view.ty)

/-- The pieces of one trip of the loop over the key blocks. -/
abbrev pieces (k : Fin (k0_t1_loop i).trips) := tripL_k0_t1 (F := Ideal) Variants.none c none i arg2 harg2 arg3 harg3 arg4 harg4 arg5 harg5 arg6
  harg6 arg7 harg7 arg8 harg8 arg9 harg9 x0 x1 (harg4.unread x2) (harg5.unread x3) k G7 G8 G9

/-- One trip leaves the new running maximum, -/
theorem trip_max (k : Fin (k0_t1_loop i).trips) (hk : k.val < 8) :
    arg7.view.read (Elt Ideal) (arg7.view.writes (Elt Ideal) G7
        (pieces c i arg2 harg2 arg3 harg3 arg4 harg4 arg5 harg5 arg6 harg6 arg7 harg7 arg8 harg8 arg9 harg9 x0 x1 x2 x3 G7 G8 G9 k).1)
      = (fold x0 x1 (keys x2 ⟨k, hk⟩) (ropes x3 ⟨k, hk⟩)
        (arg7.view.read (Elt Ideal) G7, arg8.view.read (Elt Ideal) G8, arg9.view.read (Elt Ideal) G9)).1 := by
  unfold pieces tripL_k0_t1 trip_k0_t1 trip_k0_t1.sl.r
  dsimp only
  rw [View.read_writes_full]
  unfold fold
  dsimp only
  simp only [load_col, load_acc, load_keys _ _ _ ⟨k, hk⟩ _ _ (off1 i k), load_ropes _ _ _ ⟨k, hk⟩ _ _ (off2 i k)]

/-- the new sum, -/
theorem trip_sum (k : Fin (k0_t1_loop i).trips) (hk : k.val < 8) :
    arg8.view.read (Elt Ideal) (arg8.view.writes (Elt Ideal) G8
        (pieces c i arg2 harg2 arg3 harg3 arg4 harg4 arg5 harg5 arg6 harg6 arg7 harg7 arg8 harg8 arg9 harg9 x0 x1 x2 x3 G7 G8 G9 k).2.1)
      = (fold x0 x1 (keys x2 ⟨k, hk⟩) (ropes x3 ⟨k, hk⟩)
        (arg7.view.read (Elt Ideal) G7, arg8.view.read (Elt Ideal) G8, arg9.view.read (Elt Ideal) G9)).2.1 := by
  unfold pieces tripL_k0_t1 trip_k0_t1
  dsimp only
  rw [View.read_writes_full]
  unfold fold
  dsimp only
  simp only [load_col, load_acc, load_keys _ _ _ ⟨k, hk⟩ _ _ (off1 i k), load_ropes _ _ _ ⟨k, hk⟩ _ _ (off2 i k)]

/-- and the new weighted sum. -/
theorem trip_acc (k : Fin (k0_t1_loop i).trips) (hk : k.val < 8) :
    arg9.view.read (Elt Ideal) (arg9.view.writes (Elt Ideal) G9
        (pieces c i arg2 harg2 arg3 harg3 arg4 harg4 arg5 harg5 arg6 harg6 arg7 harg7 arg8 harg8 arg9 harg9 x0 x1 x2 x3 G7 G8 G9 k).2.2)
      = (fold x0 x1 (keys x2 ⟨k, hk⟩) (ropes x3 ⟨k, hk⟩)
        (arg7.view.read (Elt Ideal) G7, arg8.view.read (Elt Ideal) G8, arg9.view.read (Elt Ideal) G9)).2.2 := by
  unfold pieces tripL_k0_t1 trip_k0_t1
  dsimp only
  rw [View.read_writes_full]
  unfold fold
  dsimp only
  simp only [load_col, load_acc, load_keys _ _ _ ⟨k, hk⟩ _ _ (off1 i k), load_ropes _ _ _ ⟨k, hk⟩ _ _ (off2 i k)]

/-- The pieces of the first `k` trips. -/
abbrev sofar (k : Nat) := pb_k0_t1 (F := Ideal) Variants.none c none i arg2 harg2 arg3 harg3 arg4 harg4 arg5 harg5 arg6
  harg6 arg7 harg7 arg8 harg8 arg9 harg9 x0 x1 (harg4.unread x2) (harg5.unread x3) G7 G8 G9 k

/-- The scratch buffers after `k` trips hold the state after `k` key blocks. -/
theorem loop (h7 : arg7.view.read (Elt Ideal) G7 = k0_pay15 (F := Ideal)) (h8 : arg8.view.read (Elt Ideal) G8 = k0_pay16 (F := Ideal))
    (h9 : arg9.view.read (Elt Ideal) G9 = k0_pay17 (F := Ideal)) (k : Nat) (hk : k ≤ (k0_t1_loop i).trips) :
    (arg7.view.read (Elt Ideal) (arg7.view.writes (Elt Ideal) G7
      (sofar c i arg2 harg2 arg3 harg3 arg4 harg4 arg5 harg5 arg6 harg6 arg7 harg7 arg8 harg8 arg9 harg9 x0 x1 x2 x3 G7 G8 G9 k).1),
     arg8.view.read (Elt Ideal) (arg8.view.writes (Elt Ideal) G8
      (sofar c i arg2 harg2 arg3 harg3 arg4 harg4 arg5 harg5 arg6 harg6 arg7 harg7 arg8 harg8 arg9 harg9 x0 x1 x2 x3 G7 G8 G9 k).2.1),
     arg9.view.read (Elt Ideal) (arg9.view.writes (Elt Ideal) G9
      (sofar c i arg2 harg2 arg3 harg3 arg4 harg4 arg5 harg5 arg6 harg6 arg7 harg7 arg8 harg8 arg9 harg9 x0 x1 x2 x3 G7 G8 G9 k).2.2))
      = state x0 x1 x2 x3 k := by
  induction k with
  | zero => unfold sofar pb_k0_t1 state; simp only [View.writes_nil, h7, h8, h9]
  | succ k ih =>
    have hk' : k < (k0_t1_loop i).trips := hk
    have h8' : k < 8 := by
      have := t1_trips i
      have h1 : (i 1).val < 8 := (i 1).isLt
      omega
    have ih := ih (Nat.le_of_lt hk')
    unfold state
    rw [dif_pos h8', ← ih]
    have e := pb_k0_t1_succ (F := Ideal) Variants.none c none i arg2 harg2 arg3 harg3 arg4 harg4 arg5 harg5 arg6
      harg6 arg7 harg7 arg8 harg8 arg9 harg9 x0 x1 (harg4.unread x2) (harg5.unread x3) G7 G8 G9 ⟨k, hk'⟩
    dsimp only at e
    unfold sofar
    rw [e]
    simp only [View.writes_append]
    refine Prod.ext ?_ (Prod.ext ?_ ?_)
    · exact trip_max c i arg2 harg2 arg3 harg3 arg4 harg4 arg5 harg5 arg6 harg6 arg7 harg7 arg8 harg8 arg9 harg9 x0 x1 x2 x3 _ _ _ ⟨k, hk'⟩ h8'
    · exact trip_sum c i arg2 harg2 arg3 harg3 arg4 harg4 arg5 harg5 arg6 harg6 arg7 harg7 arg8 harg8 arg9 harg9 x0 x1 x2 x3 _ _ _ ⟨k, hk'⟩ h8'
    · exact trip_acc c i arg2 harg2 arg3 harg3 arg4 harg4 arg5 harg5 arg6 harg6 arg7 harg7 arg8 harg8 arg9 harg9 x0 x1 x2 x3 _ _ _ ⟨k, hk'⟩ h8'

/-- The sum and the weighted sum after the masked block on the diagonal, the block `j`. -/
def sumAt (j : Fin 8) : Vec Ideal S2048x1 .f32 :=
  k0_pay24 (k0_pay13 x0) (k0_pay14 x1) (keys x2 j) (ropes x3 j) (state x0 x1 x2 x3 j).1 (state x0 x1 x2 x3 j).2.1
/-- The weighted sum after the diagonal's block, when `j` blocks lie below it. -/
def accAt (j : Fin 8) : Vec Ideal S2048x256 .f32 :=
  k0_pay25 (k0_pay13 x0) (k0_pay14 x1) (keys x2 j) (ropes x3 j) (state x0 x1 x2 x3 j).1 (state x0 x1 x2 x3 j).2.2

/-- The weighted sum the body ends with. -/
theorem final_acc :
    kernelRun0_A.sl.v69 (F := Ideal) c i arg2 harg2 arg3 harg3 arg4 harg4 arg5 harg5 arg6 harg6 arg7 harg7 arg8 harg8 arg9 harg9 x0 x1 x2 x3
      = accAt x0 x1 x2 x3 (i 1) := by
  have L := loop c i arg2 harg2 arg3 harg3 arg4 harg4 arg5 harg5 arg6 harg6 arg7 harg7 arg8 harg8 arg9 harg9 x0 x1 x2 x3
    (arg7.view.writes (Elt Ideal) arg7.view.junk [⟨Rect.unit ![0, 0] S2048x1.size inb_S2048x1_S2048x1_0_0, k0_pay15 (F := Ideal)⟩])
    (arg8.view.writes (Elt Ideal) arg8.view.junk [⟨Rect.unit ![0, 0] S2048x1.size inb_S2048x1_S2048x1_0_0, k0_pay16 (F := Ideal)⟩])
    (arg9.view.writes (Elt Ideal) arg9.view.junk [⟨Rect.unit ![0, 0] S2048x256.size inb_S2048x256_S2048x256_0_0, k0_pay17 (F := Ideal)⟩])
    (View.read_writes_full _ _ _ _ _) (View.read_writes_full _ _ _ _ _) (View.read_writes_full _ _ _ _ _) (i 1).val (t1_trips i).ge
  sl_unfold_words
  simp only [t2_count, t1_count, pb_k0_t2, List.nil_append, load_q0, load_q1]
  dsimp only [sofar] at L
  generalize pb_k0_t1 (F := Ideal) .. = S at L ⊢
  refine (View.readCov_full _ _ _ _ _).trans ?_
  unfold accAt
  rw [← L]
  congr 1
  · exact load_keys _ _ _ (i 1) _ _ (off5 i)
  · exact load_ropes _ _ _ (i 1) _ _ (off5 i)
  · unfold View.readCov; rw [View.writes_append]; exact load_col _ _ _
  · unfold View.readCov; rw [View.writes_append]; exact load_acc _ _ _

/-- The sum the body ends with. -/
theorem final_sum :
    kernelRun0_A.sl.v70 (F := Ideal) c i arg2 harg2 arg3 harg3 arg4 harg4 arg5 harg5 arg6 harg6 arg7 harg7 arg8 harg8 arg9 harg9 x0 x1 x2 x3
      = sumAt x0 x1 x2 x3 (i 1) := by
  have L := loop c i arg2 harg2 arg3 harg3 arg4 harg4 arg5 harg5 arg6 harg6 arg7 harg7 arg8 harg8 arg9 harg9 x0 x1 x2 x3
    (arg7.view.writes (Elt Ideal) arg7.view.junk [⟨Rect.unit ![0, 0] S2048x1.size inb_S2048x1_S2048x1_0_0, k0_pay15 (F := Ideal)⟩])
    (arg8.view.writes (Elt Ideal) arg8.view.junk [⟨Rect.unit ![0, 0] S2048x1.size inb_S2048x1_S2048x1_0_0, k0_pay16 (F := Ideal)⟩])
    (arg9.view.writes (Elt Ideal) arg9.view.junk [⟨Rect.unit ![0, 0] S2048x256.size inb_S2048x256_S2048x256_0_0, k0_pay17 (F := Ideal)⟩])
    (View.read_writes_full _ _ _ _ _) (View.read_writes_full _ _ _ _ _) (View.read_writes_full _ _ _ _ _) (i 1).val (t1_trips i).ge
  sl_unfold_words
  simp only [t2_count, t1_count, pb_k0_t2, List.nil_append, load_q0, load_q1]
  dsimp only [sofar] at L
  generalize pb_k0_t1 (F := Ideal) .. = S at L ⊢
  refine (View.readCov_full _ _ _ _ _).trans ?_
  unfold sumAt
  rw [← L]
  congr 1
  · exact load_keys _ _ _ (i 1) _ _ (off5 i)
  · exact load_ropes _ _ _ (i 1) _ _ (off5 i)
  · unfold View.readCov; rw [View.writes_append]; exact load_col _ _ _
  · unfold View.readCov; rw [View.writes_append]; exact load_col _ _ _

/-- A head's slice `g` of the rows `G`, entered where the out block's column lies. -/
theorem head_slice (g : Vec Ideal S256x256 .f32) (G : Vec Ideal S2048x256 .f32) (k : Nat) (hk : k < 8)
    (hg : ∀ (r d : Fin 256), g (ix2 r d) = G (ix2 ⟨256 * k + r.val, by omega⟩ d))
    (r : Fin 256) (h : Fin 8) (d : Fin 256) (x : S256x256.Idx)
    (h0 : r.val = (x 0).val) (h1 : 256 * h.val + d.val = 256 * k + (x 1).val) :
    g x = G (ix2 ⟨256 * h.val + r.val, by omega⟩ d) := by
  have b : (x 1).val < 256 := (x 1).isLt
  have e : h.val = k := by omega
  have ed : d.val = (x 1).val := by omega
  have ex : x = ix2 r d := by
    funext a
    match a with
    | ⟨0, _⟩ => exact Fin.ext h0.symm
    | ⟨1, _⟩ => exact Fin.ext ed.symm
  subst e
  exact (congrArg g ex).trans (hg r d)

/-- What the body writes: head `h`'s rows of the quotient, in the columns from `256 h` on. -/
theorem out_heads (r : Fin 256) (h : Fin 8) (d : Fin 256) :
    out0_A_4 (F := Ideal) c i arg2 harg2 arg3 harg3 arg4 harg4 arg5 harg5 arg6 harg6 arg7 harg7 arg8 harg8 arg9 harg9 x0 x1 x2 x3
        (ix2 r ⟨256 * h.val + d.val, by omega⟩)
      = k0_pay27 (accAt x0 x1 x2 x3 (i 1)) (sumAt x0 x1 x2 x3 (i 1)) (ix2 ⟨256 * h.val + r.val, by omega⟩ d) := by
  unfold out0_A_4
  rw [View.read_writes_eq_canon _ _ _ (fun _ => cover0_A_4 ..)]
  unfold kernelRun0_A
  dsimp only
  unfold kernelRun0_A.sl.r_4
  rw [final_acc, final_sum]
  generalize accAt x0 x1 x2 x3 (i 1) = A
  generalize sumAt x0 x1 x2 x3 (i 1) = S
  canon_tiles x hx
  · exact head_slice (k0_pay35 (F := Ideal) A S) (k0_pay27 (F := Ideal) A S) 7 (by omega) (fun r d => by pointwise [k0_pay35]) r h d x hx0 hx1
  · exact head_slice (k0_pay34 (F := Ideal) A S) (k0_pay27 (F := Ideal) A S) 6 (by omega) (fun r d => by pointwise [k0_pay34]) r h d x hx0 hx1
  · exact head_slice (k0_pay33 (F := Ideal) A S) (k0_pay27 (F := Ideal) A S) 5 (by omega) (fun r d => by pointwise [k0_pay33]) r h d x hx0 hx1
  · exact head_slice (k0_pay32 (F := Ideal) A S) (k0_pay27 (F := Ideal) A S) 4 (by omega) (fun r d => by pointwise [k0_pay32]) r h d x hx0 hx1
  · exact head_slice (k0_pay31 (F := Ideal) A S) (k0_pay27 (F := Ideal) A S) 3 (by omega) (fun r d => by pointwise [k0_pay31]) r h d x hx0 hx1
  · exact head_slice (k0_pay30 (F := Ideal) A S) (k0_pay27 (F := Ideal) A S) 2 (by omega) (fun r d => by pointwise [k0_pay30]) r h d x hx0 hx1
  · exact head_slice (k0_pay29 (F := Ideal) A S) (k0_pay27 (F := Ideal) A S) 1 (by omega) (fun r d => by pointwise [k0_pay29]) r h d x hx0 hx1
  · exact head_slice (k0_pay28 (F := Ideal) A S) (k0_pay27 (F := Ideal) A S) 0 (by omega) (fun r d => by pointwise [k0_pay28]) r h d x hx0 (by rw [Nat.mul_zero, Nat.zero_add]; exact hx1)

end Cert.Proof.Attn
end
-- ==== Proof.Online.lean ====
/-
  Running softmax over the extended reals, for one query row: the pair (running maximum, running sums) after some keys
  stands for the unnormalised sums of the weights `exp s` over those keys, whatever real number the maximum is; a key
  masked by minus infinity has weight zero.
-/
module

public import Idealize.ShloMosaic.PureOps.Ideal

@[expose] public section

noncomputable section

namespace Cert.Proof.Online

open Idealize.ShloMosaic

/-- `w` is the weight of the score `x`: `exp x` of a real score, zero of a masked one. -/
def Weight (x : EReal) (w : ℝ) : Prop := (x = ⊥ ∧ w = 0) ∨ ∃ σ : ℝ, x = σ ∧ w = Real.exp σ

/-- A weight is not negative. -/
theorem Weight.nonneg {x : EReal} {w : ℝ} (h : Weight x w) : 0 ≤ w := by
  rcases h with ⟨_, rfl⟩ | ⟨σ, _, rfl⟩
  · exact le_refl _
  · exact (Real.exp_pos σ).le

/-- A score that has a weight is not plus infinity. -/
theorem Weight.ne_top {x : EReal} {w : ℝ} (h : Weight x w) : x ≠ ⊤ := by
  rcases h with ⟨rfl, _⟩ | ⟨σ, rfl, _⟩
  · exact bot_ne_top
  · exact EReal.coe_ne_top σ

/-- Shifting a score by a real number scales its weight. -/
theorem Weight.exp_sub {x : EReal} {w : ℝ} (h : Weight x w) (μ : ℝ) : Ideal.exp (x - (μ : EReal)) = ((w * Real.exp (-μ) : ℝ) : EReal) := by
  rcases h with ⟨rfl, rfl⟩ | ⟨σ, rfl, rfl⟩
  · rw [EReal.bot_sub, Ideal.exp_bot, zero_mul, EReal.coe_zero]
  · rw [← EReal.coe_sub, Ideal.exp_coe, ← Real.exp_add, sub_eq_add_neg]

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of scores without a plus infinity, one of them real, is real. -/
theorem fold_max_real {ι : Type} [Fintype ι] (f : ι → EReal) (ht : ∀ i, f i ≠ ⊤) (i : ι) (hi : f i ≠ ⊥) :
    ∃ μ : ℝ, Finset.univ.fold max ⊥ f = μ := by
  have lt : Finset.univ.fold max ⊥ f < ⊤ := by
    rw [Finset.fold_max_lt]
    exact ⟨bot_lt_top, fun j _ => (ht j).lt_top⟩
  have gt : ⊥ < Finset.univ.fold max ⊥ f := by
    rw [Finset.lt_fold_max]
    exact Or.inr ⟨i, Finset.mem_univ i, bot_lt_iff_ne_bot.mpr hi⟩
  exact ⟨_, (EReal.coe_toReal lt.ne gt.ne').symm⟩

/-- The running maximum `m`, sum `l` and weighted sum `a` stand for the unnormalised sums `L` and `A`. -/
def Stands (m l a : EReal) (L A : ℝ) : Prop :=
  (∃ μ : ℝ, m = μ ∧ l = ((L * Real.exp (-μ) : ℝ) : EReal) ∧ a = ((A * Real.exp (-μ) : ℝ) : EReal))
    ∨ (m = ⊥ ∧ l = 0 ∧ a = 0 ∧ L = 0 ∧ A = 0)

/-- Before any key, the maximum is minus infinity and the sums are zero. -/
theorem stands_start : Stands ⊥ 0 0 0 0 := Or.inr ⟨rfl, rfl, rfl, rfl, rfl⟩

/-- One block of keys, with scores `s`, weights `w` and values `v`, taken into the running maximum and sums. -/
theorem stands_step {ι : Type} [Fintype ι] (m l a : EReal) (L A : ℝ) (h : Stands m l a L A) (s : ι → EReal) (w : ι → ℝ)
    (hw : ∀ i, Weight (s i) (w i)) (i : ι) (hi : s i ≠ ⊥) (v : ι → ℝ) :
    Stands (max m (Finset.univ.fold max ⊥ s))
      (Ideal.exp (m - max m (Finset.univ.fold max ⊥ s)) * l + ∑ i, Ideal.exp (s i - max m (Finset.univ.fold max ⊥ s)))
      (Ideal.exp (m - max m (Finset.univ.fold max ⊥ s)) * a + ∑ i, Ideal.exp (s i - max m (Finset.univ.fold max ⊥ s)) * (v i : EReal))
      (L + ∑ i, w i) (A + ∑ i, w i * v i) := by
  obtain ⟨ν, hν⟩ := fold_max_real s (fun i => (hw i).ne_top) i hi
  have new : ∃ μ : ℝ, max m (Finset.univ.fold max ⊥ s) = μ := by
    rw [hν]
    rcases h with ⟨μ, rfl, _⟩ | ⟨rfl, _⟩
    · exact ⟨max μ ν, (EReal.coe_strictMono.monotone.map_max).symm⟩
    · exact ⟨ν, max_eq_right bot_le⟩
  obtain ⟨μ', hμ⟩ := new
  rw [hμ]
  left
  refine ⟨μ', rfl, ?_, ?_⟩
  · simp only [(hw _).exp_sub μ', ← coe_sum, ← Finset.sum_mul]
    rcases h with ⟨μ, rfl, rfl, rfl⟩ | ⟨rfl, rfl, rfl, rfl, rfl⟩
    · rw [← EReal.coe_sub, Ideal.exp_coe, ← EReal.coe_mul, ← EReal.coe_add, add_mul]
      congr 2
      rw [mul_left_comm, ← Real.exp_add]
      congr 2; ring
    · rw [mul_zero, zero_add, zero_add]
  · simp only [(hw _).exp_sub μ', ← EReal.coe_mul, ← coe_sum]
    have e : ∀ i, w i * Real.exp (-μ') * v i = w i * v i * Real.exp (-μ') := fun i => by ring
    simp only [e, ← Finset.sum_mul]
    rcases h with ⟨μ, rfl, rfl, rfl⟩ | ⟨rfl, rfl, rfl, rfl, rfl⟩
    · rw [← EReal.coe_sub, Ideal.exp_coe, ← EReal.coe_mul, ← EReal.coe_add, add_mul]
      congr 2
      rw [mul_left_comm, ← Real.exp_add]
      congr 2; ring
    · rw [mul_zero, zero_add, zero_add]

/-- What the running sums are divided to in the end. -/
theorem stands_div (m l a : EReal) (L A : ℝ) (h : Stands m l a L A) (hL : L ≠ 0) : Ideal.div a l = ((A / L : ℝ) : EReal) := by
  rcases h with ⟨μ, rfl, rfl, rfl⟩ | ⟨_, _, _, h0, _⟩
  · have e := Real.exp_pos (-μ)
    rw [Ideal.div_coe (mul_ne_zero hL e.ne'), ← EReal.coe_mul]
    congr 1
    field_simp
  · exact absurd h0 hL

/-- Softmax over all keys at once: the maximum drops out, and the weighted sum of the values is the same quotient. -/
theorem softmax {ι : Type} [Fintype ι] (s : ι → EReal) (w : ι → ℝ) (hw : ∀ i, Weight (s i) (w i)) (i : ι) (hi : s i ≠ ⊥) (v : ι → ℝ)
    (hL : ∑ i, w i ≠ 0) :
    ∑ i, (v i : EReal) * Ideal.div (Ideal.exp (s i - max ⊥ (Finset.univ.fold max ⊥ s)))
        (∑ j, Ideal.exp (s j - max ⊥ (Finset.univ.fold max ⊥ s)))
      = (((∑ i, w i * v i) / ∑ i, w i : ℝ) : EReal) := by
  obtain ⟨μ, hμ⟩ := fold_max_real s (fun i => (hw i).ne_top) i hi
  have e := Real.exp_pos (-μ)
  rw [max_eq_right bot_le, hμ]
  simp only [(hw _).exp_sub μ, ← coe_sum, ← Finset.sum_mul]
  simp only [Ideal.div_coe (mul_ne_zero hL e.ne'), ← EReal.coe_mul, ← coe_sum]
  congr 1
  rw [Finset.sum_div]
  refine Finset.sum_congr rfl fun j _ => ?_
  field_simp

end Cert.Proof.Online

end
-- ==== Proof.AttnSpec.lean ====
/-
  Causal attention of one query over the reals: scaled scores, weights, and the weighted mean of the latents.
-/
module

public import proofs.«01_k».proof.Proof.Online
public import Idealize.ShloMosaic.Lib.Pipeline.ValueKit

@[expose] public section

noncomputable section

namespace Cert.Proof.Attn

open Idealize.ShloMosaic

/-- The f32 word of minus infinity. -/
theorem bits_ninf : Ideal.ofBits .f32 0xFF800000#32 = ⊥ := by
  simp [Ideal.ofBits, Ideal.ieee, -EReal.coe_mul]
/-- The f32 word of infinity. -/
theorem bits_inf : Ideal.ofBits .f32 0x7F800000#32 = ⊤ := by
  simp [Ideal.ofBits, Ideal.ieee, -EReal.coe_mul]
/-- The f32 word of 192. -/
theorem bits_192 : Ideal.ofBits .f32 0x43400000#32 = ((192 : ℝ) : EReal) := by
  simp [Ideal.ofBits, Ideal.ieee, -EReal.coe_mul]; norm_num

/-- The array row of position `s` of sequence `n`. -/
def seqRow (n : Fin 8) (s : Fin 2048) : Fin 16384 := ⟨n.val * 2048 + s.val, by omega⟩

/-- The array column of entry `d` of head `h`. -/
def headCol (h : Fin 8) (d : Fin 256) : Fin 2048 := ⟨256 * h.val + d.val, by omega⟩

variable (a : Fin 256 → ℝ) (b : Fin 64 → ℝ) (c : Fin 2048 → Fin 256 → ℝ) (e : Fin 2048 → Fin 64 → ℝ)

/-- Scaled score of a query (latent part `a`, rotary part `b`) against key `s` (latent `c s`, rotary key `e s`). -/
@[irreducible] def score (s : Fin 2048) : ℝ := (∑ k, a k * c s k + ∑ k, b k * e s k) * (Real.sqrt 192)⁻¹

/-- Weight of key `s` for the query at position `T`: nothing past the query's own position. -/
@[irreducible] def wt (T : Nat) (s : Fin 2048) : ℝ := if s.val ≤ T then Real.exp (score a b c e s) else 0

/-- Entry `d` of the attention's result. -/
@[irreducible] def att (T : Nat) (d : Fin 256) : ℝ := (∑ s, wt a b c e T s * c s d) / ∑ s, wt a b c e T s

/-- A key's weight is not negative. -/
theorem wt_nonneg (T : Nat) (s : Fin 2048) : 0 ≤ wt a b c e T s := by
  unfold wt
  split
  · exact (Real.exp_pos _).le
  · exact le_refl _

/-- The weights don't sum to zero: the row's own key counts. -/
theorem wt_sum (T : Nat) : ∑ s, wt a b c e T s ≠ 0 := by
  refine (Finset.sum_pos' (fun s _ => wt_nonneg a b c e T s) ⟨0, Finset.mem_univ _, ?_⟩).ne'
  unfold wt
  rw [if_pos (show ((0 : Fin 2048) : Nat) ≤ T from Nat.zero_le T)]
  exact Real.exp_pos _

/-- A key past the row has no weight. -/
theorem wt_past (T : Nat) (s : Fin 2048) (h : T < s.val) : wt a b c e T s = 0 := by
  unfold wt
  rw [if_neg (by omega)]

/-- The scaled products are the real score. -/
theorem sig_coe (s : Fin 2048) : (((∑ k, a k * c s k + ∑ k, b k * e s k) * (Real.sqrt 192)⁻¹ : ℝ) : EReal) = score a b c e s := by
  unfold score; rfl

/-- The score as it is computed over the extended reals. -/
theorem sig_prod (s : Fin 2048) :
    (∑ k, (a k : EReal) * (c s k : EReal) + ∑ k, (b k : EReal) * (e s k : EReal)) * (((Real.sqrt 192)⁻¹ : ℝ) : EReal) = score a b c e s := by
  rw [← sig_coe, EReal.coe_mul, EReal.coe_add, Online.coe_sum, Online.coe_sum]
  simp only [EReal.coe_mul]

/-- The products over the root of 192 are the real score. -/
theorem sig_div (s : Fin 2048) :
    Ideal.div (∑ k, (a k : EReal) * (c s k : EReal) + ∑ k, (b k : EReal) * (e s k : EReal)) (Ideal.sqrt (Ideal.ofBits .f32 0x43400000#32))
      = score a b c e s := by
  rw [bits_192, Ideal.sqrt_coe, if_neg (by norm_num), Ideal.div_coe (by positivity), one_div, sig_prod]

/-- A real score is the weight's up to the query's position. -/
theorem weight_sig (T : Nat) (s : Fin 2048) (h : s.val ≤ T) : Online.Weight (score a b c e s : EReal) (wt a b c e T s) := by
  unfold wt
  rw [if_pos h]
  exact Or.inr ⟨_, rfl, rfl⟩

/-- The weights and weighted values of key block `j`, and of the first `n` key blocks. -/
def sumBlk (f : Fin 2048 → ℝ) (j : Nat) : ℝ := if h : j < 8 then ∑ s : Fin 256, f ⟨256 * j + s.val, by omega⟩ else 0
/-- The sum over the first `n` blocks of keys. -/
def sumTo (f : Fin 2048 → ℝ) (n : Nat) : ℝ := ∑ j ∈ Finset.range n, sumBlk f j

/-- The sum over no block. -/
theorem sumTo_zero (f : Fin 2048 → ℝ) : sumTo f 0 = 0 := rfl
/-- One block more. -/
theorem sumTo_succ (f : Fin 2048 → ℝ) (n : Nat) : sumTo f (n + 1) = sumTo f n + sumBlk f n := Finset.sum_range_succ _ _

/-- Blocks past the last one that counts add nothing. -/
theorem sumTo_eq (f : Fin 2048 → ℝ) (j : Fin 8) (hf : ∀ s : Fin 2048, 256 * (j.val + 1) ≤ s.val → f s = 0) :
    sumTo f (j.val + 1) = ∑ s, f s := by
  have all : ∑ s, f s = sumTo f 8 := by
    unfold sumTo
    rw [← Fin.sum_univ_eq_sum_range (sumBlk f) 8, ← Fin.sum_mul_add_fin (L := 2048) 8 256 f rfl]
    refine Finset.sum_congr rfl fun i _ => ?_
    unfold sumBlk
    rw [dif_pos i.isLt]
    refine Finset.sum_congr rfl fun s _ => ?_
    congr 1
    exact Fin.ext (by show i.val * 256 + s.val = 256 * i.val + s.val; omega)
  rw [all]
  refine Finset.sum_subset (Finset.range_subset_range.mpr (by omega)) fun k hk hn => ?_
  rw [Finset.mem_range] at hk hn
  unfold sumBlk
  rw [dif_pos hk]
  exact Finset.sum_eq_zero fun s _ => hf _ (by show 256 * (j.val + 1) ≤ 256 * k + s.val; omega)

end Cert.Proof.Attn

end
-- ==== Proof.AttnPay.lean ====
/-
  The attention kernel's block computations read at one entry over the extended reals, and what they do to the running
  maximum and sums.
-/
module

public import proofs.«01_k».proof.Proof.AttnPoint
public import proofs.«01_k».proof.Proof.AttnSpec

@[expose] public section

set_option maxRecDepth 16384

noncomputable section

namespace Cert.Proof.Attn

open Cert.AttnIdeal Cert.AttnIdeal.Gen Idealize.ShloMosaic Idealize.ShloMosaic.TcCoe

section payloads

variable (q : Vec Ideal S2048x256 .bf16) (u : Vec Ideal S2048x64 .bf16) (kb : Vec Ideal S256x256 .bf16) (rb : Vec Ideal S256x64 .bf16)
  (m l : Vec Ideal S2048x1 .f32) (acc : Vec Ideal S2048x256 .f32) (R : Fin 2048) (s : Fin 256) (d : Fin 256)

/-- The scale read as the inverse root of 192. -/
theorem scale_eq : Named.named (F := Ideal) (φ := .f32) κ "scale" 0x3D93CD3A#32 = (((Real.sqrt 192)⁻¹ : ℝ) : EReal) := rfl
/-- The mask read as minus infinity. -/
theorem mask_eq : Named.named (F := Ideal) (φ := .f32) κ "mask" 0xF149F2CA#32 = (⊥ : EReal) := rfl

/-- Scores of a key block below the diagonal. -/
theorem score_apply : k0_pay1 (F := Ideal) q u kb rb (ix2 R s)
    = (∑ k, q (ix2 R k) * kb (ix2 s k) + ∑ k, u (ix2 R k) * rb (ix2 s k)) * (((Real.sqrt 192)⁻¹ : ℝ) : EReal) := by
  pointwise [k0_pay1]
  rw [← scale_eq]

/-- Scores of the key block on the diagonal. -/
theorem masked_apply : k0_pay20 (F := Ideal) q u kb rb (ix2 R s)
    = Scalar.select (IntOp.cmpi CmpIPredicate.sle (BitVec.ofNat 32 s.val) (BitVec.ofNat 32 (R.val % 256)))
        ((∑ k, q (ix2 R k) * kb (ix2 s k) + ∑ k, u (ix2 R k) * rb (ix2 s k)) * (((Real.sqrt 192)⁻¹ : ℝ) : EReal)) ⊥ := by
  pointwise [k0_pay20]
  rw [← scale_eq, ← mask_eq]

/-- The running maximum after a block below the diagonal. -/
theorem max_apply : k0_pay18 (k0_pay2 (F := Ideal) q u kb rb m) (ix2 R 0)
    = max (m (ix2 R 0)) (Finset.univ.fold max ⊥ fun s => k0_pay1 (F := Ideal) q u kb rb (ix2 R s)) := by
  pointwise [k0_pay18, k0_pay2]
  rw [bits_ninf]

/-- The running sum after a block below the diagonal: the old one rescaled, plus the block's exponentials. -/
theorem sum_apply : k0_pay5 (F := Ideal) q u kb rb m l (ix2 R 0)
    = Ideal.exp (m (ix2 R 0) - k0_pay18 (k0_pay2 (F := Ideal) q u kb rb m) (ix2 R 0)) * l (ix2 R 0)
      + ∑ s, Ideal.exp (k0_pay1 (F := Ideal) q u kb rb (ix2 R s) - k0_pay18 (k0_pay2 (F := Ideal) q u kb rb m) (ix2 R 0)) := by
  pointwise [k0_pay5, k0_pay3, k0_pay4, k0_pay18]

/-- The weighted sum after a block below the diagonal: the old one rescaled, plus the block's weighted latents. -/
theorem acc_apply : k0_pay6 (F := Ideal) q u kb rb m acc (ix2 R d)
    = Ideal.exp (m (ix2 R 0) - k0_pay18 (k0_pay2 (F := Ideal) q u kb rb m) (ix2 R 0)) * acc (ix2 R d)
      + ∑ s, Ideal.exp (k0_pay1 (F := Ideal) q u kb rb (ix2 R s) - k0_pay18 (k0_pay2 (F := Ideal) q u kb rb m) (ix2 R 0)) * kb (ix2 s d) := by
  pointwise [k0_pay6, k0_pay3, k0_pay4, k0_pay18]

/-- The running maximum after the block on the diagonal. -/
theorem max_last : k0_pay21 (F := Ideal) q u kb rb m (ix2 R 0)
    = max (m (ix2 R 0)) (Finset.univ.fold max ⊥ fun s => k0_pay20 (F := Ideal) q u kb rb (ix2 R s)) := by
  pointwise [k0_pay21]
  rw [bits_ninf]

/-- The running sum after the block on the diagonal. -/
theorem sum_last : k0_pay24 (F := Ideal) q u kb rb m l (ix2 R 0)
    = Ideal.exp (m (ix2 R 0) - k0_pay21 (F := Ideal) q u kb rb m (ix2 R 0)) * l (ix2 R 0)
      + ∑ s, Ideal.exp (k0_pay20 (F := Ideal) q u kb rb (ix2 R s) - k0_pay21 (F := Ideal) q u kb rb m (ix2 R 0)) := by
  pointwise [k0_pay24, k0_pay22, k0_pay23]

/-- The weighted sum after the block on the diagonal. -/
theorem acc_last : k0_pay25 (F := Ideal) q u kb rb m acc (ix2 R d)
    = Ideal.exp (m (ix2 R 0) - k0_pay21 (F := Ideal) q u kb rb m (ix2 R 0)) * acc (ix2 R d)
      + ∑ s, Ideal.exp (k0_pay20 (F := Ideal) q u kb rb (ix2 R s) - k0_pay21 (F := Ideal) q u kb rb m (ix2 R 0)) * kb (ix2 s d) := by
  pointwise [k0_pay25, k0_pay22, k0_pay23]

/-- What the body stores: the weighted sum over the running sum of its row. -/
theorem quotient_apply : k0_pay27 (F := Ideal) acc l (ix2 R d) = Ideal.div (acc (ix2 R d)) (l (ix2 R 0)) := by
  pointwise [k0_pay27]

/-- The running maximum starts at minus infinity. -/
theorem start_max : k0_pay15 (F := Ideal) (ix2 R 0) = (⊥ : EReal) := by
  pointwise [k0_pay15]
  rw [← mask_eq]
/-- The running sum starts at zero. -/
theorem start_sum : k0_pay16 (F := Ideal) (ix2 R 0) = (0 : EReal) := by
  pointwise [k0_pay16]
/-- The weighted sum starts at zero. -/
theorem start_acc : k0_pay17 (F := Ideal) (ix2 R d) = (0 : EReal) := by
  pointwise [k0_pay17]

/-- The rows of a head's queries, latent part, in the heads laid below one another. -/
theorem q_row (x0 : Vec Ideal S1x8x256x256 .bf16) (h : Fin 8) (r k : Fin 256) :
    k0_pay13 (F := Ideal) x0 (ix2 ⟨256 * h.val + r.val, by omega⟩ k) = x0 (ix4 0 h r k) := by
  pointwise [k0_pay13]
/-- The rows of a head's queries, rotary part, in the heads laid below one another. -/
theorem u_row (x1 : Vec Ideal S1x8x256x64 .bf16) (h : Fin 8) (r : Fin 256) (k : Fin 64) :
    k0_pay14 (F := Ideal) x1 (ix2 ⟨256 * h.val + r.val, by omega⟩ k) = x1 (ix4 0 h r k) := by
  pointwise [k0_pay14]

end payloads

end Cert.Proof.Attn

end
-- ==== Proof.AttnRow.lean ====
/-
  One row of the attention kernel's quotient is the causal attention of that query, when the blocks' entries are real.
-/
module

public import proofs.«01_k».proof.Proof.AttnPay
public import Idealize.ShloMosaic.Lib.WordCmp

@[expose] public section

set_option maxRecDepth 16384

noncomputable section

namespace Cert.Proof.Attn

open Cert.AttnIdeal Cert.AttnIdeal.Gen Idealize.ShloMosaic Idealize.ShloMosaic.TcCoe

/-- A key block below the diagonal, taken into the running sums of row `R`. -/
theorem fold_stands (x0 : Vec Ideal S1x8x256x256 .bf16) (x1 : Vec Ideal S1x8x256x64 .bf16) (kb : Vec Ideal S256x256 .bf16)
    (rb : Vec Ideal S256x64 .bf16) (st : St) (R : Fin 2048) (d : Fin 256) (L A : ℝ) (w v : Fin 256 → ℝ)
    (h : Online.Stands (st.1 (ix2 R 0)) (st.2.1 (ix2 R 0)) (st.2.2 (ix2 R d)) L A)
    (hw : ∀ s, Online.Weight (k0_pay1 (F := Ideal) (k0_pay13 x0) (k0_pay14 x1) kb rb (ix2 R s)) (w s))
    (hr : k0_pay1 (F := Ideal) (k0_pay13 x0) (k0_pay14 x1) kb rb (ix2 R 0) ≠ ⊥)
    (hv : ∀ s, kb (ix2 s d) = ((v s : ℝ) : EReal)) :
    Online.Stands ((fold x0 x1 kb rb st).1 (ix2 R 0)) ((fold x0 x1 kb rb st).2.1 (ix2 R 0)) ((fold x0 x1 kb rb st).2.2 (ix2 R d))
      (L + ∑ s, w s) (A + ∑ s, w s * v s) := by
  unfold fold
  dsimp only
  rw [sum_apply, acc_apply, max_apply]
  simp only [hv]
  exact Online.stands_step _ _ _ _ _ h _ w hw 0 hr v

/-- The key block on the diagonal. -/
theorem last_stands (x0 : Vec Ideal S1x8x256x256 .bf16) (x1 : Vec Ideal S1x8x256x64 .bf16) (kb : Vec Ideal S256x256 .bf16)
    (rb : Vec Ideal S256x64 .bf16) (st : St) (R : Fin 2048) (d : Fin 256) (L A : ℝ) (w v : Fin 256 → ℝ)
    (h : Online.Stands (st.1 (ix2 R 0)) (st.2.1 (ix2 R 0)) (st.2.2 (ix2 R d)) L A)
    (hw : ∀ s, Online.Weight (k0_pay20 (F := Ideal) (k0_pay13 x0) (k0_pay14 x1) kb rb (ix2 R s)) (w s))
    (hr : k0_pay20 (F := Ideal) (k0_pay13 x0) (k0_pay14 x1) kb rb (ix2 R 0) ≠ ⊥)
    (hv : ∀ s, kb (ix2 s d) = ((v s : ℝ) : EReal)) :
    Online.Stands (k0_pay21 (F := Ideal) (k0_pay13 x0) (k0_pay14 x1) kb rb st.1 (ix2 R 0))
      (k0_pay24 (F := Ideal) (k0_pay13 x0) (k0_pay14 x1) kb rb st.1 st.2.1 (ix2 R 0))
      (k0_pay25 (F := Ideal) (k0_pay13 x0) (k0_pay14 x1) kb rb st.1 st.2.2 (ix2 R d))
      (L + ∑ s, w s) (A + ∑ s, w s * v s) := by
  rw [sum_last, acc_last, max_last]
  simp only [hv]
  exact Online.stands_step _ _ _ _ _ h _ w hw 0 hr v

section row

variable (x0 : Vec Ideal S1x8x256x256 .bf16) (x1 : Vec Ideal S1x8x256x64 .bf16) (x2 : Vec Ideal S2048x256 .bf16) (x3 : Vec Ideal S2048x64 .bf16)
  (j h : Fin 8) (r : Fin 256)
  (a : Fin 256 → ℝ) (b : Fin 64 → ℝ) (c : Fin 2048 → Fin 256 → ℝ) (e : Fin 2048 → Fin 64 → ℝ)
  (h0 : ∀ k, x0 (ix4 0 h r k) = ((a k : ℝ) : EReal)) (h1 : ∀ k, x1 (ix4 0 h r k) = ((b k : ℝ) : EReal))
  (h2 : ∀ s k, x2 (ix2 s k) = ((c s k : ℝ) : EReal)) (h3 : ∀ s k, x3 (ix2 s k) = ((e s k : ℝ) : EReal))

/-- The row of head `h`, query `r`. -/
def rowAt (h : Fin 8) (r : Fin 256) : Fin 2048 := ⟨256 * h.val + r.val, by omega⟩
/-- Key `s` of key block `n`. -/
def keyAt (n : Fin 8) (s : Fin 256) : Fin 2048 := ⟨256 * n.val + s.val, by omega⟩

include h0 h1 h2 h3 in
/-- On finite operands a score below the diagonal is the real score. -/
theorem score_real (n : Fin 8) (s : Fin 256) :
    k0_pay1 (F := Ideal) (k0_pay13 x0) (k0_pay14 x1) (keys x2 n) (ropes x3 n) (ix2 (rowAt h r) s) = score a b c e (keyAt n s) := by
  rw [score_apply, ← sig_prod]
  unfold rowAt
  simp only [q_row, u_row, h0, h1]
  have ek : ∀ k, keys x2 n (ix2 s k) = ((c (keyAt n s) k : ℝ) : EReal) := fun k => h2 _ _
  have er : ∀ k, ropes x3 n (ix2 s k) = ((e (keyAt n s) k : ℝ) : EReal) := fun k => h3 _ _
  simp only [ek, er]

include h0 h1 h2 h3 in
/-- On finite operands a score of the diagonal's block is the real score up to the diagonal and minus infinity past it. -/
theorem masked_real (n : Fin 8) (s : Fin 256) :
    k0_pay20 (F := Ideal) (k0_pay13 x0) (k0_pay14 x1) (keys x2 n) (ropes x3 n) (ix2 (rowAt h r) s)
      = if s.val ≤ r.val then ((score a b c e (keyAt n s) : ℝ) : EReal) else ⊥ := by
  have hm : (rowAt h r).val % 256 = r.val := by show (256 * h.val + r.val) % 256 = r.val; omega
  have sc := score_real x0 x1 x2 x3 h r a b c e h0 h1 h2 h3 n s
  rw [score_apply] at sc
  rw [masked_apply, sc, hm, WordCmp.cmpi_sle_ofNat (by omega) (by omega), WordCmp.select_ofBool]
  simp only [decide_eq_true_eq]

include h0 h1 h2 h3 in
/-- The state after `n` key blocks below the diagonal. -/
theorem state_stands (d : Fin 256) (n : Nat) (hn : n ≤ j.val) :
    Online.Stands ((state x0 x1 x2 x3 n).1 (ix2 (rowAt h r) 0)) ((state x0 x1 x2 x3 n).2.1 (ix2 (rowAt h r) 0))
      ((state x0 x1 x2 x3 n).2.2 (ix2 (rowAt h r) d))
      (sumTo (wt a b c e (256 * j.val + r.val)) n) (sumTo (fun s => wt a b c e (256 * j.val + r.val) s * c s d) n) := by
  induction n with
  | zero =>
    unfold state
    dsimp only
    rw [start_max, start_sum, start_acc, sumTo_zero, sumTo_zero]
    exact Online.stands_start
  | succ n ih =>
    have hn8 : n < 8 := by omega
    unfold state
    rw [dif_pos hn8, sumTo_succ, sumTo_succ]
    unfold sumBlk
    rw [dif_pos hn8, dif_pos hn8]
    refine fold_stands x0 x1 _ _ _ _ d _ _ (fun s => wt a b c e (256 * j.val + r.val) (keyAt ⟨n, hn8⟩ s))
      (fun s => c (keyAt ⟨n, hn8⟩ s) d) (ih (by omega)) (fun s => ?_) ?_ (fun s => ?_)
    · rw [score_real x0 x1 x2 x3 h r a b c e h0 h1 h2 h3]
      exact weight_sig a b c e _ _ (by show 256 * n + s.val ≤ _; omega)
    · rw [score_real x0 x1 x2 x3 h r a b c e h0 h1 h2 h3]
      exact EReal.coe_ne_bot _
    · unfold keys keyAt
      exact h2 _ _

include h0 h1 h2 h3 in
/-- The quotient's entry. -/
theorem row_value (d : Fin 256) :
    k0_pay27 (accAt x0 x1 x2 x3 j) (sumAt x0 x1 x2 x3 j) (ix2 (rowAt h r) d) = att a b c e (256 * j.val + r.val) d := by
  rw [quotient_apply]
  have key := last_stands x0 x1 (keys x2 j) (ropes x3 j) (state x0 x1 x2 x3 j.val) (rowAt h r) d _ _
    (fun s => wt a b c e (256 * j.val + r.val) (keyAt j s)) (fun s => c (keyAt j s) d)
    (state_stands x0 x1 x2 x3 j h r a b c e h0 h1 h2 h3 d j.val (Nat.le_refl _)) (fun s => by
      rw [masked_real x0 x1 x2 x3 h r a b c e h0 h1 h2 h3]
      split
      · exact weight_sig a b c e _ _ (by show 256 * j.val + s.val ≤ _; omega)
      · exact Or.inl ⟨rfl, wt_past a b c e _ _ (by show _ < 256 * j.val + s.val; omega)⟩) (by
      rw [masked_real x0 x1 x2 x3 h r a b c e h0 h1 h2 h3, if_pos (show ((0 : Fin 256) : Nat) ≤ r.val from Nat.zero_le _)]
      exact EReal.coe_ne_bot _) (fun s => by
      unfold keys keyAt
      exact h2 _ _)
  have e1 := sumTo_succ (wt a b c e (256 * j.val + r.val)) j.val
  have e2 := sumTo_succ (fun s => wt a b c e (256 * j.val + r.val) s * c s d) j.val
  rw [sumTo_eq _ j (fun s hs => wt_past a b c e _ _ (by omega))] at e1
  rw [sumTo_eq _ j (fun s hs => by rw [wt_past a b c e _ _ (by omega), zero_mul])] at e2
  unfold sumBlk at e1 e2
  rw [dif_pos j.isLt] at e1 e2
  unfold accAt sumAt att
  rw [e1, e2]
  refine Online.stands_div _ _ _ _ _ key ?_
  exact e1 ▸ wt_sum a b c e _

end row

end Cert.Proof.Attn

end
-- ==== Proof.AttnRef.lean ====
/-
  The attention reference read entry by entry: masked scores, softmax over all keys, weighted sum of the latents.
-/
module

public import proofs.«01_k».proof.Proof.Gen.AttnRefIdeal.Read
public import Idealize.ShloMosaic.Lib.Pointwise

@[expose] public section

set_option maxRecDepth 16384

noncomputable section

namespace Cert.Proof.Attn

open Cert.AttnRefIdeal Cert.AttnRefIdeal.Read Idealize.ShloMosaic

variable (q : Vec Ideal S8x8x2048x256 .bf16) (u : Vec Ideal S8x8x2048x64 .bf16) (kv : Vec Ideal S16384x256 .bf16) (kr : Vec Ideal S16384x64 .bf16)
/-- The host's maximum along the last axis. -/
theorem rowMax {a b c d : Nat} (y : Vec Ideal ⟨4, ![a, b, c, d]⟩ .f32) (z : Vec Ideal ⟨0, ![]⟩ .f32)
    (h : (⟨4, ![a, b, c, d]⟩ : Shape).ReducesTo [3] ⟨3, ![a, b, c]⟩) (hu : 0 < (⟨0, ![]⟩ : Shape).numel) (i : Fin a) (j : Fin b) (k : Fin c) :
    Host.reduce (FloatOps.maximumf (F := Ideal) (φ := .f32)) y z h hu (ix3 i j k)
      = Finset.univ.fold max (z (Shape.Idx.first hu)) fun s : Fin d => y (ix4 i j k s) := by
  rw [Host.reduce_eq_fold]
  exact h.fold_fiber_r4_a3 (ix3 i j k) _ _ _

/-- Masked score of query `t` against key `s`. -/
theorem ref_score (n h : Fin 8) (t s : Fin 2048) :
    val_main_v19 (F := Ideal) q u kv kr (ix4 n h t s)
      = Scalar.select (IntOp.cmpi CmpIPredicate.sle (BitVec.ofNat 32 s.val) (BitVec.ofNat 32 t.val))
          (Ideal.div (∑ k, q (ix4 n h t k) * kv (ix2 ⟨n.val * 2048 + s.val, by omega⟩ k)
            + ∑ k, u (ix4 n h t k) * kr (ix2 ⟨n.val * 2048 + s.val, by omega⟩ k)) (Ideal.sqrt (Ideal.ofBits .f32 0x43400000#32)))
          (Ideal.ofBits .f32 0xFF800000#32) := by
  pointwise [val_main_v19, val_main_v11, val_main_v10, val_main_v9, val_main_cst, val_main_v8, val_main_v7, val_main_v6, val_main_v5, val_main_v4,
    val_main_v3, val_main_v2, val_main_v1, val_main_v0, val_main_call0_v2, val_main_call0_v1, val_main_call0_v0, val_main_cst_0,
    val_main_v18, val_main_v17, val_main_v16, val_main_v15, val_main_v14, val_main_v13, val_main_v12]
  rfl

/-- The reference's maximum of a row's scores. -/
theorem ref_max (n h : Fin 8) (t : Fin 2048) :
    val_main_v22 (F := Ideal) q u kv kr (ix3 n h t) = max (Ideal.ofBits .f32 0xFF800000#32)
      (Finset.univ.fold max (Ideal.ofBits .f32 0xFF800000#32) fun s => val_main_v19 (F := Ideal) q u kv kr (ix4 n h t s)) := by
  rw [val_main_v22_apply, val_main_v21_apply]
  unfold val_main_v20
  generalize val_main_v19 (F := Ideal) q u kv kr = y
  exact congrArg (max (Ideal.ofBits .f32 0xFF800000#32)) (rowMax y _ _ _ n h t)

/-- The reference's exponential of a score less the row's maximum. -/
theorem ref_exp (n h : Fin 8) (t s : Fin 2048) :
    val_main_v26 (F := Ideal) q u kv kr (ix4 n h t s)
      = Ideal.exp (val_main_v19 (F := Ideal) q u kv kr (ix4 n h t s) - val_main_v22 (F := Ideal) q u kv kr (ix3 n h t)) := by
  unfold val_main_v26 val_main_v25 val_main_v24 val_main_v23
  generalize val_main_v19 (F := Ideal) q u kv kr = y
  generalize val_main_v22 (F := Ideal) q u kv kr = z
  pointwise []

/-- The reference's probability: an exponential over the row's sum of them. -/
theorem ref_prob (n h : Fin 8) (t s : Fin 2048) :
    val_main_v30 (F := Ideal) q u kv kr (ix4 n h t s)
      = Ideal.div (val_main_v26 (F := Ideal) q u kv kr (ix4 n h t s)) (∑ s, val_main_v26 (F := Ideal) q u kv kr (ix4 n h t s)) := by
  unfold val_main_v30 val_main_v29 val_main_v28 val_main_v27 val_main_cst_3
  generalize val_main_v26 (F := Ideal) q u kv kr = y
  pointwise []

/-- The reference's sum of the latents weighted by the probabilities. -/
theorem ref_ctx (n h : Fin 8) (t : Fin 2048) (d : Fin 256) :
    val_main_v32 (F := Ideal) q u kv kr (ix4 n t h d)
      = ∑ s : Fin 2048, kv (ix2 ⟨n.val * 2048 + s.val, by omega⟩ d) * val_main_v30 (F := Ideal) q u kv kr (ix4 n h t s) := by
  unfold val_main_v32 val_main_v31 val_main_v1 val_main_v0
  generalize val_main_v30 (F := Ideal) q u kv kr = y
  pointwise []

/-- The reference's result has the heads side by side in its columns. -/
theorem ref_out (n : Fin 8) (h : Fin 8) (t : Fin 2048) (d : Fin 256) :
    val_main_v34 (F := Ideal) q u kv kr (ix2 ⟨n.val * 2048 + t, by omega⟩ ⟨256 * h.val + d.val, by omega⟩)
      = val_main_v32 (F := Ideal) q u kv kr (ix4 n t h d) := by
  unfold val_main_v34 val_main_v33
  generalize val_main_v32 (F := Ideal) q u kv kr = y
  pointwise []

end Cert.Proof.Attn

end
-- ==== Proof.AttnRefValue.lean ====
/-
  The attention reference's entry is the causal attention of its query, when the operands' entries are real.
-/
module

public import proofs.«01_k».proof.Proof.AttnRef
public import proofs.«01_k».proof.Proof.AttnSpec
public import Idealize.ShloMosaic.Lib.WordCmp

@[expose] public section

set_option maxRecDepth 16384

noncomputable section

namespace Cert.Proof.Attn

open Cert.AttnRefIdeal Cert.AttnRefIdeal.Read Idealize.ShloMosaic

variable (q : Vec Ideal S8x8x2048x256 .bf16) (u : Vec Ideal S8x8x2048x64 .bf16) (kv : Vec Ideal S16384x256 .bf16) (kr : Vec Ideal S16384x64 .bf16)
  (n h : Fin 8) (t : Fin 2048)
  (a : Fin 256 → ℝ) (b : Fin 64 → ℝ) (c : Fin 2048 → Fin 256 → ℝ) (e : Fin 2048 → Fin 64 → ℝ)
  (h0 : ∀ k, q (ix4 n h t k) = ((a k : ℝ) : EReal)) (h1 : ∀ k, u (ix4 n h t k) = ((b k : ℝ) : EReal))
  (h2 : ∀ (s : Fin 2048) k, kv (ix2 (seqRow n s) k) = ((c s k : ℝ) : EReal))
  (h3 : ∀ (s : Fin 2048) k, kr (ix2 (seqRow n s) k) = ((e s k : ℝ) : EReal))

include h0 h1 h2 h3

/-- On finite operands the reference's masked score is a real score up to the diagonal and minus infinity past it. -/
theorem ref_score_real (s : Fin 2048) : val_main_v19 (F := Ideal) q u kv kr (ix4 n h t s)
    = if s.val ≤ t.val then ((score a b c e s : ℝ) : EReal) else ⊥ := by
  rw [ref_score]
  unfold seqRow at h2 h3
  simp only [h0, h1, h2, h3]
  rw [sig_div, bits_ninf, WordCmp.cmpi_sle_ofNat (by omega) (by omega), WordCmp.select_ofBool]
  simp only [decide_eq_true_eq]

/-- On finite operands the reference's result is the real attention. -/
theorem ref_value (d : Fin 256) :
    val_main_v34 (F := Ideal) q u kv kr (ix2 (seqRow n t) (headCol h d)) = ((att a b c e t.val d : ℝ) : EReal) := by
  have sc := ref_score_real q u kv kr n h t a b c e h0 h1 h2 h3
  unfold seqRow headCol
  unfold seqRow at h2
  rw [ref_out, ref_ctx]
  simp only [ref_prob, ref_exp, ref_max, bits_ninf, h2]
  unfold att
  refine Online.softmax (fun s => val_main_v19 (F := Ideal) q u kv kr (ix4 n h t s)) (wt a b c e t.val) (fun s => ?_) 0 ?_
    (fun s => c s d) (wt_sum a b c e _)
  · rw [sc]
    split
    · exact weight_sig a b c e _ _ (by omega)
    · exact Or.inl ⟨rfl, wt_past a b c e _ _ (by omega)⟩
  · rw [sc, if_pos (show ((0 : Fin 2048) : Nat) ≤ t.val from Nat.zero_le _)]
    exact EReal.coe_ne_bot _

end Cert.Proof.Attn

end
-- ==== Proof.AttnValue.lean ====
/-
  The attention kernel's result array is the causal attention of its arguments, and so is the reference's, when no entry
  of an argument is an infinity.
-/
module

public import proofs.«01_k».proof.Proof.AttnRow
public import proofs.«01_k».proof.Proof.AttnRefValue
public import Idealize.ShloMosaic.Lib.ReduceAll
public import proofs.«01_k».proof.Proof.Gen.Pre_finite_operands

@[expose] public section

set_option maxRecDepth 16384

noncomputable section

namespace Cert.Proof.Attn

open Cert.AttnIdeal Cert.AttnIdeal.Gen Idealize.ShloMosaic Idealize.ShloMosaic.TcCoe Idealize.ShloMosaic.Tactic Idealize.SL.Sem

/-- No entry is an infinity. -/
def AllReal {s : Shape} (x : Vec Ideal s .bf16) : Prop := ∀ i, x i = ((EReal.toReal (x i) : ℝ) : EReal)

/-- Causal attention of the argument arrays: sequence `n`, head `h`, query `t`, entry `d`. -/
def attAt (q : Vec Ideal S8x8x2048x256 .bf16) (u : Vec Ideal S8x8x2048x64 .bf16) (kv : Vec Ideal S16384x256 .bf16)
    (kr : Vec Ideal S16384x64 .bf16) (n h : Fin 8) (t : Fin 2048) (d : Fin 256) : EReal :=
  ((att (fun k => EReal.toReal (q (ix4 n h t k))) (fun k => EReal.toReal (u (ix4 n h t k)))
    (fun s k => EReal.toReal (kv (ix2 (seqRow n s) k)))
    (fun s k => EReal.toReal (kr (ix2 (seqRow n s) k))) t.val d : ℝ) : EReal)

/-- The same as an array: row `2048 n + t`, column `256 h + d`. -/
def outArr (q : Vec Ideal S8x8x2048x256 .bf16) (u : Vec Ideal S8x8x2048x64 .bf16) (kv : Vec Ideal S16384x256 .bf16)
    (kr : Vec Ideal S16384x64 .bf16) : Vec Ideal S16384x2048 .bf16 := fun i =>
  attAt q u kv kr ⟨(i 0).val / 2048, by have : (i 0).val < 16384 := (i 0).isLt; omega⟩
    ⟨(i 1).val / 256, by have : (i 1).val < 2048 := (i 1).isLt; omega⟩ ⟨(i 0).val % 2048, by omega⟩ ⟨(i 1).val % 256, by omega⟩

/-- The array of the attention at the entry of a row, a head and a lane. -/
theorem outArr_at (q : Vec Ideal S8x8x2048x256 .bf16) (u : Vec Ideal S8x8x2048x64 .bf16) (kv : Vec Ideal S16384x256 .bf16)
    (kr : Vec Ideal S16384x64 .bf16) (n h : Fin 8) (t : Fin 2048) (d : Fin 256) (i : S16384x2048.Idx)
    (e : i = ix2 (seqRow n t) (headCol h d)) :
    outArr q u kv kr i = attAt q u kv kr n h t d := by
  subst e
  have en : (⟨(n.val * 2048 + t.val) / 2048, by omega⟩ : Fin 8) = n := Fin.ext (by show (n.val * 2048 + t.val) / 2048 = n.val; omega)
  have et : (⟨(n.val * 2048 + t.val) % 2048, by omega⟩ : Fin 2048) = t := Fin.ext (by show (n.val * 2048 + t.val) % 2048 = t.val; omega)
  have eh : (⟨(256 * h.val + d.val) / 256, by omega⟩ : Fin 8) = h := Fin.ext (by show (256 * h.val + d.val) / 256 = h.val; omega)
  have ed : (⟨(256 * h.val + d.val) % 256, by omega⟩ : Fin 256) = d := Fin.ext (by show (256 * h.val + d.val) % 256 = d.val; omega)
  show attAt q u kv kr (⟨(n.val * 2048 + t.val) / 2048, by omega⟩ : Fin 8) (⟨(256 * h.val + d.val) / 256, by omega⟩ : Fin 8)
    (⟨(n.val * 2048 + t.val) % 2048, by omega⟩ : Fin 2048) (⟨(256 * h.val + d.val) % 256, by omega⟩ : Fin 256) = _
  rw [en, et, eh, ed]

section kernel

variable (m : (ℓ : Loc nD τ sig) → Buf (Elt Ideal) ℓ) (c : Dev nD)

/-- The argument that holds the queries' latent part. -/
abbrev aQ : Vec Ideal S8x8x2048x256 .bf16 := m ((c : Thread nD τ).loc main_arg0)
/-- The argument that holds the queries' rotary part. -/
abbrev aU : Vec Ideal S8x8x2048x64 .bf16 := m ((c : Thread nD τ).loc main_arg1)
/-- The argument that holds the latents. -/
abbrev aKv : Vec Ideal S16384x256 .bf16 := m ((c : Thread nD τ).loc main_arg2)
/-- The argument that holds the rotary keys. -/
abbrev aKr : Vec Ideal S16384x64 .bf16 := m ((c : Thread nD τ).loc main_arg3)

/-- The number of the grid's points. -/
theorem N_0 : cfg0.N = 64 := by decide +kernel

/-- Where the windows' blocks lie: sequence `t / 8`, query block `t % 8`. -/
theorem idx : ∀ t : Fin cfg0.N, win0_0.index t = ![t.val / 8, 0, t.val % 8, 0] ∧ win0_1.index t = ![t.val / 8, 0, t.val % 8, 0]
    ∧ win0_2.index t = ![t.val / 8, 0] ∧ win0_3.index t = ![t.val / 8, 0] ∧ win0_4.index t = ![t.val, 0]
    ∧ (grid0.coords t 1).val = t.val % 8 :=
  (by decide +kernel : ∀ t : Fin grid0.N, win0_0.index t = ![t.val / 8, 0, t.val % 8, 0] ∧ win0_1.index t = ![t.val / 8, 0, t.val % 8, 0]
    ∧ win0_2.index t = ![t.val / 8, 0] ∧ win0_3.index t = ![t.val / 8, 0] ∧ win0_4.index t = ![t.val, 0]
    ∧ (grid0.coords t 1).val = t.val % 8)

variable (t : Fin cfg0.N)

/-- The grid has 64 points. -/
theorem lt_N : t.val < 64 := lt_of_lt_of_eq t.isLt N_0

/-- The sequence a point works on. -/
def seqOf : Fin 8 := ⟨t.val / 8, by have := lt_N t; omega⟩
/-- The block of queries a point works on. -/
def blkOf : Fin 8 := ⟨t.val % 8, by omega⟩
/-- The position in its sequence of row `r` of a point's block. -/
def posOf (r : Fin 256) : Fin 2048 := ⟨t.val % 8 * 256 + r.val, by omega⟩

/-- Where an entry of a point's block 0 lies in the queries' latent part. -/
theorem blk0 (h : Fin 8) (r k : Fin 256) : iblk m c 0 t (ix4 0 h r k) = aQ m c (ix4 (seqOf t) h (posOf t r) k) := by
  blk_ext [iblk, V, idx t, seqOf, posOf]
/-- Where an entry of a point's block 1 lies in the queries' rotary part. -/
theorem blk1 (h : Fin 8) (r : Fin 256) (k : Fin 64) : iblk m c 1 t (ix4 0 h r k) = aU m c (ix4 (seqOf t) h (posOf t r) k) := by
  blk_ext [iblk, V, idx t, seqOf, posOf]
/-- Where an entry of a point's block 2 lies in the latents. -/
theorem blk2 (s : Fin 2048) (k : Fin 256) : iblk m c 2 t (ix2 s k) = aKv m c (ix2 (seqRow (seqOf t) s) k) := by
  blk_ext [iblk, V, idx t, seqOf, seqRow]
/-- Where an entry of a point's block 3 lies in the rotary keys. -/
theorem blk3 (s : Fin 2048) (k : Fin 64) : iblk m c 3 t (ix2 s k) = aKr m c (ix2 (seqRow (seqOf t) s) k) := by
  blk_ext [iblk, V, idx t, seqOf, seqRow]

/-- What a point stores for a head: the quotient of that head's rows. -/
theorem out_blocks (r : Fin 256) (h : Fin 8) (d : Fin 256) :
    outsAt0 m c t (ix2 r (headCol h d))
      = k0_pay27 (accAt (iblk m c 0 t) (iblk m c 1 t) (iblk m c 2 t) (iblk m c 3 t) (grid0.coords t 1))
        (sumAt (iblk m c 0 t) (iblk m c 1 t) (iblk m c 2 t) (iblk m c 3 t) (grid0.coords t 1)) (ix2 (rowAt h r) d) := by
  unfold outsAt0
  exact out_heads ..

/-- What a point writes, at head `h`. -/
theorem out_apply (hq : AllReal (aQ m c)) (hu : AllReal (aU m c)) (hk : AllReal (aKv m c)) (hr : AllReal (aKr m c)) (r : Fin 256) (h : Fin 8) (d : Fin 256) :
    outsAt0 m c t (ix2 r (headCol h d))
      = attAt (aQ m c) (aU m c) (aKv m c) (aKr m c) (seqOf t) h (posOf t r) d := by
  have hj : grid0.coords t 1 = blkOf t := Fin.ext (idx t).2.2.2.2.2
  rw [out_blocks, hj]
  have v := row_value (iblk m c 0 t) (iblk m c 1 t) (iblk m c 2 t) (iblk m c 3 t) (blkOf t) h r
    (fun k => EReal.toReal (aQ m c (ix4 (seqOf t) h (posOf t r) k))) (fun k => EReal.toReal (aU m c (ix4 (seqOf t) h (posOf t r) k)))
    (fun s k => EReal.toReal (aKv m c (ix2 (seqRow (seqOf t) s) k)))
    (fun s k => EReal.toReal (aKr m c (ix2 (seqRow (seqOf t) s) k)))
    (fun k => (blk0 m c t h r k).trans (hq _)) (fun k => (blk1 m c t h r k).trans (hu _))
    (fun s k => (blk2 m c t s k).trans (hk _)) (fun s k => (blk3 m c t s k).trans (hr _)) d
  have e : 256 * (blkOf t).val + r.val = (posOf t r).val := by
    show 256 * (t.val % 8) + r.val = t.val % 8 * 256 + r.val
    omega
  rw [e] at v
  rw [v]
  unfold attAt
  rfl

/-- Every block of the result is written. -/
theorem covers : (cfg0.win 4).Covers := by decide +kernel

/-- Where an entry of a point's block of the result lies in the whole array. -/
theorem emb_out (r : Fin 256) (j : Fin 2048) :
    ((cfg0.win 4).blk t).view.emb (ix2 r j) = ix2 (seqRow (seqOf t) (posOf t r)) j := by
  have hN := lt_N t
  blk_ext [idx t, seqOf, posOf, seqRow]

/-- The kernel's result array. -/
theorem result (hq : AllReal (aQ m c)) (hu : AllReal (aU m c)) (hk : AllReal (aKv m c)) (hr : AllReal (aKr m c)) :
    (dats m 0 c).arrAt 4 cfg0.N = outArr (aQ m c) (aU m c) (aKv m c) (aKr m c) := by
  refine (dats m 0 c).arrAt_eq_of_covers 4 _ covers fun t hf y => ?_
  rw [after0_4]
  obtain ⟨r, j, rfl⟩ : ∃ (r : Fin 256) (j : Fin 2048), y = ix2 r j := ⟨y 0, y 1, eq_ix2 y⟩
  obtain ⟨h, d, e⟩ : ∃ (h : Fin 8) (d : Fin 256), j = headCol h d :=
    ⟨⟨j.val / 256, by omega⟩, ⟨j.val % 256, by omega⟩, Fin.ext (by show j.val = 256 * (j.val / 256) + j.val % 256; omega)⟩
  rw [emb_out t r j, e]
  refine (out_apply m c t hq hu hk hr r h d).trans ?_
  rw [outArr_at _ _ _ _ (seqOf t) h (posOf t r) d _ rfl]

end kernel

/-- The reference's result array. -/
theorem ref_result (q : Vec Ideal S8x8x2048x256 .bf16) (u : Vec Ideal S8x8x2048x64 .bf16) (kv : Vec Ideal S16384x256 .bf16)
    (kr : Vec Ideal S16384x64 .bf16) (hq : AllReal q) (hu : AllReal u) (hk : AllReal kv) (hr : AllReal kr) :
    Cert.AttnRefIdeal.Read.val_main_v34 (F := Ideal) q u kv kr = outArr q u kv kr := by
  funext i
  have h0 : (i 0).val < 16384 := (i 0).isLt
  have h1 : (i 1).val < 2048 := (i 1).isLt
  obtain ⟨n, t, h, d, e⟩ : ∃ (n : Fin 8) (t : Fin 2048) (h : Fin 8) (d : Fin 256),
      i = ix2 (seqRow n t) (headCol h d) :=
    ⟨⟨(i 0).val / 2048, by omega⟩, ⟨(i 0).val % 2048, by omega⟩, ⟨(i 1).val / 256, by omega⟩, ⟨(i 1).val % 256, by omega⟩, by
      funext a
      match a with
      | ⟨0, _⟩ => exact Fin.ext (by show (i 0).val = (i 0).val / 2048 * 2048 + (i 0).val % 2048; omega)
      | ⟨1, _⟩ => exact Fin.ext (by show (i 1).val = 256 * ((i 1).val / 256) + (i 1).val % 256; omega)⟩
  rw [outArr_at q u kv kr n h t d i e]
  exact (congrArg (Cert.AttnRefIdeal.Read.val_main_v34 (F := Ideal) q u kv kr) e).trans
    (ref_value q u kv kr n h t _ _ _ _ (fun k => hq _) (fun k => hu _) (fun s k => hk _) (fun s k => hr _) d)

/-- An entry whose absolute value is below infinity is real. -/
theorem real_of_abs (x : EReal) (h : Ideal.cmp .olt (max x (-x)) (Ideal.ofBits .f32 0x7F800000#32) = 1#1) :
    x = ((EReal.toReal x : ℝ) : EReal) := by
  rw [bits_inf] at h
  have lt : max x (-x) < ⊤ := by
    by_contra hn
    simp [Ideal.cmp, hn] at h
  rw [max_lt_iff] at lt
  refine (EReal.coe_toReal lt.1.ne ?_).symm
  rintro rfl
  simp at lt

/-- The precondition read back. -/
theorem pre_real (q : Vec Ideal S8x8x2048x256 .bf16) (u : Vec Ideal S8x8x2048x64 .bf16) (kv : Vec Ideal S16384x256 .bf16)
    (kr : Vec Ideal S16384x64 .bf16) (h : Cert.Pre_finite_operands.fn (F := Ideal) q u kv kr = fun _ => 1#1) :
    AllReal q ∧ AllReal u ∧ AllReal kv ∧ AllReal kr := by
  have h0 := congrFun h ix0
  unfold Cert.Pre_finite_operands.fn Cert.Pre_finite_operands.fn_part1 at h0
  dsimp only at h0
  obtain ⟨h1, hr⟩ := IntOp.andi_eq_one.1 h0
  obtain ⟨h2, hk⟩ := IntOp.andi_eq_one.1 h1
  obtain ⟨hq, hu⟩ := IntOp.andi_eq_one.1 h2
  have sub : Subsingleton Cert.Pre_finite_operands.S_.Idx := ⟨fun a b => funext fun i => i.elim0⟩
  exact ⟨fun i => real_of_abs _ (Host.reduce_andi_all _ _ _ _ _ hq i), fun i => real_of_abs _ (Host.reduce_andi_all _ _ _ _ _ hu i),
    fun i => real_of_abs _ (Host.reduce_andi_all _ _ _ _ _ hk i), fun i => real_of_abs _ (Host.reduce_andi_all _ _ _ _ _ hr i)⟩

end Cert.Proof.Attn

end
-- ==== Proof.AttnClaim.lean ====
/-
  The attention kernel and its reference end with the same result array, on operands without infinities.
-/
module

public import proofs.«01_k».proof.Defs
public import proofs.«01_k».proof.Proof.AttnValue
public import proofs.«01_k».proof.Proof.Gen.AttnRefIdeal.Run

@[expose] public section

set_option maxRecDepth 16384

noncomputable section

namespace Cert.Proof.Attn

open Idealize.ShloMosaic Idealize.SL.Sem

/-- From finite operands, over the extended reals, the call's result is the reference's. -/
theorem value : Cert.algebraic_AttnIdeal_AttnRefIdeal_pre_finite_operands (hAttnIdeal := Cert.AttnIdeal.Gen.facts)
    (hAttnRefIdeal := Cert.AttnRefIdeal.Gen.facts) (hPre_finite_operands := Cert.Pre_finite_operands.Gen.facts) := by
  intro m g m' g' pre agree
  have real := fun c => pre_real _ _ _ _ (pre c)
  refine ⟨fun c => outArr (aQ m c) (aU m c) (aKv m c) (aKr m c), ?_, ?_⟩
  · exact (θ_run _ _ _).mono (fun r h c => ⟨(h c).1.trans (result m c (real c).1 (real c).2.1 (real c).2.2.1 (real c).2.2.2), (h c).2⟩)
      (Cert.AttnIdeal.Value.run_blocks m g)
  · refine (θ_run _ _ _).mono (fun r h c => ⟨(h c).1.trans ?_, (h c).2⟩) (Cert.AttnRefIdeal.Value.run m' g')
    obtain ⟨h0, h1, h2, h3⟩ := agree c
    rw [Cert.AttnRefIdeal.Read.val_main_v34_eq, h0, h1, h2, h3]
    exact ref_result _ _ _ _ (real c).1 (real c).2.1 (real c).2.2.1 (real c).2.2.2

end Cert.Proof.Attn

end
-- ==== Proof.FfnPoint.lean ====
/-
  What one grid point of the feed-forward kernel leaves behind, as functions of the blocks it reads: the hidden rows
  and the accumulator in scratch, and — at the second point of a row block — the finished rows.
-/
module

public import proofs.«01_k».proof.Proof.Gen.FfnIdeal.Value

@[expose] public section

set_option maxRecDepth 16384

noncomputable section

namespace Cert.Proof.Ffn

open Cert.FfnIdeal Cert.FfnIdeal.Gen Idealize.ShloMosaic Idealize.ShloMosaic.TcCoe Idealize.ShloMosaic.Tactic Idealize.SL.Sem

variable {F : FTy → Type} [FloatOps F]
variable (m : (ℓ : Loc nD τ sig) → Buf (Elt F) ℓ)

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- The normed, modulated rows the first point of a row block keeps. -/
theorem hidden_first (c : Dev nD) (t : Fin cfg0.N) (h0 : t.val % 2 = 0) (h1 : ¬t.val % 2 = 1) :
    (outsAt0 m c t.val t.isLt).2.1 = k0_pay1 (iblk m c 0 t) (iblk m c 1 t) (iblk m c 3 t) (iblk m c 2 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread,
    View.ld_unit_zero (S := S512x1024) zero2, View.ld_unit_zero (S := S1x1024) zero2, View.ld_unit_zero (S := S1x1x1x1024) zero4]

/-- The accumulator after the first point: one block of the hidden width, added to zeros. -/
theorem acc_first (c : Dev nD) (t : Fin cfg0.N) (h0 : t.val % 2 = 0) (h1 : ¬t.val % 2 = 1) :
    (outsAt0 m c t.val t.isLt).2.2 = k0_pay3 (k0_pay1 (iblk m c 0 t) (iblk m c 1 t) (iblk m c 3 t) (iblk m c 2 t))
      (iblk m c 5 t) (iblk m c 6 t) k0_pay2 (iblk m c 7 t) := by
  rw [outsAt0_A m c t h0 h1]
  dsimp only
  unfold sout0_A_1
  rw [View.read_writes_eq_canon _ _ _ (fun _ => scover0_A_1 ..)]
  unfold kernelRun0_A
  dsimp only
  sl_unfold_words
  rw [View.canon_cons_unit_zero (S := S512x1024) zero2]
  simp only [View.readAt_eq_ld, (hs0_0 t).read_unread, (hs0_1 t).read_unread, (hs0_2 t).read_unread, (hs0_3 t).read_unread,
    (hs0_5 t).read_unread, (hs0_6 t).read_unread, (hs0_7 t).read_unread,
    View.readCov_unit_zero (S := S512x1024) _ zero2,
    View.ld_unit_zero (S := S512x1024) zero2, View.ld_unit_zero (S := S1x1024) zero2, View.ld_unit_zero (S := S1x1x1x1024) zero4,
    View.ld_unit_zero (S := S1024x1408) zero2, View.ld_unit_zero (S := S1408x1024) zero2]

/-- What the second point writes: the residual, gated and normed, over both blocks of the hidden width. -/
theorem out_second (c : Dev nD) (t : Fin cfg0.N) (h0 : ¬t.val % 2 = 0) (h1 : t.val % 2 = 1) :
    (outsAt0 m c t.val t.isLt).1 = k0_pay4 (iblk m c 0 t) (iblk m c 4 t)
      (k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t))
      (iblk m c 8 t) := by
  rw [outsAt0_B m c t h0 h1]
  dsimp only
  unfold out0_B_9
  rw [View.read_writes_eq_canon _ _ _ (fun _ => cover0_B_9 ..)]
  unfold kernelRun0_B
  dsimp only
  sl_unfold_words
  rw [View.canon_unit_zero zero2]
  simp only [View.readAt_eq_ld, (hs0_0 t).read_unread, (hs0_4 t).read_unread,
    (hs0_5 t).read_unread, (hs0_6 t).read_unread, (hs0_7 t).read_unread, (hs0_8 t).read_unread,
    (Memref.isWhole_whole _).read_unread,
    View.readCov_unit_zero (S := S512x1024) _ zero2,
    View.ld_unit_zero (S := S512x1024) zero2, View.ld_unit_zero (S := S1x1024) zero2, View.ld_unit_zero (S := S1x1x1x1024) zero4,
    View.ld_unit_zero (S := S1024x1408) zero2, View.ld_unit_zero (S := S1408x1024) zero2]

end Cert.Proof.Ffn

end
-- ==== Proof.Layer.lean ====
/-
  The pieces of a layer, as functions on the extended reals: the reciprocal root of a row's mean square, a normed and
  modulated entry, and the logistic gate.
-/
module

public import Idealize.ShloMosaic.Lib.Pointwise

@[expose] public section

noncomputable section

namespace Cert.Proof

open Idealize.ShloMosaic

/-- The epsilon of the root-mean-square norms, as the float word both programs carry. -/
def eps : EReal := Ideal.ofBits .f32 0x358637BD#32

/-- `1/√(mean of squares + ε)` of a row of `n` entries, the row length as the float word `len`. -/
def rms {n : Nat} (len : EReal) (x : Fin n → EReal) : EReal := Ideal.rsqrt (Ideal.div (∑ k, x k * x k) len + eps)

/-- The row length of the model width, 1024, as a float word. -/
def width : EReal := Ideal.ofBits .f32 0x44800000#32

/-- The layer's input row, normed, scaled by `g`, then modulated: `x·rms(x)·g·(1 + scale) + shift`. -/
def modRow {n : Nat} (x g scale shift : Fin n → EReal) (k : Fin n) : EReal :=
  x k * rms width x * g k * (1 + scale k) + shift k

/-- The gate `u·σ(u)·v`. -/
def swiglu (u v : EReal) : EReal := u * Ideal.logistic u * v

/-- The batch member that a row of the prompt batch belongs to. -/
def member (r : Fin 16384) : Fin 8 := ⟨r.val / 2048, by omega⟩

/-- Its position in that member's sequence. -/
def place (r : Fin 16384) : Fin 2048 := ⟨r.val % 2048, by omega⟩

/-- The row of position `t` of batch member `b`. -/
def rowAt (b : Fin 8) (t : Fin 2048) : Fin 16384 := ⟨b * 2048 + t, by omega⟩

/-- A row is the row of its sequence and its position. -/
theorem rowAt_split (r : Fin 16384) : rowAt (member r) (place r) = r :=
  Fin.ext (by show r.val / 2048 * 2048 + r.val % 2048 = r.val; omega)

/-- The sequence of a row given by its sequence and position. -/
theorem member_rowAt (b : Fin 8) (t : Fin 2048) : member (rowAt b t) = b :=
  Fin.ext (by show (b.val * 2048 + t.val) / 2048 = b.val; omega)

/-- The position of a row given by its sequence and position. -/
theorem place_rowAt (b : Fin 8) (t : Fin 2048) : place (rowAt b t) = t :=
  Fin.ext (by show (b.val * 2048 + t.val) % 2048 = t.val; omega)

/-- The rotation's lane test, as the kernels compute it from a lane number: true in a head's first 32 lanes of 64. -/
def laneMask (l : BitVec 32) : BitVec 1 :=
  have w := Scalar.select (Scalar.cmpi CmpIPredicate.eq 64#32 0#32) 1#32 64#32
  have q := IntOp.remsi ArithUnit.vector l w
  IntOp.cmpi CmpIPredicate.slt
    (Scalar.select (IntOp.andi (IntOp.xori (IntOp.cmpi CmpIPredicate.slt q 0#32) (Scalar.cmpi CmpIPredicate.slt w 0#32))
      (IntOp.cmpi CmpIPredicate.ne q 0#32)) (IntOp.addi q w) q) 32#32

/-- The lane test is true where the lane's place in its head is below 32. -/
theorem laneMask_eq : ∀ l : Fin 512, laneMask (BitVec.ofNat 32 l.val) = if l.val % 64 < 32 then 1#1 else 0#1 := by
  decide +kernel

end Cert.Proof

end
-- ==== Proof.FfnPay.lean ====
/-
  The feed-forward kernel's block computations, read at one entry over the extended reals.
-/
module

public import proofs.«01_k».proof.Proof.Gen.FfnIdeal.Skeleton
public import proofs.«01_k».proof.Proof.Layer

@[expose] public section

set_option maxRecDepth 16384

noncomputable section

namespace Cert.Proof.Ffn

open Cert.FfnIdeal Cert.FfnIdeal.Gen Idealize.ShloMosaic

/-- The hidden row block: each row normed and modulated. -/
theorem pay1_apply (x : Vec Ideal S512x1024 .f32) (g : Vec Ideal S1x1024 .f32) (sc sh : Vec Ideal S1x1x1x1024 .f32)
    (r : Fin 512) (k : Fin 1024) :
    k0_pay1 x g sc sh (ix2 r k) = modRow (fun k => x (ix2 r k)) (fun k => g (ix2 0 k)) (fun k => sc (ix4 0 0 0 k))
      (fun k => sh (ix4 0 0 0 k)) k := by
  pointwise [k0_pay1, modRow, rms, width, eps]

/-- The accumulator starts at zero. -/
theorem pay2_apply (r : Fin 512) (k : Fin 1024) : (k0_pay2 (F := Ideal)) (ix2 r k) = 0 := by
  pointwise [k0_pay2]

/-- One block of the hidden width: gate, up, activation, down, added to the accumulator. -/
theorem pay3_apply (h : Vec Ideal S512x1024 .bf16) (wg wu : Vec Ideal S1024x1408 .bf16) (acc : Vec Ideal S512x1024 .f32)
    (wd : Vec Ideal S1408x1024 .bf16) (r : Fin 512) (j : Fin 1024) :
    k0_pay3 h wg wu acc wd (ix2 r j) = acc (ix2 r j) + ∑ f : Fin 1408,
      swiglu (∑ k : Fin 1024, h (ix2 r k) * wg (ix2 k f)) (∑ k : Fin 1024, h (ix2 r k) * wu (ix2 k f)) * wd (ix2 f j) := by
  pointwise [k0_pay3, swiglu]

/-- The finished rows: residual plus gated sum, normed. -/
theorem pay4_apply (x : Vec Ideal S512x1024 .f32) (gate : Vec Ideal S1x1x1x1024 .f32) (acc : Vec Ideal S512x1024 .f32)
    (gf : Vec Ideal S1x1024 .f32) (r : Fin 512) (j : Fin 1024) :
    k0_pay4 x gate acc gf (ix2 r j) = (x (ix2 r j) + gate (ix4 0 0 0 j) * acc (ix2 r j))
      * rms width (fun k : Fin 1024 => x (ix2 r k) + gate (ix4 0 0 0 k) * acc (ix2 r k)) * gf (ix2 0 j) := by
  pointwise [k0_pay4, rms, width, eps]

end Cert.Proof.Ffn

end
-- ==== Proof.FfnRef.lean ====
/-
  The feed-forward reference, read at one entry over the extended reals.
-/
module

public import proofs.«01_k».proof.Proof.Gen.FfnRefIdeal.Read
public import proofs.«01_k».proof.Proof.Layer

@[expose] public section

set_option maxRecDepth 16384

noncomputable section

namespace Cert.Proof.Ffn

open Cert.FfnRefIdeal Cert.FfnRefIdeal.Read Idealize.ShloMosaic

variable (x : Vec Ideal S16384x1024 .f32) (g : Vec Ideal S1x1024 .f32) (md : Vec Ideal S4x8x1x6144 .f32)
  (wgu : Vec Ideal S1024x5632 .bf16) (wd : Vec Ideal S2816x1024 .bf16) (gf : Vec Ideal S1x1024 .f32)

/-- Row `r` of the hidden input: the residual stream's row, normed and modulated by its batch member's words. -/
@[irreducible] def hid (b : Fin 8) (r : Fin 16384) (k : Fin 1024) : EReal :=
  modRow (fun k => x (ix2 r k)) (fun k => g (ix2 0 k)) (fun k => md (ix4 3 b 0 ⟨4096 + k, by omega⟩))
    (fun k => md (ix4 3 b 0 ⟨3072 + k, by omega⟩)) k

/-- Hidden unit `f` of row `r`: the gated product of its two projections. -/
@[irreducible] def unit (b : Fin 8) (r : Fin 16384) (f : Fin 2816) : EReal :=
  swiglu (∑ k : Fin 1024, hid x g md b r k * wgu (ix2 k ⟨f, by omega⟩))
    (∑ k : Fin 1024, hid x g md b r k * wgu (ix2 k ⟨2816 + f, by omega⟩))

/-- Entry `j` of row `r` after the residual. -/
@[irreducible] def resid (b : Fin 8) (r : Fin 16384) (j : Fin 1024) : EReal :=
  x (ix2 r j) + md (ix4 3 b 0 ⟨5120 + j, by omega⟩) * ∑ f : Fin 2816, unit x g md wgu b r f * wd (ix2 f j)

/-- The result's entry: the residual row, normed. -/
@[irreducible] def out (b : Fin 8) (r : Fin 16384) (j : Fin 1024) : EReal :=
  resid x g md wgu wd b r j * rms width (resid x g md wgu wd b r) * gf (ix2 0 j)

/-- The row of the flat arrays that position `t` of sequence `b` is. -/
def row (b : Fin 8) (t : Fin 2048) : Fin 16384 := ⟨b * 2048 + t, by omega⟩

/-- The reference's modulated norm at an entry. -/
theorem ref_hid (b : Fin 8) (t : Fin 2048) (k : Fin 1024) :
    val_main_v26 (F := Ideal) x g md (ix3 b t k) = hid x g md b (row b t) k := by
  pointwise [hid, modRow, row, rms, width, eps, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]

/-- The reference's gate and up products at an entry. -/
theorem ref_gu (b : Fin 8) (t : Fin 2048) (f : Fin 5632) :
    val_main_v28 (F := Ideal) x g md wgu (ix3 b t f) = ∑ k : Fin 1024, hid x g md b (row b t) k * wgu (ix2 k f) := by
  unfold val_main_v28 val_main_v27
  pointwise []
  simp only [ref_hid]

/-- The reference's gated hidden unit at an entry. -/
theorem ref_unit (b : Fin 8) (t : Fin 2048) (f : Fin 2816) :
    val_main_v32 (F := Ideal) x g md wgu (ix3 b t f) = unit x g md wgu b (row b t) f := by
  pointwise [val_main_v32, val_main_v31, val_main_v30, val_main_call0_v5, val_main_call0_v4, val_main_call0_cst_0,
    val_main_call0_v3, val_main_call0_v2, val_main_call0_cst, val_main_call0_v1, val_main_call0_v0, val_main_v29]
  simp only [ref_gu, unit, swiglu, Ideal.logistic]

/-- The reference's residual stream after the feed-forward at an entry. -/
theorem ref_resid (b : Fin 8) (t : Fin 2048) (j : Fin 1024) :
    val_main_v40 (F := Ideal) x g md wgu wd (ix3 b t j) = resid x g md wgu wd b (row b t) j := by
  pointwise [val_main_v40, val_main_v39, val_main_v38, val_main_v37, val_main_v36, val_main_v35, val_main_v34, val_main_v33,
    val_main_v0]
  simp only [ref_unit, resid, row]

/-- The reference's result at an entry. -/
theorem ref_out (b : Fin 8) (t : Fin 2048) (j : Fin 1024) :
    val_main_v54 (F := Ideal) x g md wgu wd gf (ix3 b t j) = out x g md wgu wd gf b (row b t) j := by
  pointwise [val_main_v54, val_main_v53, val_main_v52, val_main_v51, val_main_v50, val_main_v49, val_main_v48, val_main_v47,
    val_main_v46, val_main_v45, val_main_v44, val_main_v43, val_main_v42, val_main_v41, val_main_cst_3, val_main_cst_4,
    val_main_cst_5]
  simp only [ref_resid, out, rms, width, eps]

/-- The reference's result at row `r`, entry `j`. -/
theorem ref_apply (r : Fin 16384) (j : Fin 1024) :
    val_main_v55 (F := Ideal) x g md wgu wd gf (ix2 r j) = out x g md wgu wd gf ⟨r / 2048, by omega⟩ r j := by
  have h := ref_out x g md wgu wd gf ⟨r / 2048, by omega⟩ ⟨r % 2048, by omega⟩ j
  rw [show row ⟨r / 2048, by omega⟩ ⟨r % 2048, by omega⟩ = r from Fin.ext (by show r / 2048 * 2048 + r % 2048 = (r : Nat); omega)] at h
  rw [← h, val_main_v55]
  pointwise []

end Cert.Proof.Ffn

end
-- ==== Proof.FfnValue.lean ====
/-
  The feed-forward kernel's result array is the function `out` of its arguments: what the second grid point of a row
  block writes, read entry by entry, with the two blocks of the hidden width put together to one sum.
-/
module

public import proofs.«01_k».proof.Proof.FfnPoint
public import proofs.«01_k».proof.Proof.FfnPay
public import proofs.«01_k».proof.Proof.FfnRef
public import Idealize.ShloMosaic.Lib.Pipeline.ValueKit

@[expose] public section

set_option maxRecDepth 16384

noncomputable section

namespace Cert.Proof.Ffn

open Cert.FfnIdeal Cert.FfnIdeal.Gen Idealize.ShloMosaic Idealize.ShloMosaic.TcCoe Idealize.ShloMosaic.Tactic Idealize.SL.Sem

variable (m : (ℓ : Loc nD τ sig) → Buf (Elt Ideal) ℓ) (c : Dev nD)

/-- The argument that holds the residual stream. -/
abbrev aX : Vec Ideal S16384x1024 .f32 := m ((c : Thread nD τ).loc main_arg0)
/-- The argument that holds the norm's gain. -/
abbrev aG : Vec Ideal S1x1024 .f32 := m ((c : Thread nD τ).loc main_arg1)
/-- The argument that holds the modulation. -/
abbrev aMod : Vec Ideal S4x8x1x6144 .f32 := m ((c : Thread nD τ).loc main_arg2)
/-- The argument that holds the gate and up weights. -/
abbrev aGu : Vec Ideal S1024x5632 .bf16 := m ((c : Thread nD τ).loc main_arg3)
/-- The argument that holds the down weights. -/
abbrev aDown : Vec Ideal S2816x1024 .bf16 := m ((c : Thread nD τ).loc main_arg4)
/-- The argument that holds the final norm's gain. -/
abbrev aFin : Vec Ideal S1x1024 .f32 := m ((c : Thread nD τ).loc main_arg5)

/-- Where the windows' blocks lie: row block `t / 2`, batch member `t / 8`, hidden block `t % 2`. -/
theorem idx : ∀ t : Fin cfg0.N, win0_0.index t = ![t.val / 2, 0] ∧ win0_1.index t = ![0, 0]
    ∧ win0_2.index t = ![3, t.val / 8, 0, 3] ∧ win0_3.index t = ![3, t.val / 8, 0, 4] ∧ win0_4.index t = ![3, t.val / 8, 0, 5]
    ∧ win0_5.index t = ![0, t.val % 2] ∧ win0_6.index t = ![0, 2 + t.val % 2] ∧ win0_7.index t = ![t.val % 2, 0]
    ∧ win0_8.index t = ![0, 0] ∧ win0_9.index t = ![t.val / 2, 0] :=
  (by decide +kernel : ∀ t : Fin grid0.N, win0_0.index t = ![t.val / 2, 0] ∧ win0_1.index t = ![0, 0]
    ∧ win0_2.index t = ![3, t.val / 8, 0, 3] ∧ win0_3.index t = ![3, t.val / 8, 0, 4] ∧ win0_4.index t = ![3, t.val / 8, 0, 5]
    ∧ win0_5.index t = ![0, t.val % 2] ∧ win0_6.index t = ![0, 2 + t.val % 2] ∧ win0_7.index t = ![t.val % 2, 0]
    ∧ win0_8.index t = ![0, 0] ∧ win0_9.index t = ![t.val / 2, 0])

/-- The grid has 64 points. -/
theorem lt_N (t : Fin cfg0.N) : t.val < 64 := lt_of_lt_of_eq t.isLt N_0

/-- The array row of a block's row `r` at point `t`. -/
def rowOf (t : Fin cfg0.N) (r : Fin 512) : Fin 16384 := ⟨t.val / 2 * 512 + r, by have := lt_N t; omega⟩
/-- The sequence a point works on. -/
def batchOf (t : Fin cfg0.N) : Fin 8 := ⟨t.val / 8, by have := lt_N t; omega⟩
/-- The hidden unit that unit `f` of a point's half is. -/
def unitOf (t : Fin cfg0.N) (f : Fin 1408) : Fin 2816 := ⟨t.val % 2 * 1408 + f, by omega⟩

variable (t : Fin cfg0.N)

/-- Where an entry of a point's block 0 lies in the residual stream. -/
theorem blk0 (r : Fin 512) (k : Fin 1024) : iblk m c 0 t (ix2 r k) = aX m c (ix2 (rowOf t r) k) := by
  blk_ext [iblk, V, idx t, rowOf]
/-- Where an entry of a point's block 1 lies in the norm's gain. -/
theorem blk1 (k : Fin 1024) : iblk m c 1 t (ix2 0 k) = aG m c (ix2 0 k) := by
  blk_ext [iblk, V, idx t]
/-- Where an entry of a point's block 2 lies in the modulation. -/
theorem blk2 (k : Fin 1024) : iblk m c 2 t (ix4 0 0 0 k) = aMod m c (ix4 3 (batchOf t) 0 ⟨3072 + k, by omega⟩) := by
  blk_ext [iblk, V, idx t, batchOf]
/-- Where an entry of a point's block 3 lies in the modulation. -/
theorem blk3 (k : Fin 1024) : iblk m c 3 t (ix4 0 0 0 k) = aMod m c (ix4 3 (batchOf t) 0 ⟨4096 + k, by omega⟩) := by
  blk_ext [iblk, V, idx t, batchOf]
/-- Where an entry of a point's block 4 lies in the modulation. -/
theorem blk4 (k : Fin 1024) : iblk m c 4 t (ix4 0 0 0 k) = aMod m c (ix4 3 (batchOf t) 0 ⟨5120 + k, by omega⟩) := by
  blk_ext [iblk, V, idx t, batchOf]
/-- Where an entry of a point's block 5 lies in the gate and up weights. -/
theorem blk5 (k : Fin 1024) (f : Fin 1408) : iblk m c 5 t (ix2 k f) = aGu m c (ix2 k ⟨unitOf t f, by omega⟩) := by
  blk_ext [iblk, V, idx t, unitOf]
/-- Where an entry of a point's block 6 lies in the gate and up weights. -/
theorem blk6 (k : Fin 1024) (f : Fin 1408) : iblk m c 6 t (ix2 k f) = aGu m c (ix2 k ⟨2816 + unitOf t f, by omega⟩) := by
  blk_ext [iblk, V, idx t, unitOf]
/-- Where an entry of a point's block 7 lies in the down weights. -/
theorem blk7 (f : Fin 1408) (j : Fin 1024) : iblk m c 7 t (ix2 f j) = aDown m c (ix2 (unitOf t f) j) := by
  blk_ext [iblk, V, idx t, unitOf]
/-- Where an entry of a point's block 8 lies in the final norm's gain. -/
theorem blk8 (k : Fin 1024) : iblk m c 8 t (ix2 0 k) = aFin m c (ix2 0 k) := by
  blk_ext [iblk, V, idx t]

/-- The kept rows at an even point are the hidden input's rows. -/
theorem hidden_apply (r : Fin 512) (k : Fin 1024) :
    k0_pay1 (iblk m c 0 t) (iblk m c 1 t) (iblk m c 3 t) (iblk m c 2 t) (ix2 r k)
      = hid (aX m c) (aG m c) (aMod m c) (batchOf t) (rowOf t r) k := by
  rw [pay1_apply]
  unfold hid
  simp only [blk0, blk1, blk2, blk3]

/-- One hidden block's share of the down projection. -/
@[irreducible] def part (b : Fin 8) (r : Fin 16384) (j : Fin 1024) (p : Nat) (hp : p < 2) : EReal :=
  ∑ f : Fin 1408, unit (aX m c) (aG m c) (aMod m c) (aGu m c) b r ⟨p * 1408 + f, by omega⟩
    * aDown m c (ix2 ⟨p * 1408 + f, by omega⟩ j)

/-- A point adds its hidden block's share to the accumulator, once the kept rows are the hidden input's. -/
theorem step_apply (h : Vec Ideal S512x1024 .bf16) (acc : Vec Ideal S512x1024 .f32) (r : Fin 512) (j : Fin 1024)
    (hh : ∀ k, h (ix2 r k) = hid (aX m c) (aG m c) (aMod m c) (batchOf t) (rowOf t r) k) :
    k0_pay3 h (iblk m c 5 t) (iblk m c 6 t) acc (iblk m c 7 t) (ix2 r j)
      = acc (ix2 r j) + part m c (batchOf t) (rowOf t r) j (t.val % 2) (Nat.mod_lt _ (by decide)) := by
  rw [pay3_apply]
  unfold part unit
  simp only [hh, blk5, blk6, blk7, unitOf]

/-- Both hidden blocks' shares are the whole down projection. -/
theorem parts (b : Fin 8) (r : Fin 16384) (j : Fin 1024) :
    0 + part m c b r j 0 (by decide) + part m c b r j 1 (by decide)
      = ∑ f : Fin 2816, unit (aX m c) (aG m c) (aMod m c) (aGu m c) b r f * aDown m c (ix2 f j) := by
  rw [Fin.sum_univ_two_halves 1408 1408 rfl, zero_add]
  unfold part
  congr 1

/-- What the second point of a row block writes. -/
theorem out_apply (h1 : t.val % 2 = 1) (r : Fin 512) (j : Fin 1024) :
    (outsAt0 m c t.val t.isLt).1 (ix2 r j)
      = out (aX m c) (aG m c) (aMod m c) (aGu m c) (aDown m c) (aFin m c) (batchOf t) (rowOf t r) j := by
  have hp : t.val - 1 < cfg0.N := Nat.lt_of_le_of_lt (Nat.sub_le _ _) t.isLt
  have e0 : (t.val - 1) % 2 = 0 := by omega
  have e1 : ¬(t.val - 1) % 2 = 1 := by omega
  have hb : batchOf ⟨t.val - 1, hp⟩ = batchOf t := Fin.ext (by show (t.val - 1) / 8 = t.val / 8; omega)
  have hr : ∀ r, rowOf ⟨t.val - 1, hp⟩ r = rowOf t r := fun r => Fin.ext (by
    show (t.val - 1) / 2 * 512 + r.val = t.val / 2 * 512 + r.val; omega)
  have key : ∀ j, k0_pay3 (outsAt0 m c (t.val - 1) hp).2.1 (iblk m c 5 t) (iblk m c 6 t) (outsAt0 m c (t.val - 1) hp).2.2
      (iblk m c 7 t) (ix2 r j)
      = ∑ f : Fin 2816, unit (aX m c) (aG m c) (aMod m c) (aGu m c) (batchOf t) (rowOf t r) f * aDown m c (ix2 f j) := fun j => by
    rw [hidden_first m c ⟨t.val - 1, hp⟩ e0 e1, acc_first m c ⟨t.val - 1, hp⟩ e0 e1]
    rw [step_apply m c t _ _ r j (fun k => by rw [hidden_apply, hb, hr])]
    rw [step_apply m c ⟨t.val - 1, hp⟩ _ _ r j (fun k => hidden_apply m c _ r k), pay2_apply, hb, hr, ← parts]
    congr 2
    simp only [e0]
  rw [out_second m c t (by omega) h1, pay4_apply]
  unfold out
  have res : ∀ j, aX m c (ix2 (rowOf t r) j) + aMod m c (ix4 3 (batchOf t) 0 ⟨5120 + j, by omega⟩)
      * (∑ f : Fin 2816, unit (aX m c) (aG m c) (aMod m c) (aGu m c) (batchOf t) (rowOf t r) f * aDown m c (ix2 f j))
      = resid (aX m c) (aG m c) (aMod m c) (aGu m c) (aDown m c) (batchOf t) (rowOf t r) j := fun j => by unfold resid; rfl
  simp only [key, blk0, blk4, blk8, res]

/-- Every block of the result is written. -/
theorem covers : (cfg0.win 9).Covers := by decide +kernel

/-- The function `out`, as an array. -/
def outArr (X : Vec Ideal S16384x1024 .f32) (g : Vec Ideal S1x1024 .f32) (md : Vec Ideal S4x8x1x6144 .f32)
    (wgu : Vec Ideal S1024x5632 .bf16) (wd : Vec Ideal S2816x1024 .bf16) (gf : Vec Ideal S1x1024 .f32) : Vec Ideal S16384x1024 .f32 := fun i =>
  out X g md wgu wd gf ⟨(i 0).val / 2048, by have : (i 0).val < 16384 := (i 0).isLt; omega⟩ (i 0) (i 1)

/-- The kernel's result array. -/
theorem result : (dats m 0 c).arrAt 9 cfg0.N = outArr (aX m c) (aG m c) (aMod m c) (aGu m c) (aDown m c) (aFin m c) := by
  refine (dats m 0 c).arrAt_eq_of_covers 9 _ covers fun t hf y => ?_
  rw [after0_9]
  have h1 : t.val % 2 = 1 := (flush0_9 t).mp hf
  obtain ⟨r, j, rfl⟩ : ∃ (r : Fin 512) (j : Fin 1024), y = ix2 r j := ⟨y 0, y 1, eq_ix2 y⟩
  have hi : ((cfg0.win 9).blk t).view.emb (ix2 r j) = ix2 (rowOf t r) j := by
    blk_ext [idx t, rowOf]
  refine (out_apply m c t h1 r j).trans ?_
  rw [hi]
  unfold outArr
  congr 1
  exact Fin.ext (by show t.val / 8 = (t.val / 2 * 512 + r.val) / 2048; omega)

end Cert.Proof.Ffn

end
-- ==== Proof.FfnClaim.lean ====
/-
  The feed-forward claim: kernel and reference, from memories that agree on the arguments, end with one result.
-/
module

public import proofs.«01_k».proof.Defs
public import proofs.«01_k».proof.Proof.FfnValue
public import proofs.«01_k».proof.Proof.Gen.FfnRefIdeal.Run

@[expose] public section

set_option maxRecDepth 16384

noncomputable section

namespace Cert.Proof.Ffn

open Idealize.ShloMosaic Idealize.SL.Sem

/-- The reference's result array is `out` of its arguments. -/
theorem ref_result (X : Vec Ideal Cert.FfnRefIdeal.S16384x1024 .f32) (g : Vec Ideal Cert.FfnRefIdeal.S1x1024 .f32)
    (md : Vec Ideal Cert.FfnRefIdeal.S4x8x1x6144 .f32) (wgu : Vec Ideal Cert.FfnRefIdeal.S1024x5632 .bf16)
    (wd : Vec Ideal Cert.FfnRefIdeal.S2816x1024 .bf16) (gf : Vec Ideal Cert.FfnRefIdeal.S1x1024 .f32) :
    Cert.FfnRefIdeal.Read.val_main_v55 (F := Ideal) X g md wgu wd gf = outArr X g md wgu wd gf := by
  funext i
  obtain ⟨r, j, rfl⟩ : ∃ (r : Fin 16384) (j : Fin 1024), i = ix2 r j := ⟨i 0, i 1, eq_ix2 i⟩
  rw [ref_apply]
  rfl

/-- Over the extended reals, the call's results are the reference's, from any arguments. -/
theorem value : Cert.algebraic_FfnIdeal_FfnRefIdeal (hFfnIdeal := Cert.FfnIdeal.Gen.facts) (hFfnRefIdeal := Cert.FfnRefIdeal.Gen.facts) := by
  intro m g m' g' _ agree
  refine ⟨fun c => outArr (aX m c) (aG m c) (aMod m c) (aGu m c) (aDown m c) (aFin m c), ?_, ?_⟩
  · exact (θ_run _ _ _).mono (fun r h c => ⟨(h c).1.trans (result m c), (h c).2⟩) (Cert.FfnIdeal.Value.run_blocks m g)
  · refine (θ_run _ _ _).mono (fun r h c => ⟨(h c).1.trans ?_, (h c).2⟩) (Cert.FfnRefIdeal.Value.run m' g')
    obtain ⟨h0, h1, h2, h3, h4, h5⟩ := agree c
    rw [Cert.FfnRefIdeal.Read.val_main_v55_eq, h0, h1, h2, h3, h4, h5]
    exact ref_result _ _ _ _ _ _

end Cert.Proof.Ffn

end
-- ==== Proof.InProjValue.lean ====
/-
  The input projection of an even layer: kernel and reference both end with the normed, modulated rows times the
  weights.
-/
module

public import proofs.«01_k».proof.Proof.Gen.InProjIdeal.Value
public import proofs.«01_k».proof.Proof.Gen.InProjRefIdeal.Read
public import proofs.«01_k».proof.Proof.Layer
public import Idealize.ShloMosaic.Lib.Pipeline.ValueKit
public import Idealize.ShloMosaic.Lib.Claim

@[expose] public section

set_option maxRecDepth 16384

noncomputable section

namespace Cert.Proof.InProj

open Cert.InProjIdeal Cert.InProjIdeal.Gen Idealize.ShloMosaic Idealize.ShloMosaic.TcCoe Idealize.ShloMosaic.Tactic Idealize.SL.Sem

section spec

variable (x : Vec Ideal S16384x1024 .f32) (g : Vec Ideal S1x1024 .f32) (md : Vec Ideal S4x8x1x6144 .f32)
  (w : Vec Ideal S1024x3584 .f32)

/-- Row `r` of the mixer's input: the residual stream's row, normed and modulated. -/
@[irreducible] def hid (r : Fin 16384) (k : Fin 1024) : EReal :=
  modRow (fun k => x (ix2 r k)) (fun k => g (ix2 0 k)) (fun k => md (ix4 0 (member r) 0 ⟨1024 + k, by omega⟩))
    (fun k => md (ix4 0 (member r) 0 ⟨k, by omega⟩)) k

/-- The specified result: a row of the modulated norm times a column of the weights. -/
@[irreducible] def out (r : Fin 16384) (j : Fin 3584) : EReal := ∑ k : Fin 1024, hid x g md r k * w (ix2 k j)

/-- The array of `out`. -/
def outArr : Vec Ideal S16384x3584 .f32 := fun i => out x g md w (i 0) (i 1)

/-- The array of `out` at an entry. -/
theorem outArr_apply (r : Fin 16384) (j : Fin 3584) : outArr x g md w (ix2 r j) = out x g md w r j := rfl

end spec

section reference

open Cert.InProjRefIdeal.Read

variable (x : Vec Ideal S16384x1024 .f32) (g : Vec Ideal S1x1024 .f32) (md : Vec Ideal S4x8x1x6144 .f32)
  (w : Vec Ideal S1024x3584 .f32)

/-- The reference's modulated norm at an entry. -/
theorem ref_hid (b : Fin 8) (t : Fin 2048) (k : Fin 1024) :
    val_main_v26 (F := Ideal) x g md (ix3 b t k) = hid x g md (rowAt b t) k := by
  unfold hid
  rw [member_rowAt]
  pointwise [modRow, rowAt, rms, width, eps, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]

/-- The reference's result at an entry. -/
theorem ref_apply (b : Fin 8) (t : Fin 2048) (j : Fin 3584) :
    val_main_v27 (F := Ideal) x g md w (ix3 b t j) = out x g md w (rowAt b t) j := by
  unfold val_main_v27 out
  pointwise []
  simp only [ref_hid]

/-- The reference's result is `outArr` of its arguments. -/
theorem ref_result : val_main_v28 (F := Ideal) x g md w = outArr x g md w := by
  funext i
  obtain ⟨r, j, rfl⟩ : ∃ (r : Fin 16384) (j : Fin 3584), i = ix2 r j := ⟨i 0, i 1, eq_ix2 i⟩
  have h := ref_apply x g md w (member r) (place r) j
  rw [rowAt_split] at h
  rw [outArr_apply, ← h, val_main_v28]
  pointwise [member, place]

end reference

section point

variable {F : FTy → Type} [FloatOps F]
variable (m : (ℓ : Loc nD τ sig) → Buf (Elt F) ℓ) (c : Dev nD) (t : Fin cfg0.N)

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- The first point of a row block keeps the normed, modulated rows. -/
theorem keep_first (h0 : t.val % 7 = 0) :
    (outsAt0 m c t.val t.isLt).2 = k0_pay1 (iblk m c 0 t) (iblk m c 1 t) (iblk m c 3 t) (iblk m c 2 t) := by
  rw [outsAt0_A m c t h0]
  dsimp only
  unfold sout0_A_0
  rw [View.read_writes_eq_canon _ _ _ (fun _ => scover0_A_0 ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread,
    View.ld_unit_zero (S := S512x1024) zero2, View.ld_unit_zero (S := S1x1024) zero2, View.ld_unit_zero (S := S1x1x1x1024) zero4]

/-- The later points leave them as they are. -/
theorem keep_later (h0 : ¬t.val % 7 = 0) :
    (outsAt0 m c t.val t.isLt).2 = (outsAt0 m c (t.val - 1) (Nat.lt_of_le_of_lt (Nat.sub_le _ _) t.isLt)).2 := by
  rw [outsAt0_B m c t h0]
  rfl

/-- Every point writes the kept rows times its block of the weights. -/
theorem out_point : (outsAt0 m c t.val t.isLt).1 = k0_pay2 (outsAt0 m c t.val t.isLt).2 (iblk m c 4 t) := by
  by_cases h0 : t.val % 7 = 0
  · rw [keep_first m c t h0, outsAt0_A m c t h0]
    dsimp only
    unfold out0_A_5
    rw [View.read_writes_eq_canon _ _ _ (fun _ => cover0_A_5 ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread,
      (hs0_4 t).read_unread, View.readCov_unit_zero (S := S512x1024) _ zero2,
      View.ld_unit_zero (S := S512x1024) zero2, View.ld_unit_zero (S := S1x1024) zero2, View.ld_unit_zero (S := S1x1x1x1024) zero4,
      View.ld_unit_zero (S := S1024x512) zero2]
  · rw [keep_later m c t h0, outsAt0_B m c t h0]
    dsimp only
    unfold out0_B_5
    rw [View.read_writes_eq_canon _ _ _ (fun _ => cover0_B_5 ..)]
    unfold kernelRun0_B
    dsimp only
    sl_unfold_words
    rw [View.canon_unit_zero zero2]
    simp only [View.readAt_eq_ld, (hs0_4 t).read_unread, (Memref.isWhole_whole _).read_unread,
      View.ld_unit_zero (S := S512x1024) zero2, View.ld_unit_zero (S := S1024x512) zero2]

end point

section kernel

variable (m : (ℓ : Loc nD τ sig) → Buf (Elt Ideal) ℓ) (c : Dev nD)

/-- The argument that holds the residual stream. -/
abbrev aX : Vec Ideal S16384x1024 .f32 := m ((c : Thread nD τ).loc main_arg0)
/-- The argument that holds the norm's gain. -/
abbrev aG : Vec Ideal S1x1024 .f32 := m ((c : Thread nD τ).loc main_arg1)
/-- The argument that holds the modulation. -/
abbrev aMod : Vec Ideal S4x8x1x6144 .f32 := m ((c : Thread nD τ).loc main_arg2)
/-- The argument that holds the weights. -/
abbrev aW : Vec Ideal S1024x3584 .f32 := m ((c : Thread nD τ).loc main_arg3)

/-- The weights as the call finds them: the argument, its cast being the identity over the extended reals. -/
theorem V_w : V m c main_v0 = aW m c := by
  unfold_abbrev_sides
  after_results
  rfl

/-- Where the windows' blocks lie. -/
theorem idx : ∀ t : Fin cfg0.N, win0_0.index t = ![t.val / 7, 0] ∧ win0_1.index t = ![0, 0]
    ∧ win0_2.index t = ![0, t.val / 28, 0, 0] ∧ win0_3.index t = ![0, t.val / 28, 0, 1]
    ∧ win0_4.index t = ![0, t.val % 7] ∧ win0_5.index t = ![t.val / 7, t.val % 7] :=
  (by decide +kernel : ∀ t : Fin grid0.N, win0_0.index t = ![t.val / 7, 0] ∧ win0_1.index t = ![0, 0]
    ∧ win0_2.index t = ![0, t.val / 28, 0, 0] ∧ win0_3.index t = ![0, t.val / 28, 0, 1]
    ∧ win0_4.index t = ![0, t.val % 7] ∧ win0_5.index t = ![t.val / 7, t.val % 7])

variable (t : Fin cfg0.N)

/-- The grid has 224 points. -/
theorem lt_N : t.val < 224 := lt_of_lt_of_eq t.isLt N_0
/-- The row of the whole array that row `r` of a point's block is. -/
def rowOf (r : Fin 512) : Fin 16384 := ⟨t.val / 7 * 512 + r, by have := lt_N t; omega⟩
/-- The column of the whole array that column `j` of a point's block is. -/
def colOf (j : Fin 512) : Fin 3584 := ⟨t.val % 7 * 512 + j, by omega⟩

/-- The sequence of a row of a point's block. -/
theorem member_rowOf (r : Fin 512) : (member (rowOf t r)).val = t.val / 28 := by
  have := lt_N t
  show (t.val / 7 * 512 + r.val) / 2048 = t.val / 28
  omega

/-- Where an entry of a point's block 0 lies in the residual stream. -/
theorem blk0 (r : Fin 512) (k : Fin 1024) : iblk m c 0 t (ix2 r k) = aX m c (ix2 (rowOf t r) k) := by
  show (((cfg0.win 0).blk t).view.read (Elt Ideal) (V m c main_arg0)) (ix2 r k) = _
  rw [V_main_arg0]
  blk_ext [idx t, rowOf]
/-- Where an entry of a point's block 1 lies in the norm's gain. -/
theorem blk1 (k : Fin 1024) : iblk m c 1 t (ix2 0 k) = aG m c (ix2 0 k) := by
  show (((cfg0.win 1).blk t).view.read (Elt Ideal) (V m c main_arg1)) (ix2 0 k) = _
  rw [V_main_arg1]
  blk_ext [idx t]
/-- Where an entry of a point's block 2 lies in the modulation. -/
theorem blk2 (r : Fin 512) (k : Fin 1024) :
    iblk m c 2 t (ix4 0 0 0 k) = aMod m c (ix4 0 (member (rowOf t r)) 0 ⟨k, by omega⟩) := by
  have h := member_rowOf t r
  show (((cfg0.win 2).blk t).view.read (Elt Ideal) (V m c main_arg2)) (ix4 0 0 0 k) = _
  rw [V_main_arg2]
  blk_ext [idx t, h]
/-- Where an entry of a point's block 3 lies in the modulation. -/
theorem blk3 (r : Fin 512) (k : Fin 1024) :
    iblk m c 3 t (ix4 0 0 0 k) = aMod m c (ix4 0 (member (rowOf t r)) 0 ⟨1024 + k, by omega⟩) := by
  have h := member_rowOf t r
  show (((cfg0.win 3).blk t).view.read (Elt Ideal) (V m c main_arg2)) (ix4 0 0 0 k) = _
  rw [V_main_arg2]
  blk_ext [idx t, h]
/-- Where an entry of a point's block 4 lies in the weights. -/
theorem blk4 (k : Fin 1024) (j : Fin 512) : iblk m c 4 t (ix2 k j) = aW m c (ix2 k (colOf t j)) := by
  show (((cfg0.win 4).blk t).view.read (Elt Ideal) (V m c main_v0)) (ix2 k j) = _
  rw [V_w]
  blk_ext [idx t, colOf]

/-- The body's modulated norm of a row. -/
theorem pay1_apply (x : Vec Ideal S512x1024 .f32) (g : Vec Ideal S1x1024 .f32) (sc sh : Vec Ideal S1x1x1x1024 .f32)
    (r : Fin 512) (k : Fin 1024) :
    k0_pay1 x g sc sh (ix2 r k) = modRow (fun k => x (ix2 r k)) (fun k => g (ix2 0 k)) (fun k => sc (ix4 0 0 0 k))
      (fun k => sh (ix4 0 0 0 k)) k := by
  pointwise [k0_pay1, modRow, rms, width, eps]

/-- The body's product at an entry. -/
theorem pay2_apply (h : Vec Ideal S512x1024 .bf16) (w : Vec Ideal S1024x512 .bf16) (r j : Fin 512) :
    k0_pay2 h w (ix2 r j) = ∑ k : Fin 1024, h (ix2 r k) * w (ix2 k j) := by
  pointwise [k0_pay2]

/-- The kept rows at a point are the mixer's input rows of its row block. -/
theorem keep_apply (r : Fin 512) (k : Fin 1024) : ∀ (n : Nat) (hn : n < cfg0.N),
    (outsAt0 m c n hn).2 (ix2 r k) = hid (aX m c) (aG m c) (aMod m c) (rowOf ⟨n, hn⟩ r) k := by
  have first : ∀ (n : Nat) (hn : n < cfg0.N), n % 7 = 0 →
      (outsAt0 m c n hn).2 (ix2 r k) = hid (aX m c) (aG m c) (aMod m c) (rowOf ⟨n, hn⟩ r) k := fun n hn h0 => by
    rw [keep_first m c ⟨n, hn⟩ h0, pay1_apply]
    unfold hid
    simp only [blk0, blk1, blk2 m c _ r, blk3 m c _ r]
  intro n
  induction n with
  | zero => exact fun hn => first 0 hn rfl
  | succ n ih =>
    intro hn
    by_cases h0 : (n + 1) % 7 = 0
    · exact first _ hn h0
    · have e : rowOf ⟨n, Nat.lt_of_succ_lt hn⟩ r = rowOf ⟨n + 1, hn⟩ r := Fin.ext (by
        show n / 7 * 512 + r.val = (n + 1) / 7 * 512 + r.val
        omega)
      rw [keep_later m c ⟨n + 1, hn⟩ h0, ← e]
      exact ih (Nat.lt_of_succ_lt hn)

/-- What a point stores at an entry of its block of the result. -/
theorem out_apply (r j : Fin 512) :
    (outsAt0 m c t.val t.isLt).1 (ix2 r j) = out (aX m c) (aG m c) (aMod m c) (aW m c) (rowOf t r) (colOf t j) := by
  rw [out_point, pay2_apply]
  unfold out
  simp only [keep_apply, blk4]

/-- The blocks of the result cover its array. -/
theorem covers : (cfg0.win 5).Covers := by decide +kernel

/-- Where an entry of a point's block of the result lies in the whole array. -/
theorem emb_out (r j : Fin 512) : ((cfg0.win 5).blk t).view.emb (ix2 r j) = ix2 (rowOf t r) (colOf t j) := by
  blk_ext [idx t, rowOf, colOf]

/-- No entry of a block of the result is cut off: its place is its own index. -/
theorem inj_out (r j : Fin 512) : (cfg0.win 5).xinj (cfg0.grid.coords t) (ix2 r j) = ix2 r j := rfl

/-- The kernel's result array is `outArr` of its arguments. -/
theorem result : (dats m 0 c).arrAt 5 cfg0.N = outArr (aX m c) (aG m c) (aMod m c) (aW m c) := by
  refine (dats m 0 c).arrAt_eq_of_covers 5 _ covers fun t hf y => ?_
  rw [after0_5]
  obtain ⟨r, j, rfl⟩ : ∃ r j : Fin 512, y = ix2 r j := ⟨y 0, y 1, eq_ix2 y⟩
  rw [emb_out t r j, outArr_apply, cast_eq, inj_out, out_apply]

end kernel

end Cert.Proof.InProj

end
-- ==== Proof.InProjClaim.lean ====
/-
  The claim of an even layer's input projection.
-/
module

public import proofs.«01_k».proof.Defs
public import proofs.«01_k».proof.Proof.InProjValue
public import proofs.«01_k».proof.Proof.Gen.InProjRefIdeal.Run

@[expose] public section

set_option maxRecDepth 16384

noncomputable section

namespace Cert.Proof.InProj

open Idealize.ShloMosaic Idealize.SL.Sem

/-- Over the extended reals, the call's results are the reference's, from any arguments. -/
theorem value : Cert.algebraic_InProjIdeal_InProjRefIdeal (hInProjIdeal := Cert.InProjIdeal.Gen.facts)
    (hInProjRefIdeal := Cert.InProjRefIdeal.Gen.facts) := by
  intro m g m' g' _ agree
  refine ⟨fun c => outArr (aX m c) (aG m c) (aMod m c) (aW m c), ?_, ?_⟩
  · exact (θ_run _ _ _).mono (fun r h c => ⟨(h c).1.trans (result m c), (h c).2⟩) (Cert.InProjIdeal.Value.run_blocks m g)
  · refine (θ_run _ _ _).mono (fun r h c => ⟨(h c).1.trans ?_, (h c).2⟩) (Cert.InProjRefIdeal.Value.run m' g')
    obtain ⟨h0, h1, h2, h3⟩ := agree c
    rw [Cert.InProjRefIdeal.Read.val_main_v28_eq, h0, h1, h2, h3]
    exact ref_result _ _ _ _

end Cert.Proof.InProj

end
-- ==== Proof.OutProjValue.lean ====
/-
  The output projection of an even layer: kernel and reference both end with `x + gate · (a · w)`.
-/
module

public import proofs.«01_k».proof.Proof.Gen.OutProjIdeal.Value
public import proofs.«01_k».proof.Proof.Gen.OutProjRefIdeal.Read
public import proofs.«01_k».proof.Proof.Layer
public import Idealize.ShloMosaic.Lib.Pipeline.ValueKit
public import Idealize.ShloMosaic.Lib.Claim

@[expose] public section

set_option maxRecDepth 16384

noncomputable section

namespace Cert.Proof.OutProj

open Cert.OutProjIdeal Cert.OutProjIdeal.Gen Idealize.ShloMosaic Idealize.ShloMosaic.TcCoe Idealize.ShloMosaic.Tactic Idealize.SL.Sem

section spec

variable (a : Vec Ideal S16384x1024 .bf16) (w : Vec Ideal S1024x1024 .f32) (x : Vec Ideal S16384x1024 .f32)
  (md : Vec Ideal S4x8x1x6144 .f32)

/-- The result's entry `j` of row `r`: the residual plus the gated product. -/
@[irreducible] def out (r : Fin 16384) (j : Fin 1024) : EReal :=
  x (ix2 r j) + md (ix4 0 (member r) 0 ⟨2048 + j, by omega⟩) * ∑ k : Fin 1024, a (ix2 r k) * w (ix2 k j)

/-- `out`, as an array. -/
def outArr : Vec Ideal S16384x1024 .f32 := fun i => out a w x md (i 0) (i 1)

/-- The array of `out` at an entry. -/
theorem outArr_apply (r : Fin 16384) (j : Fin 1024) : outArr a w x md (ix2 r j) = out a w x md r j := rfl

end spec

section reference

open Cert.OutProjRefIdeal.Read

variable (a : Vec Ideal S16384x1024 .bf16) (w : Vec Ideal S1024x1024 .f32) (x : Vec Ideal S16384x1024 .f32)
  (md : Vec Ideal S4x8x1x6144 .f32)

/-- The reference's result at an entry. -/
theorem ref_apply (b : Fin 8) (t : Fin 2048) (j : Fin 1024) :
    val_main_v9 (F := Ideal) a w x md (ix3 b t j) = out a w x md (rowAt b t) j := by
  unfold out
  rw [member_rowAt]
  pointwise [rowAt, val_main_v9, val_main_v8, val_main_v7, val_main_v6, val_main_v5, val_main_v4, val_main_v3, val_main_v2,
    val_main_v1, val_main_v0]

/-- The reference's result is `outArr` of its arguments. -/
theorem ref_result : val_main_v10 (F := Ideal) a w x md = outArr a w x md := by
  funext i
  obtain ⟨r, j, rfl⟩ : ∃ (r : Fin 16384) (j : Fin 1024), i = ix2 r j := ⟨i 0, i 1, eq_ix2 i⟩
  have h := ref_apply a w x md (member r) (place r) j
  rw [rowAt_split] at h
  rw [outArr_apply, ← h, val_main_v10]
  pointwise [member, place]

end reference

section kernel

variable (m : (ℓ : Loc nD τ sig) → Buf (Elt Ideal) ℓ) (c : Dev nD)

/-- The argument that holds the operand. -/
abbrev aA : Vec Ideal S16384x1024 .bf16 := m ((c : Thread nD τ).loc main_arg0)
/-- The argument that holds the weights. -/
abbrev aW : Vec Ideal S1024x1024 .f32 := m ((c : Thread nD τ).loc main_arg1)
/-- The argument that holds the residual stream. -/
abbrev aX : Vec Ideal S16384x1024 .f32 := m ((c : Thread nD τ).loc main_arg2)
/-- The argument that holds the modulation. -/
abbrev aMod : Vec Ideal S4x8x1x6144 .f32 := m ((c : Thread nD τ).loc main_arg3)

/-- The weights as the call finds them: the argument, its cast being the identity over the extended reals. -/
theorem V_w : V m c main_v0 = aW m c := by
  unfold_abbrev_sides
  after_results
  rfl

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- Where the windows' blocks lie. -/
theorem idx : ∀ t : Fin cfg0.N, win0_0.index t = ![t.val / 2, 0] ∧ win0_1.index t = ![0, t.val % 2]
    ∧ win0_2.index t = ![t.val / 2, t.val % 2] ∧ win0_3.index t = ![0, t.val / 8, 0, 4 + t.val % 2]
    ∧ win0_4.index t = ![t.val / 2, t.val % 2] :=
  (by decide +kernel : ∀ t : Fin grid0.N, win0_0.index t = ![t.val / 2, 0] ∧ win0_1.index t = ![0, t.val % 2]
    ∧ win0_2.index t = ![t.val / 2, t.val % 2] ∧ win0_3.index t = ![0, t.val / 8, 0, 4 + t.val % 2]
    ∧ win0_4.index t = ![t.val / 2, t.val % 2])

variable (t : Fin cfg0.N)

/-- The grid has 64 points. -/
theorem lt_N : t.val < 64 := lt_of_lt_of_eq t.isLt N_0
/-- The row of the whole array that row `r` of a point's block is. -/
def rowOf (r : Fin 512) : Fin 16384 := ⟨t.val / 2 * 512 + r, by have := lt_N t; omega⟩
/-- The column of the whole array that column `j` of a point's block is. -/
def colOf (j : Fin 512) : Fin 1024 := ⟨t.val % 2 * 512 + j, by omega⟩

/-- The sequence of a row of a point's block. -/
theorem member_rowOf (r : Fin 512) : (member (rowOf t r)).val = t.val / 8 := by
  have := lt_N t
  show (t.val / 2 * 512 + r.val) / 2048 = t.val / 8
  omega

/-- Where an entry of a point's block 0 lies in the operand. -/
theorem blk0 (r : Fin 512) (k : Fin 1024) : iblk m c 0 t (ix2 r k) = aA m c (ix2 (rowOf t r) k) := by
  show (((cfg0.win 0).blk t).view.read (Elt Ideal) (V m c main_arg0)) (ix2 r k) = _
  rw [V_main_arg0]
  blk_ext [idx t, rowOf]
/-- Where an entry of a point's block 1 lies in the weights. -/
theorem blk1 (k : Fin 1024) (j : Fin 512) : iblk m c 1 t (ix2 k j) = aW m c (ix2 k (colOf t j)) := by
  show (((cfg0.win 1).blk t).view.read (Elt Ideal) (V m c main_v0)) (ix2 k j) = _
  rw [V_w]
  blk_ext [idx t, colOf]
/-- Where an entry of a point's block 2 lies in the residual stream. -/
theorem blk2 (r : Fin 512) (j : Fin 512) : iblk m c 2 t (ix2 r j) = aX m c (ix2 (rowOf t r) (colOf t j)) := by
  show (((cfg0.win 2).blk t).view.read (Elt Ideal) (V m c main_arg2)) (ix2 r j) = _
  rw [V_main_arg2]
  blk_ext [idx t, rowOf, colOf]
/-- Where an entry of a point's block 3 lies in the modulation. -/
theorem blk3 (r : Fin 512) (j : Fin 512) :
    iblk m c 3 t (ix4 0 0 0 j) = aMod m c (ix4 0 (member (rowOf t r)) 0 ⟨2048 + colOf t j, by omega⟩) := by
  have h := member_rowOf t r
  show (((cfg0.win 3).blk t).view.read (Elt Ideal) (V m c main_arg3)) (ix4 0 0 0 j) = _
  rw [V_main_arg3]
  blk_ext [idx t, h, colOf]

/-- The block computation at one entry. -/
theorem pay_apply (x : Vec Ideal S512x512 .f32) (gate : Vec Ideal S1x1x1x512 .f32) (a : Vec Ideal S512x1024 .bf16)
    (w : Vec Ideal S1024x512 .bf16) (r j : Fin 512) :
    k0_pay1 x gate a w (ix2 r j) = x (ix2 r j) + gate (ix4 0 0 0 j) * ∑ k : Fin 1024, a (ix2 r k) * w (ix2 k j) := by
  pointwise [k0_pay1]

/-- What a point stores at an entry of its block of the result. -/
theorem out_apply (r j : Fin 512) :
    out0_4 (iblk m c 0 t) (iblk m c 1 t) (iblk m c 2 t) (iblk m c 3 t) (ix2 r j)
      = out (aA m c) (aW m c) (aX m c) (aMod m c) (rowOf t r) (colOf t j) := by
  unfold out0_4
  rw [View.canon_unit_zero zero2]
  simp only [View.ld_unit_zero (S := S512x1024) zero2, View.ld_unit_zero (S := S1024x512) zero2,
    View.ld_unit_zero (S := S512x512) zero2, View.ld_unit_zero (S := S1x1x1x512) zero4]
  rw [pay_apply]
  unfold out
  simp only [blk0, blk1, blk2, blk3 m c t r j]

/-- The blocks of the result cover its array. -/
theorem covers : (cfg0.win 4).Covers := by decide +kernel

/-- Where an entry of a point's block of the result lies in the whole array. -/
theorem emb_out (r j : Fin 512) : ((cfg0.win 4).blk t).view.emb (ix2 r j) = ix2 (rowOf t r) (colOf t j) := by
  blk_ext [idx t, rowOf, colOf]

/-- No entry of a block of the result is cut off: its place is its own index. -/
theorem inj_out (r j : Fin 512) : (cfg0.win 4).xinj (cfg0.grid.coords t) (ix2 r j) = ix2 r j := rfl

/-- The kernel's result array is `outArr` of its arguments. -/
theorem result : (dats m 0 c).arrAt 4 cfg0.N = outArr (aA m c) (aW m c) (aX m c) (aMod m c) := by
  refine (dats m 0 c).arrAt_eq_of_covers 4 _ covers fun t hf y => ?_
  rw [after0_4]
  obtain ⟨r, j, rfl⟩ : ∃ r j : Fin 512, y = ix2 r j := ⟨y 0, y 1, eq_ix2 y⟩
  rw [emb_out t r j, outArr_apply, cast_eq, inj_out, out_apply]

end kernel

end Cert.Proof.OutProj

end
-- ==== Proof.OutProjClaim.lean ====
/-
  The claim of an even layer's output projection.
-/
module

public import proofs.«01_k».proof.Defs
public import proofs.«01_k».proof.Proof.OutProjValue
public import proofs.«01_k».proof.Proof.Gen.OutProjRefIdeal.Run

@[expose] public section

set_option maxRecDepth 16384

noncomputable section

namespace Cert.Proof.OutProj

open Idealize.ShloMosaic Idealize.SL.Sem

/-- Over the extended reals, the call's results are the reference's, from any arguments. -/
theorem value : Cert.algebraic_OutProjIdeal_OutProjRefIdeal (hOutProjIdeal := Cert.OutProjIdeal.Gen.facts)
    (hOutProjRefIdeal := Cert.OutProjRefIdeal.Gen.facts) := by
  intro m g m' g' _ agree
  refine ⟨fun c => outArr (aA m c) (aW m c) (aX m c) (aMod m c), ?_, ?_⟩
  · exact (θ_run _ _ _).mono (fun r h c => ⟨(h c).1.trans (result m c), (h c).2⟩) (Cert.OutProjIdeal.Value.run_blocks m g)
  · refine (θ_run _ _ _).mono (fun r h c => ⟨(h c).1.trans ?_, (h c).2⟩) (Cert.OutProjRefIdeal.Value.run m' g')
    obtain ⟨h0, h1, h2, h3⟩ := agree c
    rw [Cert.OutProjRefIdeal.Read.val_main_v10_eq, h0, h1, h2, h3]
    exact ref_result _ _ _ _

end Cert.Proof.OutProj

end
-- ==== Proof.MlaOutValue.lean ====
/-
  The output projection of an odd layer (the attention's): kernel and reference both take each head's latent context up
  to the head's width, multiply by the output weights, gate and add the residual.
-/
module

public import proofs.«01_k».proof.Proof.Gen.MlaOutIdeal.Value
public import proofs.«01_k».proof.Proof.Gen.MlaOutRefIdeal.Read
public import proofs.«01_k».proof.Proof.Layer
public import Idealize.ShloMosaic.Lib.Pipeline.ValueKit
public import Idealize.ShloMosaic.Lib.Pipeline.Value
public import Idealize.ShloMosaic.Lib.Claim

@[expose] public section

set_option maxRecDepth 16384

noncomputable section

namespace Cert.Proof.MlaOut

open Cert.MlaOutIdeal Cert.MlaOutIdeal.Gen Idealize.ShloMosaic Idealize.ShloMosaic.TcCoe Idealize.ShloMosaic.Tactic Idealize.SL.Sem

section spec

variable (ctx : Vec Ideal S16384x2048 .bf16) (uv : Vec Ideal S256x8x128 .f32) (wo : Vec Ideal S1024x1024 .f32)
  (x : Vec Ideal S16384x1024 .f32) (md : Vec Ideal S4x8x1x6144 .f32)

/-- Entry `n` of row `r`'s heads laid side by side: head `n / 128`, component `n % 128`, its 256 latent entries taken up
    through the head's weights. -/
@[irreducible] def heads (r : Fin 16384) (n : Fin 1024) : EReal :=
  ∑ p : Fin 256, ctx (ix2 r ⟨n / 128 * 256 + p, by omega⟩) * uv (ix3 p ⟨n / 128, by omega⟩ ⟨n % 128, by omega⟩)

/-- The result's entry `j` of row `r`: the residual plus the gated product. -/
@[irreducible] def out (r : Fin 16384) (j : Fin 1024) : EReal :=
  x (ix2 r j) + md (ix4 1 (member r) 0 ⟨2048 + j, by omega⟩) * ∑ n : Fin 1024, heads ctx uv r n * wo (ix2 n j)

/-- The array of `out`. -/
def outArr : Vec Ideal S16384x1024 .f32 := fun i => out ctx uv wo x md (i 0) (i 1)

/-- The array of `out` at an entry. -/
theorem outArr_apply (r : Fin 16384) (j : Fin 1024) : outArr ctx uv wo x md (ix2 r j) = out ctx uv wo x md r j := rfl

end spec

section reference

open Cert.MlaOutRefIdeal.Read

variable (ctx : Vec Ideal S16384x2048 .bf16) (uv : Vec Ideal S256x8x128 .f32) (wo : Vec Ideal S1024x1024 .f32)
  (x : Vec Ideal S16384x1024 .f32) (md : Vec Ideal S4x8x1x6144 .f32)

/-- The reference's values of all heads, side by side, at an entry. -/
theorem ref_heads (b : Fin 8) (t : Fin 2048) (n : Fin 1024) :
    val_main_v4 (F := Ideal) ctx uv (ix3 b t n) = heads ctx uv (rowAt b t) n := by
  unfold heads
  pointwise [rowAt, val_main_v4, val_main_v3, val_main_v2, val_main_v1, val_main_v0]
  refine Finset.sum_congr rfl fun p _ => ?_
  rw [mul_comm]

/-- The reference's result at an entry. -/
theorem ref_apply (b : Fin 8) (t : Fin 2048) (j : Fin 1024) :
    val_main_v12 (F := Ideal) ctx uv wo x md (ix3 b t j) = out ctx uv wo x md (rowAt b t) j := by
  unfold out
  rw [member_rowAt]
  pointwise [rowAt, val_main_v12, val_main_v11, val_main_v10, val_main_v9, val_main_v8, val_main_v7, val_main_v6, val_main_v5]
  simp only [ref_heads, rowAt]

/-- The reference's result is `outArr` of its arguments. -/
theorem ref_result : val_main_v13 (F := Ideal) ctx uv wo x md = outArr ctx uv wo x md := by
  funext i
  obtain ⟨r, j, rfl⟩ : ∃ (r : Fin 16384) (j : Fin 1024), i = ix2 r j := ⟨i 0, i 1, eq_ix2 i⟩
  have h := ref_apply ctx uv wo x md (member r) (place r) j
  rw [rowAt_split] at h
  rw [outArr_apply, ← h, val_main_v13]
  pointwise [member, place]

end reference

section pay

/-- Eight heads' tiles side by side. -/
@[irreducible] def beside (a : Fin 8 → Vec Ideal S512x128 .bf16) : Vec Ideal S512x1024 .bf16 :=
  concatenate S512x1024 1 [⟨S512x128, a 0⟩, ⟨S512x128, a 1⟩, ⟨S512x128, a 2⟩, ⟨S512x128, a 3⟩, ⟨S512x128, a 4⟩,
    ⟨S512x128, a 5⟩, ⟨S512x128, a 6⟩, ⟨S512x128, a 7⟩]
    concatenates_S512x128_S512x128_S512x128_S512x128_S512x128_S512x128_S512x128_S512x128_S512x1024_d1

/-- The heads laid side by side, at a column: the head is the column over 128, its lane the rest. -/
theorem beside_apply (a : Fin 8 → Vec Ideal S512x128 .bf16) (r : Fin 512) (n : Fin 1024) :
    beside a (ix2 r n) = a ⟨n / 128, by omega⟩ (ix2 r ⟨n % 128, by omega⟩) := by
  unfold beside
  exact concatenate_ofFn_apply (s₁ := S512x128) (t := S512x1024) 1 a
    concatenates_S512x128_S512x128_S512x128_S512x128_S512x128_S512x128_S512x128_S512x128_S512x1024_d1 rfl 128 rfl (ix2 r n) ⟨n / 128, by omega⟩ rfl
    (ix2 r ⟨n % 128, by omega⟩) rfl fun b hb => by
      fin_cases b
      · rfl
      · exact absurd rfl hb

/-- One head's tile at an entry. -/
theorem tile_apply (v : Vec Ideal S512x256 .bf16) (w : Vec Ideal S1x256x128 .bf16) (r : Fin 512) (q : Fin 128) :
    k0_pay2 v w (ix2 r q) = ∑ p : Fin 256, v (ix2 r p) * w (ix3 0 p q) := by
  pointwise [k0_pay2]

/-- The block computation at one entry. -/
theorem pay_apply (a0 a1 a2 a3 a4 : Vec Ideal S512x128 .bf16) (v5 v6 v7 : Vec Ideal S512x256 .bf16)
    (w5 w6 w7 : Vec Ideal S1x256x128 .bf16) (x : Vec Ideal S512x1024 .f32) (gate : Vec Ideal S1x1x1x1024 .f32)
    (wo : Vec Ideal S1024x1024 .bf16) (r : Fin 512) (j : Fin 1024) :
    k0_pay1 a0 a1 a2 a3 a4 v5 w5 v6 w6 v7 w7 x gate wo (ix2 r j) = x (ix2 r j) + gate (ix4 0 0 0 j)
      * ∑ n : Fin 1024, beside ![a0, a1, a2, a3, a4, k0_pay2 v5 w5, k0_pay2 v6 w6, k0_pay2 v7 w7] (ix2 r n) * wo (ix2 n j) := by
  have e : beside ![a0, a1, a2, a3, a4, k0_pay2 v5 w5, k0_pay2 v6 w6, k0_pay2 v7 w7] = concatenate S512x1024 1
    [⟨S512x128, a0⟩, ⟨S512x128, a1⟩, ⟨S512x128, a2⟩, ⟨S512x128, a3⟩, ⟨S512x128, a4⟩,
    ⟨S512x128, k0_pay2 v5 w5⟩, ⟨S512x128, k0_pay2 v6 w6⟩, ⟨S512x128, k0_pay2 v7 w7⟩]
    concatenates_S512x128_S512x128_S512x128_S512x128_S512x128_S512x128_S512x128_S512x128_S512x1024_d1 := by
    unfold beside
    rfl
  unfold k0_pay2 at e
  unfold k0_pay1 k0_pay2
  dsimp only at e ⊢
  rw [← e]
  generalize beside _ = b
  pointwise []

end pay

section kernel

variable (m : (ℓ : Loc nD τ sig) → Buf (Elt Ideal) ℓ) (c : Dev nD)

/-- The argument that holds the attention's contexts. -/
abbrev aCtx : Vec Ideal S16384x2048 .bf16 := m ((c : Thread nD τ).loc main_arg0)
/-- The argument that holds the values' up projection. -/
abbrev aUV : Vec Ideal S256x8x128 .f32 := m ((c : Thread nD τ).loc main_arg1)
/-- The argument that holds the output projection. -/
abbrev aWO : Vec Ideal S1024x1024 .f32 := m ((c : Thread nD τ).loc main_arg2)
/-- The argument that holds the residual stream. -/
abbrev aX : Vec Ideal S16384x1024 .f32 := m ((c : Thread nD τ).loc main_arg3)
/-- The argument that holds the modulation. -/
abbrev aMod : Vec Ideal S4x8x1x6144 .f32 := m ((c : Thread nD τ).loc main_arg4)

/-- The heads' weights as the call finds them: head first, and no cast over the extended reals. -/
theorem V_uv : V m c main_v1 = transpose S8x256x128 [1, 0, 2] (aUV m c) (by decide) := by
  unfold_abbrev_sides
  after_results
  rfl

/-- The output weights the launch is given are the argument's: a cast changes no value. -/
theorem V_wo : V m c main_v2 = aWO m c := by
  unfold_abbrev_sides
  after_results
  rfl

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- Where the windows' blocks lie. -/
theorem idx : ∀ t : Fin cfg0.N, win0_0.index t = ![t.val, 0] ∧ win0_1.index t = ![0, 0, 0]
    ∧ win0_2.index t = ![0, 0] ∧ win0_3.index t = ![t.val, 0] ∧ win0_4.index t = ![1, t.val / 4, 0, 2]
    ∧ win0_5.index t = ![t.val, 0] :=
  (by decide +kernel : ∀ t : Fin grid0.N, win0_0.index t = ![t.val, 0] ∧ win0_1.index t = ![0, 0, 0]
    ∧ win0_2.index t = ![0, 0] ∧ win0_3.index t = ![t.val, 0] ∧ win0_4.index t = ![1, t.val / 4, 0, 2]
    ∧ win0_5.index t = ![t.val, 0])

variable (t : Fin cfg0.N)

/-- The grid has 32 points. -/
theorem lt_N : t.val < 32 := lt_of_lt_of_eq t.isLt N_0
/-- The row of the whole array that row `r` of a point's block is. -/
def rowOf (r : Fin 512) : Fin 16384 := ⟨t.val * 512 + r, by have := lt_N t; omega⟩

/-- The sequence of a row of a point's block. -/
theorem member_rowOf (r : Fin 512) : (member (rowOf t r)).val = t.val / 4 := by
  have := lt_N t
  show (t.val * 512 + r.val) / 2048 = t.val / 4
  omega

/-- Where an entry of a point's block 0 lies in the attention's contexts. -/
theorem blk0 (r : Fin 512) (k : Fin 2048) : iblk m c 0 t (ix2 r k) = aCtx m c (ix2 (rowOf t r) k) := by
  show (((cfg0.win 0).blk t).view.read (Elt Ideal) (V m c main_arg0)) (ix2 r k) = _
  rw [V_main_arg0]
  blk_ext [idx t, rowOf]
/-- Where an entry of a point's block 1 lies in the values' up projection. -/
theorem blk1 (h : Fin 8) (p : Fin 256) (q : Fin 128) : iblk m c 1 t (ix3 h p q) = aUV m c (ix3 p h q) := by
  show (((cfg0.win 1).blk t).view.read (Elt Ideal) (V m c main_v1)) (ix3 h p q) = _
  have e : transpose S8x256x128 [1, 0, 2] (aUV m c) (by decide) (ix3 h p q) = aUV m c (ix3 p h q) := by pointwise []
  rw [V_uv, ← e]
  blk_ext [idx t]
/-- Where an entry of a point's block 2 lies in the output projection. -/
theorem blk2 (n j : Fin 1024) : iblk m c 2 t (ix2 n j) = aWO m c (ix2 n j) := by
  show (((cfg0.win 2).blk t).view.read (Elt Ideal) (V m c main_v2)) (ix2 n j) = _
  rw [V_wo]
  blk_ext [idx t]
/-- Where an entry of a point's block 3 lies in the residual stream. -/
theorem blk3 (r : Fin 512) (j : Fin 1024) : iblk m c 3 t (ix2 r j) = aX m c (ix2 (rowOf t r) j) := by
  show (((cfg0.win 3).blk t).view.read (Elt Ideal) (V m c main_arg3)) (ix2 r j) = _
  rw [V_main_arg3]
  blk_ext [idx t, rowOf]
/-- Where an entry of a point's block 4 lies in the modulation. -/
theorem blk4 (r : Fin 512) (j : Fin 1024) :
    iblk m c 4 t (ix4 0 0 0 j) = aMod m c (ix4 1 (member (rowOf t r)) 0 ⟨2048 + j, by omega⟩) := by
  have h := member_rowOf t r
  show (((cfg0.win 4).blk t).view.read (Elt Ideal) (V m c main_arg4)) (ix4 0 0 0 j) = _
  rw [V_main_arg4]
  blk_ext [idx t, h]

/-- Head `h`'s tile, computed from the block's part of the context and of the weights. -/
theorem head_tile (x : Vec Ideal S512x2048 .bf16) (w : Vec Ideal S8x256x128 .bf16) (r : Fin 512) (h : Fin 8) (q : Fin 128) :
    (![k0_pay2 (View.ld x r0_0) (View.ld w r0_1), k0_pay3 (View.ld x r0_2) (View.ld w r0_3),
        k0_pay4 (View.ld x r0_4) (View.ld w r0_5), k0_pay5 (View.ld x r0_6) (View.ld w r0_7),
        k0_pay6 (View.ld x r0_8) (View.ld w r0_9), k0_pay2 (View.ld x r0_10) (View.ld w r0_11),
        k0_pay2 (View.ld x r0_12) (View.ld w r0_13), k0_pay2 (View.ld x r0_14) (View.ld w r0_15)] :
        Fin 8 → Vec Ideal S512x128 .bf16) h (ix2 r q)
      = ∑ p : Fin 256, x (ix2 r ⟨h * 256 + p, by omega⟩) * w (ix3 h p q) := by
  fin_cases h
  · exact (tile_apply _ _ r q).trans (by pointwise [])
  · exact (tile_apply _ _ r q).trans (by pointwise [])
  · exact (tile_apply _ _ r q).trans (by pointwise [])
  · exact (tile_apply _ _ r q).trans (by pointwise [])
  · exact (tile_apply _ _ r q).trans (by pointwise [])
  · exact (tile_apply _ _ r q).trans (by pointwise [])
  · exact (tile_apply _ _ r q).trans (by pointwise [])
  · exact (tile_apply _ _ r q).trans (by pointwise [])

/-- What a point stores at an entry of its block of the result. -/
theorem out_apply (r : Fin 512) (j : Fin 1024) :
    out0_5 (iblk m c 0 t) (iblk m c 1 t) (iblk m c 2 t) (iblk m c 3 t) (iblk m c 4 t) (ix2 r j)
      = out (aCtx m c) (aUV m c) (aWO m c) (aX m c) (aMod m c) (rowOf t r) j := by
  unfold out0_5
  rw [View.canon_unit_zero zero2]
  simp only [View.ld_unit_zero (S := S512x1024) zero2, View.ld_unit_zero (S := S1024x1024) zero2,
    View.ld_unit_zero (S := S1x1x1x1024) zero4]
  rw [pay_apply]
  simp only [beside_apply, head_tile]
  unfold out heads
  simp only [blk0, blk1, blk2, blk3, blk4 m c t r j]

/-- The blocks of the result cover its array. -/
theorem covers : (cfg0.win 5).Covers := by decide +kernel

/-- Where an entry of a point's block of the result lies in the whole array. -/
theorem emb_out (r : Fin 512) (j : Fin 1024) : ((cfg0.win 5).blk t).view.emb (ix2 r j) = ix2 (rowOf t r) j := by
  blk_ext [idx t, rowOf]

/-- No entry of a block of the result is cut off: its place is its own index. -/
theorem inj_out (r : Fin 512) (j : Fin 1024) : (cfg0.win 5).xinj (cfg0.grid.coords t) (ix2 r j) = ix2 r j := rfl

/-- The kernel's result array is `outArr` of its arguments. -/
theorem result : (dats m 0 c).arrAt 5 cfg0.N = outArr (aCtx m c) (aUV m c) (aWO m c) (aX m c) (aMod m c) := by
  refine (dats m 0 c).arrAt_eq_of_covers 5 _ covers fun t hf y => ?_
  rw [after0_5]
  obtain ⟨r, j, rfl⟩ : ∃ (r : Fin 512) (j : Fin 1024), y = ix2 r j := ⟨y 0, y 1, eq_ix2 y⟩
  rw [emb_out t r j, outArr_apply, cast_eq, inj_out, out_apply]

end kernel

end Cert.Proof.MlaOut

end
-- ==== Proof.MlaOutClaim.lean ====
/-
  The claim of an odd layer's output projection.
-/
module

public import proofs.«01_k».proof.Defs
public import proofs.«01_k».proof.Proof.MlaOutValue
public import proofs.«01_k».proof.Proof.Gen.MlaOutRefIdeal.Run

@[expose] public section

set_option maxRecDepth 16384

noncomputable section

namespace Cert.Proof.MlaOut

open Idealize.ShloMosaic Idealize.SL.Sem

/-- Over the extended reals, the call's results are the reference's, from any arguments. -/
theorem value : Cert.algebraic_MlaOutIdeal_MlaOutRefIdeal (hMlaOutIdeal := Cert.MlaOutIdeal.Gen.facts)
    (hMlaOutRefIdeal := Cert.MlaOutRefIdeal.Gen.facts) := by
  intro m g m' g' _ agree
  refine ⟨fun c => outArr (aCtx m c) (aUV m c) (aWO m c) (aX m c) (aMod m c), ?_, ?_⟩
  · exact (θ_run _ _ _).mono (fun r h c => ⟨(h c).1.trans (result m c), (h c).2⟩) (Cert.MlaOutIdeal.Value.run_blocks m g)
  · refine (θ_run _ _ _).mono (fun r h c => ⟨(h c).1.trans ?_, (h c).2⟩) (Cert.MlaOutRefIdeal.Value.run m' g')
    obtain ⟨h0, h1, h2, h3, h4⟩ := agree c
    rw [Cert.MlaOutRefIdeal.Read.val_main_v13_eq, h0, h1, h2, h3, h4]
    exact ref_result _ _ _ _ _

end Cert.Proof.MlaOut

end
-- ==== Proof.DqkvSpec.lean ====
/-
  The down projection of the attention: what it computes, entry by entry, and that the reference computes it.
-/
module

public import proofs.«01_k».proof.Proof.Gen.DqkvRefIdeal.Read
public import proofs.«01_k».proof.Proof.Layer

@[expose] public section

set_option maxRecDepth 16384

noncomputable section

namespace Cert.Proof.Dqkv

open Cert.DqkvRefIdeal Idealize.ShloMosaic Idealize.ShloMosaic.TcCoe Idealize.ShloMosaic.Tactic

section spec

variable (x : Vec Ideal S16384x1024 .f32) (g : Vec Ideal S1x1024 .f32) (md : Vec Ideal S4x8x1x6144 .f32)
  (w : Vec Ideal S1024x704 .f32) (qn : Vec Ideal S1x384 .f32) (kn : Vec Ideal S1x256 .f32)
  (cs sn : Vec Ideal S2048x32 .f32)

/-- Row `r` of the attention's input: the residual stream's row, normed and modulated. -/
@[irreducible] def hid (r : Fin 16384) (k : Fin 1024) : EReal :=
  modRow (fun k => x (ix2 r k)) (fun k => g (ix2 0 k)) (fun k => md (ix4 1 (member r) 0 ⟨1024 + k, by omega⟩))
    (fun k => md (ix4 1 (member r) 0 ⟨k, by omega⟩)) k

/-- The row's 704 latent entries: 384 for the queries, 256 for keys and values, 64 for the rotated key. -/
@[irreducible] def lat (r : Fin 16384) (n : Fin 704) : EReal := ∑ k : Fin 1024, hid x g md r k * w (ix2 k n)

/-- The queries' latent row, normed. -/
@[irreducible] def cq (r : Fin 16384) (j : Fin 384) : EReal :=
  lat x g md w r ⟨j, by omega⟩ * rms (Ideal.ofBits .f32 0x43C00000#32) (fun k : Fin 384 => lat x g md w r ⟨k, by omega⟩)
    * qn (ix2 0 j)

/-- The keys' and values' latent row, normed. -/
@[irreducible] def ckv (r : Fin 16384) (j : Fin 256) : EReal :=
  lat x g md w r ⟨384 + j, by omega⟩
    * rms (Ideal.ofBits .f32 0x43800000#32) (fun k : Fin 256 => lat x g md w r ⟨384 + k, by omega⟩) * kn (ix2 0 j)

/-- The rotated key: the row's last 64 entries as 32 pairs `(a, b)`, turned by the angle of the row's position. -/
@[irreducible] def kr (r : Fin 16384) (j : Fin 64) : EReal :=
  if h : j.val < 32 then
    lat x g md w r ⟨640 + j, by omega⟩ * cs (ix2 (place r) ⟨j, h⟩) - lat x g md w r ⟨672 + j, by omega⟩ * sn (ix2 (place r) ⟨j, h⟩)
  else
    lat x g md w r ⟨608 + j, by omega⟩ * sn (ix2 (place r) ⟨j - 32, by omega⟩)
      + lat x g md w r ⟨640 + j, by omega⟩ * cs (ix2 (place r) ⟨j - 32, by omega⟩)

/-- The array of `cq`. -/
def cqArr : Vec Ideal S16384x384 .bf16 := fun i => cq x g md w qn (i 0) (i 1)
/-- The array of `ckv`. -/
def ckvArr : Vec Ideal S16384x256 .f32 := fun i => ckv x g md w kn (i 0) (i 1)
/-- The array of `kr`. -/
def krArr : Vec Ideal S16384x64 .f32 := fun i => kr x g md w cs sn (i 0) (i 1)
/-- The two bf16 copies. -/
def ckvArrB : Vec Ideal S16384x256 .bf16 := fun i => ckv x g md w kn (i 0) (i 1)
/-- The array of `kr` in bf16. -/
def krArrB : Vec Ideal S16384x64 .bf16 := fun i => kr x g md w cs sn (i 0) (i 1)

/-- The array of `cq` at an entry. -/
theorem cqArr_apply (r : Fin 16384) (j : Fin 384) : cqArr x g md w qn (ix2 r j) = cq x g md w qn r j := rfl
/-- The array of `ckv` at an entry. -/
theorem ckvArr_apply (r : Fin 16384) (j : Fin 256) : ckvArr x g md w kn (ix2 r j) = ckv x g md w kn r j := rfl
/-- The array of `kr` at an entry. -/
theorem krArr_apply (r : Fin 16384) (j : Fin 64) : krArr x g md w cs sn (ix2 r j) = kr x g md w cs sn r j := rfl
/-- The array of `ckv` in bf16 at an entry. -/
theorem ckvArrB_apply (r : Fin 16384) (j : Fin 256) : ckvArrB x g md w kn (ix2 r j) = ckv x g md w kn r j := rfl
/-- The array of `kr` in bf16 at an entry. -/
theorem krArrB_apply (r : Fin 16384) (j : Fin 64) : krArrB x g md w cs sn (ix2 r j) = kr x g md w cs sn r j := rfl

end spec

section reference

open Cert.DqkvRefIdeal.Read

variable (x : Vec Ideal S16384x1024 .f32) (g : Vec Ideal S1x1024 .f32) (md : Vec Ideal S4x8x1x6144 .f32)
  (w : Vec Ideal S1024x704 .f32) (qn : Vec Ideal S1x384 .f32) (kn : Vec Ideal S1x256 .f32)
  (cs sn : Vec Ideal S2048x32 .f32)

/-- The reference's modulated norm at an entry. -/
theorem ref_hid (b : Fin 8) (t : Fin 2048) (k : Fin 1024) :
    val_main_v26 (F := Ideal) x g md (ix3 b t k) = hid x g md (rowAt b t) k := by
  unfold hid
  rw [member_rowAt]
  pointwise [modRow, rowAt, rms, width, eps, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]

/-- The reference's down projection at an entry. -/
theorem ref_lat (b : Fin 8) (t : Fin 2048) (n : Fin 704) :
    val_main_v27 (F := Ideal) x g md w (ix3 b t n) = lat x g md w (rowAt b t) n := by
  unfold val_main_v27 lat
  pointwise []
  simp only [ref_hid]

/-- The reference's normalised latents of the queries at an entry. -/
theorem ref_cq (b : Fin 8) (t : Fin 2048) (j : Fin 384) :
    val_main_v42 (F := Ideal) x g md w qn (ix3 b t j) = cq x g md w qn (rowAt b t) j := by
  unfold cq rms eps
  pointwise [val_main_v42, val_main_v41, val_main_v40, val_main_v39, val_main_v38, val_main_v37, val_main_v36, val_main_v35,
    val_main_v34, val_main_v33, val_main_v32, val_main_v31, val_main_v30, val_main_v29, val_main_v28, val_main_cst_3,
    val_main_cst_4, val_main_cst_5]
  simp only [ref_lat]

/-- The reference's normalised latents of keys and values at an entry. -/
theorem ref_ckv (b : Fin 8) (t : Fin 2048) (j : Fin 256) :
    val_main_v58 (F := Ideal) x g md w kn (ix3 b t j) = ckv x g md w kn (rowAt b t) j := by
  unfold ckv rms eps
  pointwise [val_main_v58, val_main_v57, val_main_v56, val_main_v55, val_main_v54, val_main_v53, val_main_v52, val_main_v51,
    val_main_v50, val_main_v49, val_main_v48, val_main_v47, val_main_v46, val_main_v45, val_main_v44, val_main_cst_6,
    val_main_cst_7, val_main_cst_8]
  simp only [ref_lat]

/-- The reference's rotated key at an entry. -/
theorem ref_kr (b : Fin 8) (t : Fin 2048) (j : Fin 64) :
    val_main_v77 (F := Ideal) x g md w cs sn (ix3 b t j) = kr x g md w cs sn (rowAt b t) j := by
  unfold kr
  rw [place_rowAt]
  pointwise [val_main_v77, val_main_v76, val_main_v75, val_main_v74, val_main_v73, val_main_v72, val_main_v71, val_main_v70,
    val_main_v69, val_main_v68, val_main_v67, val_main_v66, val_main_v65, val_main_v64, val_main_v63, val_main_v62,
    val_main_v61, val_main_v60]
  simp only [ref_lat]
  by_cases h : j.val < 32
  · have e : (⟨640 + (32 + j.val), by omega⟩ : Fin 704) = ⟨672 + j.val, by omega⟩ :=
      Fin.ext (by show 640 + (32 + j.val) = 672 + j.val; omega)
    simp [h, e]
  · have e0 : (⟨640 + (j.val - 32), by omega⟩ : Fin 704) = ⟨608 + j.val, by omega⟩ :=
      Fin.ext (by show 640 + (j.val - 32) = 608 + j.val; omega)
    have e1 : (⟨640 + (32 + (j.val - 32)), by omega⟩ : Fin 704) = ⟨640 + j.val, by omega⟩ :=
      Fin.ext (by show 640 + (32 + (j.val - 32)) = 640 + j.val; omega)
    simp [h, e0, e1]

/-- The reference's array is the array of `cq`. -/
theorem ref_cqArr : val_main_v79 (F := Ideal) x g md w qn = cqArr x g md w qn := by
  funext i
  obtain ⟨r, j, rfl⟩ : ∃ (r : Fin 16384) (j : Fin 384), i = ix2 r j := ⟨i 0, i 1, eq_ix2 i⟩
  have h := ref_cq x g md w qn (member r) (place r) j
  rw [rowAt_split] at h
  rw [cqArr_apply, ← h, val_main_v79, val_main_v43]
  pointwise [member, place]

/-- The reference's array is the array of `ckv`. -/
theorem ref_ckvArr : val_main_v59 (F := Ideal) x g md w kn = ckvArr x g md w kn := by
  funext i
  obtain ⟨r, j, rfl⟩ : ∃ (r : Fin 16384) (j : Fin 256), i = ix2 r j := ⟨i 0, i 1, eq_ix2 i⟩
  have h := ref_ckv x g md w kn (member r) (place r) j
  rw [rowAt_split] at h
  rw [ckvArr_apply, ← h, val_main_v59]
  pointwise [member, place]

/-- The reference's array is the array of `kr`. -/
theorem ref_krArr : val_main_v78 (F := Ideal) x g md w cs sn = krArr x g md w cs sn := by
  funext i
  obtain ⟨r, j, rfl⟩ : ∃ (r : Fin 16384) (j : Fin 64), i = ix2 r j := ⟨i 0, i 1, eq_ix2 i⟩
  have h := ref_kr x g md w cs sn (member r) (place r) j
  rw [rowAt_split] at h
  rw [krArr_apply, ← h, val_main_v78]
  pointwise [member, place]

/-- The reference's array is the array of `ckv` in bf16. -/
theorem ref_ckvArrB : val_main_v80 (F := Ideal) x g md w kn = ckvArrB x g md w kn :=
  ref_ckvArr x g md w kn

/-- The reference's array is the array of `kr` in bf16. -/
theorem ref_krArrB : val_main_v81 (F := Ideal) x g md w cs sn = krArrB x g md w cs sn :=
  ref_krArr x g md w cs sn

end reference

end Cert.Proof.Dqkv

end
-- ==== Proof.DqkvValue.lean ====
/-
  The down projection of the attention: the kernel's five results.
-/
module

public import proofs.«01_k».proof.Proof.Gen.DqkvIdeal.Value
public import proofs.«01_k».proof.Proof.DqkvSpec
public import Idealize.ShloMosaic.Lib.Pipeline.ValueKit
public import Idealize.ShloMosaic.Lib.Claim

@[expose] public section

set_option maxRecDepth 16384

noncomputable section

namespace Cert.Proof.Dqkv

open Cert.DqkvIdeal Cert.DqkvIdeal.Gen Idealize.ShloMosaic Idealize.ShloMosaic.TcCoe Idealize.ShloMosaic.Tactic Idealize.SL.Sem

section body

variable (x : Vec Ideal S512x1024 .f32) (g : Vec Ideal S1x1024 .f32) (sc sh : Vec Ideal S1x1x1x1024 .f32)
  (w : Vec Ideal S1024x768 .bf16)

/-- The block's products with the padded weights. -/
theorem pay3_apply (r : Fin 512) (n : Fin 768) :
    k0_pay3 x g sc sh w (ix2 r n) = ∑ k : Fin 1024, modRow (fun k => x (ix2 r k)) (fun k => g (ix2 0 k))
      (fun k => sc (ix4 0 0 0 k)) (fun k => sh (ix4 0 0 0 k)) k * w (ix2 k n) := by
  pointwise [k0_pay3, modRow, rms, width, eps]

/-- The queries' norm of a row of the down projection. -/
theorem pay6_apply (qn : Vec Ideal S1x384 .f32) (r : Fin 512) (j : Fin 384) :
    k0_pay6 (k0_pay4 x g sc sh w) qn (k0_pay5 x g sc sh w) (Scalar.ofBits .f32 0x358637BD#32) (ix2 r j)
      = k0_pay3 x g sc sh w (ix2 r ⟨j, by omega⟩) * rms (Ideal.ofBits .f32 0x43C00000#32)
        (fun k : Fin 384 => k0_pay3 x g sc sh w (ix2 r ⟨k, by omega⟩)) * qn (ix2 0 j) := by
  unfold k0_pay6 k0_pay5 k0_pay4
  generalize k0_pay3 x g sc sh w = v
  pointwise [rms, eps]

/-- The latents' norm of a row of the down projection. -/
theorem pay7_apply (v : Vec Ideal S512x768 .f32) (kn : Vec Ideal S1x256 .f32) (r : Fin 512) (j : Fin 256) :
    k0_pay7 v kn (ix2 r j) = v (ix2 r ⟨384 + j, by omega⟩) * rms (Ideal.ofBits .f32 0x43800000#32)
        (fun k : Fin 256 => v (ix2 r ⟨384 + k, by omega⟩)) * kn (ix2 0 j) := by
  pointwise [k0_pay7, rms, eps]

/-- Lane `j` lies in a pair's first half exactly if `j % 64 < 32`; over 64 lanes, if `j < 32`. -/
theorem pay1_apply (v : Vec Ideal S512x768 .f32) (cs sn : Vec Ideal S512x128 .f32) (r : Fin 512) (j : Fin 64) :
    k0_pay1 (k0_pay9 v) (k0_pay10 cs) (k0_pay11 sn) (Scalar.select (Scalar.cmpi .eq 64#32 0#32) 1#32 64#32) k0_pay12 k0_pay13
        (ix2 r j)
      = v (ix2 r ⟨640 + j, by omega⟩) * cs (ix2 r ⟨j, by omega⟩)
        + (if h : j.val < 32 then v (ix2 r ⟨672 + j, by omega⟩) else v (ix2 r ⟨608 + j, by omega⟩)) * sn (ix2 r ⟨j, by omega⟩) := by
  pointwise [k0_pay1, k0_pay9, k0_pay10, k0_pay11, k0_pay12, k0_pay13]
  have e := laneMask_eq ⟨j.val, by omega⟩
  unfold laneMask at e
  dsimp only at e
  rw [e]
  by_cases h : j.val < 32
  · have e0 : (⟨640 + (j.val + 128 - 96) % 128, by omega⟩ : Fin 768) = ⟨672 + j.val, by omega⟩ :=
      Fin.ext (by show 640 + (j.val + 128 - 96) % 128 = 672 + j.val; omega)
    have e1 : j.val % 64 < 32 := by omega
    rw [e0, if_pos e1, dif_pos h]
    rfl
  · have e0 : (⟨640 + (j.val + 128 - 32) % 128, by omega⟩ : Fin 768) = ⟨608 + j.val, by omega⟩ :=
      Fin.ext (by show 640 + (j.val + 128 - 32) % 128 = 608 + j.val; omega)
    have e1 : ¬j.val % 64 < 32 := by omega
    rw [e0, if_neg e1, dif_neg h]
    rfl

end body

section kernel

variable (m : (ℓ : Loc nD τ sig) → Buf (Elt Ideal) ℓ) (c : Dev nD)

/-- The argument that holds the residual stream. -/
abbrev aX : Vec Ideal S16384x1024 .f32 := m ((c : Thread nD τ).loc main_arg0)
/-- The argument that holds the norm's gain. -/
abbrev aG : Vec Ideal S1x1024 .f32 := m ((c : Thread nD τ).loc main_arg1)
/-- The argument that holds the modulation. -/
abbrev aMod : Vec Ideal S4x8x1x6144 .f32 := m ((c : Thread nD τ).loc main_arg2)
/-- The argument that holds the down projection. -/
abbrev aW : Vec Ideal S1024x704 .f32 := m ((c : Thread nD τ).loc main_arg3)
/-- The argument that holds the gain of the queries' norm. -/
abbrev aQn : Vec Ideal S1x384 .f32 := m ((c : Thread nD τ).loc main_arg4)
/-- The argument that holds the gain of the latents' norm. -/
abbrev aKn : Vec Ideal S1x256 .f32 := m ((c : Thread nD τ).loc main_arg5)
/-- The argument that holds the cosines. -/
abbrev aCos : Vec Ideal S2048x32 .f32 := m ((c : Thread nD τ).loc main_arg6)
/-- The argument that holds the sines. -/
abbrev aSin : Vec Ideal S2048x32 .f32 := m ((c : Thread nD τ).loc main_arg7)

/-- The weights the launch is given: cast to bf16 and padded. -/
theorem V_w : V m c main_v1 = truncf (F := Ideal) .bf16 (pad S1024x768 ![0, 0] ![0, 64] ![0, 0] (aW m c)
    (sitofp (F := Ideal) .f32 (constantI S_ 32 0#32)) pads_S1024x704_S1024x768_000_0640 h_S_ : FVec Ideal S1024x768 .f32) bitsLt_bf16_f32 := by
  unfold_abbrev_sides
  simp only [hostOps0, hostOps0_1, hostOps0_2, List.flatten_cons, List.flatten_nil, List.append_nil, List.cons_append,
    List.nil_append]
  after_results
  rfl

/-- The cosine table laid out over the lanes. -/
theorem V_cos : V m c main_v2 = concatenate S2048x128 1 [⟨S2048x32, aCos m c⟩, ⟨S2048x32, aCos m c⟩, ⟨S2048x32, aCos m c⟩,
    ⟨S2048x32, aCos m c⟩] concatenates_S2048x32_S2048x32_S2048x32_S2048x32_S2048x128_d1 := by
  unfold_abbrev_sides
  simp only [hostOps0, hostOps0_1, hostOps0_2, List.flatten_cons, List.flatten_nil, List.append_nil, List.cons_append,
    List.nil_append]
  after_results
  rfl

/-- The sines with their signs turned. -/
def negSin : Vec Ideal S2048x32 .f32 := Host.negf (F := Ideal) (φ := .f32) (aSin m c)

/-- The sine table laid out over the lanes, its first halves negated. -/
theorem V_sin : V m c main_v5 = concatenate S2048x128 1 [⟨S2048x32, negSin m c⟩,
    ⟨S2048x32, aSin m c⟩, ⟨S2048x32, negSin m c⟩,
    ⟨S2048x32, aSin m c⟩] concatenates_S2048x32_S2048x32_S2048x32_S2048x32_S2048x128_d1 := by
  unfold_abbrev_sides
  simp only [hostOps0, hostOps0_1, hostOps0_2, List.flatten_cons, List.flatten_nil, List.append_nil, List.cons_append,
    List.nil_append]
  after_results
  rfl

/-- The weights as the call finds them: 704 columns of the argument, then padding that no result reads. -/
theorem V_w_apply (k : Fin 1024) (n : Fin 704) : V m c main_v1 (ix2 k ⟨n, by omega⟩) = aW m c (ix2 k n) := by
  rw [V_w]
  pointwise []

/-- The cosines and sines as the call finds them, laid over the lanes. -/
theorem V_cos_lo (t : Fin 2048) (j : Fin 64) (h : j.val < 32) : V m c main_v2 (ix2 t ⟨j, by omega⟩) = aCos m c (ix2 t ⟨j, h⟩) := by
  rw [V_cos]
  pointwise []
  simp [h]
/-- The cosine table in the second half of the key's lanes. -/
theorem V_cos_hi (t : Fin 2048) (j : Fin 64) (h : ¬j.val < 32) :
    V m c main_v2 (ix2 t ⟨j, by omega⟩) = aCos m c (ix2 t ⟨j - 32, by omega⟩) := by
  have h1 : j.val - 32 < 32 := by omega
  rw [V_cos]
  pointwise []
  simp [h, h1]
/-- The sine table in the first half of the key's lanes, with its sign. -/
theorem V_sin_lo (t : Fin 2048) (j : Fin 64) (h : j.val < 32) : V m c main_v5 (ix2 t ⟨j, by omega⟩) = -aSin m c (ix2 t ⟨j, h⟩) := by
  rw [V_sin]
  pointwise [negSin]
  simp [h]
/-- The sine table in the second half of the key's lanes. -/
theorem V_sin_hi (t : Fin 2048) (j : Fin 64) (h : ¬j.val < 32) :
    V m c main_v5 (ix2 t ⟨j, by omega⟩) = aSin m c (ix2 t ⟨j - 32, by omega⟩) := by
  have h1 : j.val - 32 < 32 := by omega
  rw [V_sin]
  pointwise [negSin]
  simp [h, h1]

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- Where the windows' blocks lie. -/
theorem idx : ∀ t : Fin cfg0.N, win0_0.index t = ![t.val, 0] ∧ win0_1.index t = ![0, 0]
    ∧ win0_2.index t = ![1, t.val / 4, 0, 0] ∧ win0_3.index t = ![1, t.val / 4, 0, 1] ∧ win0_4.index t = ![0, 0]
    ∧ win0_5.index t = ![0, 0] ∧ win0_6.index t = ![0, 0] ∧ win0_7.index t = ![t.val % 4, 0] ∧ win0_8.index t = ![t.val % 4, 0] :=
  (by decide +kernel : ∀ t : Fin grid0.N, win0_0.index t = ![t.val, 0] ∧ win0_1.index t = ![0, 0]
    ∧ win0_2.index t = ![1, t.val / 4, 0, 0] ∧ win0_3.index t = ![1, t.val / 4, 0, 1] ∧ win0_4.index t = ![0, 0]
    ∧ win0_5.index t = ![0, 0] ∧ win0_6.index t = ![0, 0] ∧ win0_7.index t = ![t.val % 4, 0] ∧ win0_8.index t = ![t.val % 4, 0])

/-- The indices of the result blocks at every point. -/
theorem idx_out : ∀ t : Fin cfg0.N, win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, win0_9.index t = ![t.val, 0] ∧ win0_10.index t = ![t.val, 0]
    ∧ win0_11.index t = ![t.val, 0] ∧ win0_12.index t = ![t.val, 0] ∧ win0_13.index t = ![t.val, 0])

variable (t : Fin cfg0.N)

/-- The grid has 32 points. -/
theorem lt_N : t.val < 32 := lt_of_lt_of_eq t.isLt N_0
/-- The row of the whole array that row `r` of a point's block is. -/
def rowOf (r : Fin 512) : Fin 16384 := ⟨t.val * 512 + r, by have := lt_N t; omega⟩

/-- The sequence of a row of a point's block. -/
theorem member_rowOf (r : Fin 512) : (member (rowOf t r)).val = t.val / 4 := by
  have := lt_N t
  show (t.val * 512 + r.val) / 2048 = t.val / 4
  omega
/-- The position in its sequence of a row of a point's block. -/
theorem place_rowOf (r : Fin 512) : (place (rowOf t r)).val = t.val % 4 * 512 + r := by
  have := lt_N t
  show (t.val * 512 + r.val) % 2048 = t.val % 4 * 512 + r.val
  omega

/-- Where an entry of a point's block 0 lies in the residual stream. -/
theorem blk0 (r : Fin 512) (k : Fin 1024) : iblk m c 0 t (ix2 r k) = aX m c (ix2 (rowOf t r) k) := by
  show (((cfg0.win 0).blk t).view.read (Elt Ideal) (V m c main_arg0)) (ix2 r k) = _
  rw [V_main_arg0]
  blk_ext [idx t, rowOf]
/-- Where an entry of a point's block 1 lies in the norm's gain. -/
theorem blk1 (k : Fin 1024) : iblk m c 1 t (ix2 0 k) = aG m c (ix2 0 k) := by
  show (((cfg0.win 1).blk t).view.read (Elt Ideal) (V m c main_arg1)) (ix2 0 k) = _
  rw [V_main_arg1]
  blk_ext [idx t]
/-- Where an entry of a point's block 2 lies in the modulation. -/
theorem blk2 (r : Fin 512) (k : Fin 1024) :
    iblk m c 2 t (ix4 0 0 0 k) = aMod m c (ix4 1 (member (rowOf t r)) 0 ⟨k, by omega⟩) := by
  have h := member_rowOf t r
  show (((cfg0.win 2).blk t).view.read (Elt Ideal) (V m c main_arg2)) (ix4 0 0 0 k) = _
  rw [V_main_arg2]
  blk_ext [idx t, h]
/-- Where an entry of a point's block 3 lies in the modulation. -/
theorem blk3 (r : Fin 512) (k : Fin 1024) :
    iblk m c 3 t (ix4 0 0 0 k) = aMod m c (ix4 1 (member (rowOf t r)) 0 ⟨1024 + k, by omega⟩) := by
  have h := member_rowOf t r
  show (((cfg0.win 3).blk t).view.read (Elt Ideal) (V m c main_arg2)) (ix4 0 0 0 k) = _
  rw [V_main_arg2]
  blk_ext [idx t, h]
/-- Where an entry of a point's block 4 lies in the down projection. -/
theorem blk4 (k : Fin 1024) (n : Fin 704) : iblk m c 4 t (ix2 k ⟨n, by omega⟩) = aW m c (ix2 k n) := by
  rw [← V_w_apply m c k n]
  show (((cfg0.win 4).blk t).view.read (Elt Ideal) (V m c main_v1)) (ix2 k ⟨n, by omega⟩) = _
  generalize V m c main_v1 = v
  blk_ext [idx t]
/-- Where an entry of a point's block 5 lies in the gain of the queries' norm. -/
theorem blk5 (j : Fin 384) : iblk m c 5 t (ix2 0 j) = aQn m c (ix2 0 j) := by
  show (((cfg0.win 5).blk t).view.read (Elt Ideal) (V m c main_arg4)) (ix2 0 j) = _
  rw [V_main_arg4]
  blk_ext [idx t]
/-- Where an entry of a point's block 6 lies in the gain of the latents' norm. -/
theorem blk6 (j : Fin 256) : iblk m c 6 t (ix2 0 j) = aKn m c (ix2 0 j) := by
  show (((cfg0.win 6).blk t).view.read (Elt Ideal) (V m c main_arg5)) (ix2 0 j) = _
  rw [V_main_arg5]
  blk_ext [idx t]
/-- Where an entry of a point's block 7 lies in the array the host prepares for it. -/
theorem blk7 (r : Fin 512) (j : Fin 128) : iblk m c 7 t (ix2 r j) = V m c main_v2 (ix2 (place (rowOf t r)) j) := by
  have h := place_rowOf t r
  show (((cfg0.win 7).blk t).view.read (Elt Ideal) (V m c main_v2)) (ix2 r j) = _
  generalize V m c main_v2 = v
  blk_ext [idx t, h]
/-- Where an entry of a point's block 8 lies in the array the host prepares for it. -/
theorem blk8 (r : Fin 512) (j : Fin 128) : iblk m c 8 t (ix2 r j) = V m c main_v5 (ix2 (place (rowOf t r)) j) := by
  have h := place_rowOf t r
  show (((cfg0.win 8).blk t).view.read (Elt Ideal) (V m c main_v5)) (ix2 r j) = _
  generalize V m c main_v5 = v
  blk_ext [idx t, h]

/-- The block's products are the rows' latent entries. -/
theorem lat_apply (r : Fin 512) (n : Fin 704) :
    k0_pay3 (iblk m c 0 t) (iblk m c 1 t) (iblk m c 3 t) (iblk m c 2 t) (iblk m c 4 t) (ix2 r ⟨n, by omega⟩)
      = lat (aX m c) (aG m c) (aMod m c) (aW m c) (rowOf t r) n := by
  rw [pay3_apply]
  unfold lat hid
  simp only [blk0, blk1, blk2 m c t r, blk3 m c t r, blk4]

/-- What a point stores at an entry of its block of the normalised latents of the queries. -/
theorem cq_apply (r : Fin 512) (j : Fin 384) :
    out0_9 (iblk m c 0 t) (iblk m c 1 t) (iblk m c 2 t) (iblk m c 3 t) (iblk m c 4 t) (iblk m c 5 t) (iblk m c 6 t)
        (iblk m c 7 t) (iblk m c 8 t) (ix2 r j)
      = cq (aX m c) (aG m c) (aMod m c) (aW m c) (aQn m c) (rowOf t r) j := by
  unfold out0_9
  rw [View.canon_unit_zero zero2]
  simp only [View.ld_unit_zero (S := S512x1024) zero2, View.ld_unit_zero (S := S1x1024) zero2,
    View.ld_unit_zero (S := S1x1x1x1024) zero4, View.ld_unit_zero (S := S1024x768) zero2, View.ld_unit_zero (S := S1x384) zero2]
  rw [pay6_apply]
  unfold cq
  have e : ∀ k : Fin 384, k0_pay3 (iblk m c 0 t) (iblk m c 1 t) (iblk m c 3 t) (iblk m c 2 t) (iblk m c 4 t)
      (ix2 r ⟨k, by omega⟩) = _ := fun k => lat_apply m c t r ⟨k, by omega⟩
  simp only [e, blk5]

/-- The products as the later stores read them. -/
theorem prod_eq : k0_pay14 (iblk m c 0 t) (iblk m c 1 t) (iblk m c 2 t) (iblk m c 3 t) (iblk m c 4 t) (iblk m c 5 t)
      (iblk m c 6 t) (iblk m c 7 t) (iblk m c 8 t)
    = k0_pay3 (iblk m c 0 t) (iblk m c 1 t) (iblk m c 3 t) (iblk m c 2 t) (iblk m c 4 t) := by
  unfold k0_pay14
  simp only [View.ld_unit_zero (S := S512x1024) zero2, View.ld_unit_zero (S := S1x1024) zero2,
    View.ld_unit_zero (S := S1x1x1x1024) zero4, View.ld_unit_zero (S := S1024x768) zero2]

/-- What a point stores at an entry of its block of the normalised latents of keys and values. -/
theorem ckv_apply (r : Fin 512) (j : Fin 256) :
    out0_10 (iblk m c 0 t) (iblk m c 1 t) (iblk m c 2 t) (iblk m c 3 t) (iblk m c 4 t) (iblk m c 5 t) (iblk m c 6 t)
        (iblk m c 7 t) (iblk m c 8 t) (ix2 r j)
      = ckv (aX m c) (aG m c) (aMod m c) (aW m c) (aKn m c) (rowOf t r) j := by
  unfold out0_10
  rw [View.canon_unit_zero zero2, prod_eq]
  simp only [View.ld_unit_zero (S := S1x256) zero2]
  rw [pay7_apply]
  unfold ckv
  have e : ∀ k : Fin 256, k0_pay3 (iblk m c 0 t) (iblk m c 1 t) (iblk m c 3 t) (iblk m c 2 t) (iblk m c 4 t)
      (ix2 r ⟨384 + k, by omega⟩) = _ := fun k => lat_apply m c t r ⟨384 + k, by omega⟩
  simp only [e, blk6]

/-- What a point stores at an entry of its block of the normalised latents, rounded. -/
theorem ckvB_apply (r : Fin 512) (j : Fin 256) :
    out0_12 (iblk m c 0 t) (iblk m c 1 t) (iblk m c 2 t) (iblk m c 3 t) (iblk m c 4 t) (iblk m c 5 t) (iblk m c 6 t)
        (iblk m c 7 t) (iblk m c 8 t) (ix2 r j)
      = ckv (aX m c) (aG m c) (aMod m c) (aW m c) (aKn m c) (rowOf t r) j := by
  rw [← ckv_apply m c t r j]
  unfold out0_12 out0_10
  rw [View.canon_unit_zero zero2, View.canon_unit_zero zero2]
  rfl

/-- What a point stores at an entry of its block of the rotated key. -/
theorem kr_apply (r : Fin 512) (j : Fin 64) :
    out0_11 (iblk m c 0 t) (iblk m c 1 t) (iblk m c 2 t) (iblk m c 3 t) (iblk m c 4 t) (iblk m c 5 t) (iblk m c 6 t)
        (iblk m c 7 t) (iblk m c 8 t) (ix2 r j)
      = kr (aX m c) (aG m c) (aMod m c) (aW m c) (aCos m c) (aSin m c) (rowOf t r) j := by
  unfold out0_11
  rw [View.canon_unit_zero zero2]
  unfold k0_pay15 k0_pay16 k0_pay17 k0_pay18 k0_pay19
  rw [prod_eq]
  simp only [View.ld_unit_zero (S := S512x128) zero2]
  rw [pay1_apply, blk7, blk8]
  unfold kr
  by_cases h : j.val < 32
  · rw [dif_pos h, dif_pos h, V_cos_lo m c _ j h, V_sin_lo m c _ j h, mul_neg, ← sub_eq_add_neg]
    exact congrArg₂ (fun a b => a * _ - b * _) (lat_apply m c t r ⟨640 + j, by omega⟩) (lat_apply m c t r ⟨672 + j, by omega⟩)
  · rw [dif_neg h, dif_neg h, V_cos_hi m c _ j h, V_sin_hi m c _ j h, add_comm]
    exact congrArg₂ (fun a b => a * _ + b * _) (lat_apply m c t r ⟨608 + j, by omega⟩) (lat_apply m c t r ⟨640 + j, by omega⟩)

/-- What a point stores at an entry of its block of the rotated key, rounded. -/
theorem krB_apply (r : Fin 512) (j : Fin 64) :
    out0_13 (iblk m c 0 t) (iblk m c 1 t) (iblk m c 2 t) (iblk m c 3 t) (iblk m c 4 t) (iblk m c 5 t) (iblk m c 6 t)
        (iblk m c 7 t) (iblk m c 8 t) (ix2 r j)
      = kr (aX m c) (aG m c) (aMod m c) (aW m c) (aCos m c) (aSin m c) (rowOf t r) j := by
  rw [← kr_apply m c t r j]
  unfold out0_13 out0_11
  rw [View.canon_unit_zero zero2, View.canon_unit_zero zero2]
  rfl

/-- The blocks of result window 9 cover its array. -/
theorem covers9 : (cfg0.win 9).Covers := by decide +kernel
/-- The blocks of result window 10 cover its array. -/
theorem covers10 : (cfg0.win 10).Covers := by decide +kernel
/-- The blocks of result window 11 cover its array. -/
theorem covers11 : (cfg0.win 11).Covers := by decide +kernel
/-- The blocks of result window 12 cover its array. -/
theorem covers12 : (cfg0.win 12).Covers := by decide +kernel
/-- The blocks of result window 13 cover its array. -/
theorem covers13 : (cfg0.win 13).Covers := by decide +kernel

/-- Where an entry of a point's block of result window 9 lies in the whole array. -/
theorem emb9 (r : Fin 512) (j : Fin 384) : ((cfg0.win 9).blk t).view.emb (ix2 r j) = ix2 (rowOf t r) j := by
  blk_ext [idx_out t, rowOf]
/-- Where an entry of a point's block of result window 10 lies in the whole array. -/
theorem emb10 (r : Fin 512) (j : Fin 256) : ((cfg0.win 10).blk t).view.emb (ix2 r j) = ix2 (rowOf t r) j := by
  blk_ext [idx_out t, rowOf]
/-- Where an entry of a point's block of result window 11 lies in the whole array. -/
theorem emb11 (r : Fin 512) (j : Fin 64) : ((cfg0.win 11).blk t).view.emb (ix2 r j) = ix2 (rowOf t r) j := by
  blk_ext [idx_out t, rowOf]
/-- Where an entry of a point's block of result window 12 lies in the whole array. -/
theorem emb12 (r : Fin 512) (j : Fin 256) : ((cfg0.win 12).blk t).view.emb (ix2 r j) = ix2 (rowOf t r) j := by
  blk_ext [idx_out t, rowOf]
/-- Where an entry of a point's block of result window 13 lies in the whole array. -/
theorem emb13 (r : Fin 512) (j : Fin 64) : ((cfg0.win 13).blk t).view.emb (ix2 r j) = ix2 (rowOf t r) j := by
  blk_ext [idx_out t, rowOf]

/-- No entry of a block of result window 9 is cut off: its place is its own index. -/
theorem inj9 (r : Fin 512) (j : Fin 384) : (cfg0.win 9).xinj (cfg0.grid.coords t) (ix2 r j) = ix2 r j := rfl
/-- No entry of a block of result window 10 is cut off: its place is its own index. -/
theorem inj10 (r : Fin 512) (j : Fin 256) : (cfg0.win 10).xinj (cfg0.grid.coords t) (ix2 r j) = ix2 r j := rfl
/-- No entry of a block of result window 11 is cut off: its place is its own index. -/
theorem inj11 (r : Fin 512) (j : Fin 64) : (cfg0.win 11).xinj (cfg0.grid.coords t) (ix2 r j) = ix2 r j := rfl
/-- No entry of a block of result window 12 is cut off: its place is its own index. -/
theorem inj12 (r : Fin 512) (j : Fin 256) : (cfg0.win 12).xinj (cfg0.grid.coords t) (ix2 r j) = ix2 r j := rfl
/-- No entry of a block of result window 13 is cut off: its place is its own index. -/
theorem inj13 (r : Fin 512) (j : Fin 64) : (cfg0.win 13).xinj (cfg0.grid.coords t) (ix2 r j) = ix2 r j := rfl

/-- The finished array of the normalised latents of the queries is the specified one. -/
theorem result_cq : (dats m 0 c).arrAt 9 cfg0.N = cqArr (aX m c) (aG m c) (aMod m c) (aW m c) (aQn m c) := by
  refine (dats m 0 c).arrAt_eq_of_covers 9 _ covers9 fun t hf y => ?_
  rw [after0_9]
  obtain ⟨r, j, rfl⟩ : ∃ (r : Fin 512) (j : Fin 384), y = ix2 r j := ⟨y 0, y 1, eq_ix2 y⟩
  rw [emb9 t r j, cqArr_apply, cast_eq, inj9, cq_apply]

/-- The finished array of the normalised latents of keys and values is the specified one. -/
theorem result_ckv : (dats m 0 c).arrAt 10 cfg0.N = ckvArr (aX m c) (aG m c) (aMod m c) (aW m c) (aKn m c) := by
  refine (dats m 0 c).arrAt_eq_of_covers 10 _ covers10 fun t hf y => ?_
  rw [after0_10]
  obtain ⟨r, j, rfl⟩ : ∃ (r : Fin 512) (j : Fin 256), y = ix2 r j := ⟨y 0, y 1, eq_ix2 y⟩
  rw [emb10 t r j, ckvArr_apply, cast_eq, inj10, ckv_apply]

/-- The finished array of the rotated key is the specified one. -/
theorem result_kr : (dats m 0 c).arrAt 11 cfg0.N = krArr (aX m c) (aG m c) (aMod m c) (aW m c) (aCos m c) (aSin m c) := by
  refine (dats m 0 c).arrAt_eq_of_covers 11 _ covers11 fun t hf y => ?_
  rw [after0_11]
  obtain ⟨r, j, rfl⟩ : ∃ (r : Fin 512) (j : Fin 64), y = ix2 r j := ⟨y 0, y 1, eq_ix2 y⟩
  rw [emb11 t r j, krArr_apply, cast_eq, inj11, kr_apply]

/-- The finished array of the normalised latents, rounded is the specified one. -/
theorem result_ckvB : (dats m 0 c).arrAt 12 cfg0.N = ckvArrB (aX m c) (aG m c) (aMod m c) (aW m c) (aKn m c) := by
  refine (dats m 0 c).arrAt_eq_of_covers 12 _ covers12 fun t hf y => ?_
  rw [after0_12]
  obtain ⟨r, j, rfl⟩ : ∃ (r : Fin 512) (j : Fin 256), y = ix2 r j := ⟨y 0, y 1, eq_ix2 y⟩
  rw [emb12 t r j, ckvArrB_apply, cast_eq, inj12, ckvB_apply]

/-- The finished array of the rotated key, rounded is the specified one. -/
theorem result_krB : (dats m 0 c).arrAt 13 cfg0.N = krArrB (aX m c) (aG m c) (aMod m c) (aW m c) (aCos m c) (aSin m c) := by
  refine (dats m 0 c).arrAt_eq_of_covers 13 _ covers13 fun t hf y => ?_
  rw [after0_13]
  obtain ⟨r, j, rfl⟩ : ∃ (r : Fin 512) (j : Fin 64), y = ix2 r j := ⟨y 0, y 1, eq_ix2 y⟩
  rw [emb13 t r j, krArrB_apply, cast_eq, inj13, krB_apply]

end kernel

end Cert.Proof.Dqkv

end
-- ==== Proof.DqkvClaim.lean ====
/-
  The claim of the attention's down projection.
-/
module

public import proofs.«01_k».proof.Defs
public import proofs.«01_k».proof.Proof.DqkvValue
public import proofs.«01_k».proof.Proof.Gen.DqkvRefIdeal.Run

@[expose] public section

set_option maxRecDepth 16384

noncomputable section

namespace Cert.Proof.Dqkv

open Idealize.ShloMosaic Idealize.SL.Sem

/-- Over the extended reals, the call's results are the reference's, from any arguments. -/
theorem value : Cert.algebraic_DqkvIdeal_DqkvRefIdeal (hDqkvIdeal := Cert.DqkvIdeal.Gen.facts)
    (hDqkvRefIdeal := Cert.DqkvRefIdeal.Gen.facts) := by
  intro m g m' g' _ agree
  refine ⟨fun c => cqArr (aX m c) (aG m c) (aMod m c) (aW m c) (aQn m c),
    fun c => ckvArr (aX m c) (aG m c) (aMod m c) (aW m c) (aKn m c),
    fun c => krArr (aX m c) (aG m c) (aMod m c) (aW m c) (aCos m c) (aSin m c),
    fun c => ckvArrB (aX m c) (aG m c) (aMod m c) (aW m c) (aKn m c),
    fun c => krArrB (aX m c) (aG m c) (aMod m c) (aW m c) (aCos m c) (aSin m c), ?_, ?_⟩
  · refine (θ_run _ _ _).mono (fun r h c => ?_) (Cert.DqkvIdeal.Value.run_blocks m g)
    obtain ⟨h9, h10, h11, h12, h13, rest⟩ := h c
    exact ⟨h9.trans (result_cq m c), h10.trans (result_ckv m c), h11.trans (result_kr m c), h12.trans (result_ckvB m c),
      h13.trans (result_krB m c), rest⟩
  · refine (θ_run _ _ _).mono (fun r h c => ?_) (Cert.DqkvRefIdeal.Value.run m' g')
    obtain ⟨r0, r1, r2, r3, r4, rest⟩ := h c
    obtain ⟨h0, h1, h2, h3, h4, h5, h6, h7⟩ := agree c
    refine ⟨r0.trans ?_, r1.trans ?_, r2.trans ?_, r3.trans ?_, r4.trans ?_, rest⟩
    · rw [Cert.DqkvRefIdeal.Read.val_main_v79_eq, h0, h1, h2, h3, h4]
      exact ref_cqArr _ _ _ _ _
    · rw [Cert.DqkvRefIdeal.Read.val_main_v59_eq, h0, h1, h2, h3, h5]
      exact ref_ckvArr _ _ _ _ _
    · rw [Cert.DqkvRefIdeal.Read.val_main_v78_eq, h0, h1, h2, h3, h6, h7]
      exact ref_krArr _ _ _ _ _ _
    · rw [Cert.DqkvRefIdeal.Read.val_main_v80_eq, h0, h1, h2, h3, h5]
      exact ref_ckvArrB _ _ _ _ _
    · rw [Cert.DqkvRefIdeal.Read.val_main_v81_eq, h0, h1, h2, h3, h6, h7]
      exact ref_krArrB _ _ _ _ _ _

end Cert.Proof.Dqkv

end
-- ==== Proof.QProjSpec.lean ====
/-
  The queries' up projection of the attention: what it computes, entry by entry, and that the reference computes it.
-/
module

public import proofs.«01_k».proof.Proof.Gen.QProjRefIdeal.Read
public import proofs.«01_k».proof.Proof.Layer

@[expose] public section

set_option maxRecDepth 16384

noncomputable section

namespace Cert.Proof.QProj

open Cert.QProjRefIdeal Idealize.ShloMosaic Idealize.ShloMosaic.TcCoe Idealize.ShloMosaic.Tactic

section spec

variable (x : Vec Ideal S16384x384 .bf16) (w : Vec Ideal S384x1536 .f32) (u : Vec Ideal S256x8x128 .f32)
  (cs sn : Vec Ideal S2048x32 .f32)

/-- Entry `n` of head `h` of row `r`'s query: 128 entries that carry no position, then 64 that do. -/
@[irreducible] def qh (r : Fin 16384) (h : Fin 8) (n : Fin 192) : EReal :=
  ∑ k : Fin 384, x (ix2 r k) * w (ix2 k ⟨h * 192 + n, by omega⟩)

/-- The entries without position, taken through the keys' up projection into the latent space. -/
@[irreducible] def qn (r : Fin 16384) (h : Fin 8) (p : Fin 256) : EReal :=
  ∑ q : Fin 128, qh x w r h ⟨q, by omega⟩ * u (ix3 p h q)

/-- The entries with position: 32 pairs, turned by the angle of the row's position. -/
@[irreducible] def qr (r : Fin 16384) (h : Fin 8) (j : Fin 64) : EReal :=
  if hj : j.val < 32 then
    qh x w r h ⟨128 + j, by omega⟩ * cs (ix2 (place r) ⟨j, hj⟩) - qh x w r h ⟨160 + j, by omega⟩ * sn (ix2 (place r) ⟨j, hj⟩)
  else
    qh x w r h ⟨96 + j, by omega⟩ * sn (ix2 (place r) ⟨j - 32, by omega⟩)
      + qh x w r h ⟨128 + j, by omega⟩ * cs (ix2 (place r) ⟨j - 32, by omega⟩)

/-- The array of `qn`. -/
def qnArr : Vec Ideal S8x8x2048x256 .bf16 := fun i => qn x w u (rowAt (i 0) (i 2)) (i 1) (i 3)
/-- The array of `qr`. -/
def qrArr : Vec Ideal S8x8x2048x64 .bf16 := fun i => qr x w cs sn (rowAt (i 0) (i 2)) (i 1) (i 3)

/-- The array of `qn` at an entry. -/
theorem qnArr_apply (b h : Fin 8) (t : Fin 2048) (p : Fin 256) : qnArr x w u (ix4 b h t p) = qn x w u (rowAt b t) h p := rfl
/-- The array of `qr` at an entry. -/
theorem qrArr_apply (b h : Fin 8) (t : Fin 2048) (j : Fin 64) : qrArr x w cs sn (ix4 b h t j) = qr x w cs sn (rowAt b t) h j := rfl

end spec

section reference

open Cert.QProjRefIdeal.Read

variable (x : Vec Ideal S16384x384 .bf16) (w : Vec Ideal S384x1536 .f32) (u : Vec Ideal S256x8x128 .f32)
  (cs sn : Vec Ideal S2048x32 .f32)

/-- The reference's queries of all heads at an entry. -/
theorem ref_qh (b : Fin 8) (t : Fin 2048) (h : Fin 8) (n : Fin 192) :
    val_main_v3 (F := Ideal) x w (ix4 b t h n) = qh x w (rowAt b t) h n := by
  unfold qh
  pointwise [rowAt, val_main_v3, val_main_v2, val_main_v1, val_main_v0]

/-- The reference's array is the array of `qn`. -/
theorem ref_qnArr : val_main_v24 (F := Ideal) x w u = qnArr x w u := by
  funext i
  obtain ⟨b, h, t, p, rfl⟩ : ∃ (b h : Fin 8) (t : Fin 2048) (p : Fin 256), i = ix4 b h t p := ⟨i 0, i 1, i 2, i 3, eq_ix4 i⟩
  rw [qnArr_apply]
  unfold qn
  pointwise [val_main_v24, val_main_v23, val_main_v6, val_main_v5, val_main_v4]
  simp only [ref_qh]
  exact Finset.sum_congr rfl fun q _ => mul_comm _ _

/-- The reference's array is the array of `qr`. -/
theorem ref_qrArr : val_main_v26 (F := Ideal) x w cs sn = qrArr x w cs sn := by
  funext i
  obtain ⟨b, h, t, j, rfl⟩ : ∃ (b h : Fin 8) (t : Fin 2048) (j : Fin 64), i = ix4 b h t j := ⟨i 0, i 1, i 2, i 3, eq_ix4 i⟩
  rw [qrArr_apply]
  unfold qr
  rw [place_rowAt]
  pointwise [val_main_v26, val_main_v25, val_main_v22, val_main_v21, val_main_v20, val_main_v19, val_main_v18, val_main_v17,
    val_main_v16, val_main_v15, val_main_v14, val_main_v13, val_main_v12, val_main_v11, val_main_v10, val_main_v9, val_main_v8,
    val_main_v7]
  simp only [ref_qh]
  by_cases hj : j.val < 32
  · have e : (⟨128 + (32 + j.val), by omega⟩ : Fin 192) = ⟨160 + j.val, by omega⟩ :=
      Fin.ext (by show 128 + (32 + j.val) = 160 + j.val; omega)
    simp [hj, e]
  · have e0 : (⟨128 + (j.val - 32), by omega⟩ : Fin 192) = ⟨96 + j.val, by omega⟩ :=
      Fin.ext (by show 128 + (j.val - 32) = 96 + j.val; omega)
    have e1 : (⟨128 + (32 + (j.val - 32)), by omega⟩ : Fin 192) = ⟨128 + j.val, by omega⟩ :=
      Fin.ext (by show 128 + (32 + (j.val - 32)) = 128 + j.val; omega)
    simp [hj, e0, e1]

end reference

end Cert.Proof.QProj

end
-- ==== Proof.QProjValue.lean ====
/-
  The queries' up projection: the kernel's two results.
-/
module

public import proofs.«01_k».proof.Proof.Gen.QProjIdeal.Value
public import proofs.«01_k».proof.Proof.QProjSpec
public import Idealize.ShloMosaic.Lib.Pipeline.Value
public import Idealize.ShloMosaic.Lib.Pipeline.ValueKit
public import Idealize.ShloMosaic.Lib.Claim

@[expose] public section

set_option maxRecDepth 16384

noncomputable section

namespace Cert.Proof.QProj

open Cert.QProjIdeal Cert.QProjIdeal.Gen Idealize.ShloMosaic Idealize.ShloMosaic.TcCoe Idealize.ShloMosaic.Tactic Idealize.SL.Sem

section body

/-- Four copies of a block of 128 lanes side by side. -/
theorem four_apply (a : Vec Ideal S512x128 .f32) (r : Fin 512) (l : Fin 512) :
    concatenate S512x512 1 [⟨S512x128, a⟩, ⟨S512x128, a⟩, ⟨S512x128, a⟩, ⟨S512x128, a⟩]
        concatenates_S512x128_S512x128_S512x128_S512x128_S512x512_d1 (ix2 r l)
      = a (ix2 r ⟨l % 128, by omega⟩) :=
  concatenate_ofFn_apply (s₁ := S512x128) (t := S512x512) (N := 4) 1 (fun _ => a)
    concatenates_S512x128_S512x128_S512x128_S512x128_S512x512_d1 rfl 128 rfl (ix2 r l) ⟨l / 128, by omega⟩ rfl
    (ix2 r ⟨l % 128, by omega⟩) rfl (fun b hb => by fin_cases b <;> first | rfl | exact absurd rfl hb)

variable (x : Vec Ideal S512x384 .bf16) (wn : Vec Ideal S384x1024 .bf16) (wr : Vec Ideal S384x512 .bf16)
  (cs sn : Vec Ideal S512x128 .f32)

/-- The product that gives the heads' latent parts, at an entry. -/
theorem pay5_apply (r : Fin 512) (n : Fin 1024) :
    k0_pay5 x wn (ix2 r n) = ∑ k : Fin 384, x (ix2 r k) * wn (ix2 k n) := by
  pointwise [k0_pay5]
/-- The product that gives the heads' rotary parts, at an entry. -/
theorem pay6_apply (r : Fin 512) (n : Fin 512) :
    k0_pay6 x wr (ix2 r n) = ∑ k : Fin 384, x (ix2 r k) * wr (ix2 k n) := by
  pointwise [k0_pay6]

/-- The rotary part times the cosine of its lane. -/
theorem pay7_apply (r : Fin 512) (l : Fin 512) :
    k0_pay7 x wr cs (ix2 r l) = k0_pay6 x wr (ix2 r l) * cs (ix2 r ⟨l % 128, by omega⟩) := by
  unfold k0_pay7
  generalize k0_pay6 x wr = v
  rw [← four_apply cs]
  pointwise []

/-- The lane's partner in its pair, times the sine: a pair's halves lie 32 lanes apart. -/
theorem pay8_apply (r : Fin 512) (l : Fin 512) :
    k0_pay8 x wr sn (ix2 r l) = (if h : l.val % 64 < 32 then k0_pay6 x wr (ix2 r ⟨l + 32, by omega⟩)
        else k0_pay6 x wr (ix2 r ⟨l - 32, by omega⟩)) * sn (ix2 r ⟨l % 128, by omega⟩) := by
  unfold k0_pay8
  generalize k0_pay6 x wr = v
  rw [← four_apply sn]
  pointwise []
  have e := laneMask_eq l
  unfold laneMask at e
  dsimp only at e
  rw [e]
  by_cases h : l.val % 64 < 32
  · have e0 : (⟨(l.val + 512 - 480) % 512, by omega⟩ : Fin 512) = ⟨l.val + 32, by omega⟩ :=
      Fin.ext (by show (l.val + 512 - 480) % 512 = l.val + 32; omega)
    rw [e0, if_pos h, dif_pos h]
    rfl
  · have e0 : (⟨(l.val + 512 - 32) % 512, by omega⟩ : Fin 512) = ⟨l.val - 32, by omega⟩ :=
      Fin.ext (by show (l.val + 512 - 32) % 512 = l.val - 32; omega)
    rw [e0, if_neg h, dif_neg h]
    rfl

/-- A head's block of the first output: its 128 lanes of the products, times the head's matrix. -/
def headN (v : Vec Ideal S512x1024 .f32) (u : Vec Ideal S8x128x256 .bf16) : Vec Ideal S1x8x512x256 .bf16 :=
  fun i => ∑ q : Fin 128, v (ix2 (i 2) ⟨(i 1).val * 128 + q, by have : (i 1).val < 8 := (i 1).isLt; omega⟩) * u (ix3 (i 1) q (i 3))
/-- A head's block of the second: its 64 lanes. -/
def headR (v : Vec Ideal S512x512 .bf16) : Vec Ideal S1x8x512x64 .bf16 :=
  fun i => v (ix2 (i 2) ⟨(i 1).val * 64 + i 3, by
    have : (i 1).val < 8 := (i 1).isLt
    have : (i 3).val < 64 := (i 3).isLt
    omega⟩)

/-- The place of a head's page in the block of absorbed queries. -/
theorem embN (k : Nat) (hk : k < 8) (inb : ∀ a, (![0, k, 0, 0] : Fin 4 → Nat) a + S1x1x512x256.size a ≤ S1x8x512x256.size a)
    (r : Fin 512) (p : Fin 256) :
    (Rect.unit (s := S1x8x512x256) ![0, k, 0, 0] S1x1x512x256.size inb).emb (ix4 0 0 r p) = ix4 0 ⟨k, hk⟩ r p := by
  funext a; apply Fin.ext; fin_cases a <;> simp [Rect.emb_apply]
/-- The place of a head's page in the block of rotated queries. -/
theorem embR (k : Nat) (hk : k < 8) (inb : ∀ a, (![0, k, 0, 0] : Fin 4 → Nat) a + S1x1x512x64.size a ≤ S1x8x512x64.size a)
    (r : Fin 512) (p : Fin 64) :
    (Rect.unit (s := S1x8x512x64) ![0, k, 0, 0] S1x1x512x64.size inb).emb (ix4 0 0 r p) = ix4 0 ⟨k, hk⟩ r p := by
  funext a; apply Fin.ext; fin_cases a <;> simp [Rect.emb_apply]

variable (u : Vec Ideal S8x128x256 .bf16)

/-- The first output's block: its eight stores are the eight heads. -/
theorem out6_eq : out0_6 x wn wr u cs sn = headN (k0_pay25 x wn wr u cs sn) u := by
  funext y
  unfold out0_6
  generalize k0_pay25 x wn wr u cs sn = v
  refine View.canon_apply_of_pieces (headN v u) _ ?_ y (cover0_6 _ _ _ _ _ _ _ _ y)
  intro p hp
  simp only [List.mem_cons, List.not_mem_nil, or_false] at hp
  rcases hp with rfl | rfl | rfl | rfl | rfl | rfl | rfl | rfl
  all_goals
    intro (x : S1x1x512x256.Idx)
    obtain ⟨r, p, rfl⟩ : ∃ (r : Fin 512) (p : Fin 256), x = ix4 0 0 r p :=
      ⟨x 2, x 3, by rw [eq_ix4 x]; congr 1 <;> exact Subsingleton.elim (α := Fin 1) _ _⟩
    refine Eq.trans ?_ (congrArg (headN v u) (embN _ (by decide) (by decide) r p)).symm
    pointwise [headN, k0_pay1, k0_pay3, k0_pay10, k0_pay12, k0_pay14, k0_pay15, k0_pay17, k0_pay19, k0_pay20, k0_pay22, k0_pay24]

/-- The eight stores of the rotated queries, one per head, are one function of the heads' lanes. -/
theorem out7_eq : out0_7 x wn wr u cs sn = headR (k0_pay28 x wn wr u cs sn) := by
  funext y
  unfold out0_7
  have e : k0_pay28 x wn wr u cs sn = k0_pay9 (k0_pay26 x wn wr u cs sn) (k0_pay27 x wn wr u cs sn) := by rfl
  simp only [k0_pay11, k0_pay13]
  rw [← e]
  generalize k0_pay28 x wn wr u cs sn = v
  refine View.canon_apply_of_pieces (headR v) _ ?_ y (cover0_7 _ _ _ _ _ _ _ _ y)
  intro p hp
  simp only [List.mem_cons, List.not_mem_nil, or_false] at hp
  rcases hp with rfl | rfl | rfl | rfl | rfl | rfl | rfl | rfl
  all_goals
    intro (x : S1x1x512x64.Idx)
    obtain ⟨r, p, rfl⟩ : ∃ (r : Fin 512) (p : Fin 64), x = ix4 0 0 r p :=
      ⟨x 2, x 3, by rw [eq_ix4 x]; congr 1 <;> exact Subsingleton.elim (α := Fin 1) _ _⟩
    refine Eq.trans ?_ (congrArg (headR v) (embR _ (by decide) (by decide) r p)).symm
    pointwise [headR, k0_pay2, k0_pay4, k0_pay16, k0_pay18, k0_pay21, k0_pay23]

end body

section kernel

variable (m : (ℓ : Loc nD τ sig) → Buf (Elt Ideal) ℓ) (c : Dev nD)

/-- The argument that holds the queries' latents. -/
abbrev aX : Vec Ideal S16384x384 .bf16 := m ((c : Thread nD τ).loc main_arg0)
/-- The argument that holds the queries' up projection. -/
abbrev aW : Vec Ideal S384x1536 .f32 := m ((c : Thread nD τ).loc main_arg1)
/-- The argument that holds the keys' up projection. -/
abbrev aU : Vec Ideal S256x8x128 .f32 := m ((c : Thread nD τ).loc main_arg2)
/-- The argument that holds the cosines. -/
abbrev aCos : Vec Ideal S2048x32 .f32 := m ((c : Thread nD τ).loc main_arg3)
/-- The argument that holds the sines. -/
abbrev aSin : Vec Ideal S2048x32 .f32 := m ((c : Thread nD τ).loc main_arg4)

/-- The weights of the heads' latent parts, cut out of the argument and laid side by side. -/
theorem V_wn : V m c main_v3 = truncf (F := Ideal) .bf16 (shapeCast S384x1024 (extractStridedSlice S384x8x128 ![0, 0, 0]
    (shapeCast S384x8x192 (aW m c) shapeCasts_S384x1536_S384x8x192) slices_S384x8x192_S384x8x128_0_0_0)
    shapeCasts_S384x8x128_S384x1024 : FVec Ideal S384x1024 .f32) bitsLt_bf16_f32 := by
  unfold_abbrev_sides
  after_results
  rfl
/-- The weights of the heads' rotary parts, cut out of the argument and laid side by side. -/
theorem V_wr : V m c main_v6 = truncf (F := Ideal) .bf16 (shapeCast S384x512 (extractStridedSlice S384x8x64 ![0, 0, 128]
    (shapeCast S384x8x192 (aW m c) shapeCasts_S384x1536_S384x8x192) slices_S384x8x192_S384x8x64_0_0_128)
    shapeCasts_S384x8x64_S384x512 : FVec Ideal S384x512 .f32) bitsLt_bf16_f32 := by
  unfold_abbrev_sides
  after_results
  rfl
/-- The keys' up projection with the heads first. -/
theorem V_u : V m c main_v8 = truncf (F := Ideal) .bf16 (transpose S8x128x256 [1, 2, 0] (aU m c)
    transposes_S256x8x128_S8x128x256_1_2_0 : FVec Ideal S8x128x256 .f32) bitsLt_bf16_f32 := by
  unfold_abbrev_sides
  after_results
/-- The cosine table laid out over the lanes. -/
theorem V_cos : V m c main_v9 = concatenate S2048x128 1 [⟨S2048x32, aCos m c⟩, ⟨S2048x32, aCos m c⟩, ⟨S2048x32, aCos m c⟩,
    ⟨S2048x32, aCos m c⟩] concatenates_S2048x32_S2048x32_S2048x32_S2048x32_S2048x128_d1 := by
  unfold_abbrev_sides
  after_results
  rfl

/-- The sines with their signs turned. -/
def negSin : Vec Ideal S2048x32 .f32 := Host.negf (F := Ideal) (φ := .f32) (aSin m c)

/-- The sine table laid out over the lanes, its first halves negated. -/
theorem V_sin : V m c main_v12 = concatenate S2048x128 1 [⟨S2048x32, negSin m c⟩,
    ⟨S2048x32, aSin m c⟩, ⟨S2048x32, negSin m c⟩,
    ⟨S2048x32, aSin m c⟩] concatenates_S2048x32_S2048x32_S2048x32_S2048x32_S2048x128_d1 := by
  unfold_abbrev_sides
  after_results
  rfl

/-- The weights as the call finds them: the heads' columns parted into those without and those with position. -/
theorem V_wn_apply (k : Fin 384) (h : Fin 8) (q : Fin 128) :
    V m c main_v3 (ix2 k ⟨h * 128 + q, by omega⟩) = aW m c (ix2 k ⟨h * 192 + q, by omega⟩) := by
  rw [V_wn]
  pointwise []
/-- An entry of the rotary weights. -/
theorem V_wr_apply (k : Fin 384) (h : Fin 8) (j : Fin 64) :
    V m c main_v6 (ix2 k ⟨h * 64 + j, by omega⟩) = aW m c (ix2 k ⟨h * 192 + (128 + j), by omega⟩) := by
  rw [V_wr]
  pointwise []
/-- An entry of the transposed up projection. -/
theorem V_u_apply (h : Fin 8) (q : Fin 128) (p : Fin 256) : V m c main_v8 (ix3 h q p) = aU m c (ix3 p h q) := by
  rw [V_u]
  pointwise []

/-- Of the four pieces of the tables at a lane, the first of each pair and the second. -/
theorem V_tab (a b : Vec Ideal S2048x32 .f32) (t : Fin 2048) (l : Fin 128) :
    concatenate S2048x128 1 [⟨S2048x32, a⟩, ⟨S2048x32, b⟩, ⟨S2048x32, a⟩, ⟨S2048x32, b⟩]
        concatenates_S2048x32_S2048x32_S2048x32_S2048x32_S2048x128_d1 (ix2 t l)
      = if l.val % 64 < 32 then a (ix2 t ⟨l % 32, by omega⟩) else b (ix2 t ⟨l % 32, by omega⟩) := by
  refine (concatenate_ofFn_apply (s₁ := S2048x32) (t := S2048x128) (N := 4) 1 ![a, b, a, b]
    concatenates_S2048x32_S2048x32_S2048x32_S2048x32_S2048x128_d1 rfl 32 rfl (ix2 t l) ⟨l / 32, by omega⟩ rfl
    (ix2 t ⟨l % 32, by omega⟩) rfl (fun b hb => by fin_cases b <;> first | rfl | exact absurd rfl hb)).trans ?_
  have hq : l.val / 32 = 0 ∨ l.val / 32 = 1 ∨ l.val / 32 = 2 ∨ l.val / 32 = 3 := by omega
  rcases hq with hq | hq | hq | hq
  · rw [if_pos (by omega)]; simp only [hq]; rfl
  · rw [if_neg (by omega)]; simp only [hq]; rfl
  · rw [if_pos (by omega)]; simp only [hq]; rfl
  · rw [if_neg (by omega)]; simp only [hq]; rfl

/-- An entry of the cosine table over the lanes. -/
theorem V_cos_apply (t : Fin 2048) (l : Fin 128) : V m c main_v9 (ix2 t l) = aCos m c (ix2 t ⟨l % 32, by omega⟩) := by
  rw [V_cos, V_tab, ite_self]
/-- An entry of the sine table over the lanes, with its sign. -/
theorem V_sin_apply (t : Fin 2048) (l : Fin 128) : V m c main_v12 (ix2 t l)
    = if l.val % 64 < 32 then -aSin m c (ix2 t ⟨l % 32, by omega⟩) else aSin m c (ix2 t ⟨l % 32, by omega⟩) := by
  rw [V_sin, V_tab]
  rfl

/-- The offsets that are all zero, written as a constant function. -/
theorem zero2 : (![0, 0] : Fin 2 → Nat) = fun _ => 0 := funext fun a => by fin_cases a <;> rfl

/-- Where the windows' blocks lie. -/
theorem idx : ∀ t : Fin cfg0.N, win0_0.index t = ![t.val, 0] ∧ win0_1.index t = ![0, 0] ∧ win0_2.index t = ![0, 0]
    ∧ win0_3.index t = ![0, 0, 0] ∧ win0_4.index t = ![t.val % 4, 0] ∧ win0_5.index t = ![t.val % 4, 0]
    ∧ win0_6.index t = ![t.val / 4, 0, t.val % 4, 0] ∧ win0_7.index t = ![t.val / 4, 0, t.val % 4, 0] :=
  (by decide +kernel : ∀ t : Fin grid0.N, win0_0.index t = ![t.val, 0] ∧ win0_1.index t = ![0, 0] ∧ win0_2.index t = ![0, 0]
    ∧ win0_3.index t = ![0, 0, 0] ∧ win0_4.index t = ![t.val % 4, 0] ∧ win0_5.index t = ![t.val % 4, 0]
    ∧ win0_6.index t = ![t.val / 4, 0, t.val % 4, 0] ∧ win0_7.index t = ![t.val / 4, 0, t.val % 4, 0])

variable (t : Fin cfg0.N)

/-- The grid has 32 points. -/
theorem lt_N : t.val < 32 := lt_of_lt_of_eq t.isLt N_0
/-- A grid point's sequence, its rows' positions, and the rows among all. -/
def seqOf : Fin 8 := ⟨t.val / 4, by have := lt_N t; omega⟩
/-- The position in its sequence of row `r` of a point's block. -/
def posOf (r : Fin 512) : Fin 2048 := ⟨t.val % 4 * 512 + r, by omega⟩
/-- The row of the whole array that row `r` of a point's block is. -/
def rowOf (r : Fin 512) : Fin 16384 := rowAt (seqOf t) (posOf t r)

/-- The number of a row of a point's block. -/
theorem rowOf_val (r : Fin 512) : (rowOf t r).val = t.val * 512 + r := by
  show t.val / 4 * 2048 + (t.val % 4 * 512 + r.val) = _
  omega
/-- The position in its sequence of a row of a point's block. -/
theorem place_rowOf (r : Fin 512) : place (rowOf t r) = posOf t r := place_rowAt _ _

/-- Where an entry of a point's block 0 lies in the queries' latents. -/
theorem blk0 (r : Fin 512) (k : Fin 384) : iblk m c 0 t (ix2 r k) = aX m c (ix2 (rowOf t r) k) := by
  have h := rowOf_val t r
  show (((cfg0.win 0).blk t).view.read (Elt Ideal) (V m c main_arg0)) (ix2 r k) = _
  rw [V_main_arg0]
  blk_ext [idx t, h]
/-- Where an entry of a point's block 1 lies in the array the host prepares for it. -/
theorem blk1 (k : Fin 384) (n : Fin 1024) : iblk m c 1 t (ix2 k n) = V m c main_v3 (ix2 k n) := by
  show (((cfg0.win 1).blk t).view.read (Elt Ideal) (V m c main_v3)) (ix2 k n) = _
  generalize V m c main_v3 = v
  blk_ext [idx t]
/-- Where an entry of a point's block 2 lies in the array the host prepares for it. -/
theorem blk2 (k : Fin 384) (n : Fin 512) : iblk m c 2 t (ix2 k n) = V m c main_v6 (ix2 k n) := by
  show (((cfg0.win 2).blk t).view.read (Elt Ideal) (V m c main_v6)) (ix2 k n) = _
  generalize V m c main_v6 = v
  blk_ext [idx t]
/-- Where an entry of a point's block 3 lies in the array the host prepares for it. -/
theorem blk3 (h : Fin 8) (q : Fin 128) (p : Fin 256) : iblk m c 3 t (ix3 h q p) = V m c main_v8 (ix3 h q p) := by
  show (((cfg0.win 3).blk t).view.read (Elt Ideal) (V m c main_v8)) (ix3 h q p) = _
  generalize V m c main_v8 = v
  blk_ext [idx t]
/-- Where an entry of a point's block 4 lies in the array the host prepares for it. -/
theorem blk4 (r : Fin 512) (l : Fin 128) : iblk m c 4 t (ix2 r l) = V m c main_v9 (ix2 (posOf t r) l) := by
  show (((cfg0.win 4).blk t).view.read (Elt Ideal) (V m c main_v9)) (ix2 r l) = _
  generalize V m c main_v9 = v
  blk_ext [idx t, posOf]
/-- Where an entry of a point's block 5 lies in the array the host prepares for it. -/
theorem blk5 (r : Fin 512) (l : Fin 128) : iblk m c 5 t (ix2 r l) = V m c main_v12 (ix2 (posOf t r) l) := by
  show (((cfg0.win 5).blk t).view.read (Elt Ideal) (V m c main_v12)) (ix2 r l) = _
  generalize V m c main_v12 = v
  blk_ext [idx t, posOf]

/-- The block's products are the heads' query entries. -/
theorem prodN (r : Fin 512) (h : Fin 8) (q : Fin 128) :
    k0_pay5 (iblk m c 0 t) (iblk m c 1 t) (ix2 r ⟨h * 128 + q, by omega⟩) = qh (aX m c) (aW m c) (rowOf t r) h ⟨q, by omega⟩ := by
  rw [pay5_apply]
  unfold qh
  simp only [blk0, blk1]
  exact Finset.sum_congr rfl fun k _ => congrArg _ (V_wn_apply m c k h q)
/-- The rotary product of a point's block is the specified query's rotary part. -/
theorem prodR (r : Fin 512) (h : Fin 8) (j : Fin 64) :
    k0_pay6 (iblk m c 0 t) (iblk m c 2 t) (ix2 r ⟨h * 64 + j, by omega⟩)
      = qh (aX m c) (aW m c) (rowOf t r) h ⟨128 + j, by omega⟩ := by
  rw [pay6_apply]
  unfold qh
  simp only [blk0, blk2]
  exact Finset.sum_congr rfl fun k _ => congrArg _ (V_wr_apply m c k h j)

/-- What a point stores at an entry of its block of the absorbed queries. -/
theorem qn_apply (h : Fin 8) (r : Fin 512) (p : Fin 256) :
    out0_6 (iblk m c 0 t) (iblk m c 1 t) (iblk m c 2 t) (iblk m c 3 t) (iblk m c 4 t) (iblk m c 5 t) (ix4 0 h r p)
      = qn (aX m c) (aW m c) (aU m c) (rowOf t r) h p := by
  rw [out6_eq]
  unfold k0_pay25
  simp only [View.ld_unit_zero (S := S512x384) zero2, View.ld_unit_zero (S := S384x1024) zero2]
  unfold qn
  refine Finset.sum_congr rfl fun q _ => congrArg₂ (fun a b => a * b) (prodN m c t r h q) ?_
  exact (blk3 m c t h q p).trans (V_u_apply m c h q p)

/-- What a point stores at an entry of its block of the rotated queries. -/
theorem qr_apply (h : Fin 8) (r : Fin 512) (j : Fin 64) :
    out0_7 (iblk m c 0 t) (iblk m c 1 t) (iblk m c 2 t) (iblk m c 3 t) (iblk m c 4 t) (iblk m c 5 t) (ix4 0 h r j)
      = qr (aX m c) (aW m c) (aCos m c) (aSin m c) (rowOf t r) h j := by
  rw [out7_eq]
  unfold k0_pay28 k0_pay26 k0_pay27
  simp only [View.ld_unit_zero (S := S512x384) zero2, View.ld_unit_zero (S := S384x512) zero2,
    View.ld_unit_zero (S := S512x128) zero2]
  show k0_pay7 (iblk m c 0 t) (iblk m c 2 t) (iblk m c 4 t) (ix2 r ⟨h * 64 + j, by omega⟩)
    + k0_pay8 (iblk m c 0 t) (iblk m c 2 t) (iblk m c 5 t) (ix2 r ⟨h * 64 + j, by omega⟩) = _
  rw [pay7_apply, pay8_apply, prodR, blk4, blk5, V_cos_apply, V_sin_apply]
  unfold qr
  rw [place_rowOf]
  dsimp only
  by_cases hj : j.val < 32
  · have e : (⟨(h.val * 64 + j.val) % 128 % 32, by omega⟩ : Fin 32) = ⟨j.val, hj⟩ :=
      Fin.ext (by show (h.val * 64 + j.val) % 128 % 32 = j.val; omega)
    have e1 : (⟨h.val * 64 + j.val + 32, by omega⟩ : Fin 512) = ⟨h.val * 64 + (⟨32 + j.val, by omega⟩ : Fin 64).val, by dsimp only; omega⟩ :=
      Fin.ext (by show h.val * 64 + j.val + 32 = h.val * 64 + (32 + j.val); omega)
    rw [dif_pos (by omega), if_pos (by omega), dif_pos hj, e, e1, prodR, mul_neg, ← sub_eq_add_neg]
    have e2 : (⟨128 + (⟨32 + j.val, by omega⟩ : Fin 64).val, by dsimp only; omega⟩ : Fin 192) = ⟨160 + j.val, by omega⟩ :=
      Fin.ext (by show 128 + (32 + j.val) = 160 + j.val; omega)
    rw [e2]
  · have e : (⟨(h.val * 64 + j.val) % 128 % 32, by omega⟩ : Fin 32) = ⟨j.val - 32, by omega⟩ :=
      Fin.ext (by show (h.val * 64 + j.val) % 128 % 32 = j.val - 32; omega)
    have e1 : (⟨h.val * 64 + j.val - 32, by omega⟩ : Fin 512) = ⟨h.val * 64 + (⟨j.val - 32, by omega⟩ : Fin 64).val, by dsimp only; omega⟩ :=
      Fin.ext (by show h.val * 64 + j.val - 32 = h.val * 64 + (j.val - 32); omega)
    rw [dif_neg (by omega), if_neg (by omega), dif_neg hj, e, e1, prodR, add_comm]
    have e2 : (⟨128 + (⟨j.val - 32, by omega⟩ : Fin 64).val, by dsimp only; omega⟩ : Fin 192) = ⟨96 + j.val, by omega⟩ :=
      Fin.ext (by show 128 + (j.val - 32) = 96 + j.val; omega)
    rw [e2]

/-- The blocks of result window 6 cover its array. -/
theorem covers6 : (cfg0.win 6).Covers := by decide +kernel
/-- The blocks of result window 7 cover its array. -/
theorem covers7 : (cfg0.win 7).Covers := by decide +kernel

/-- Where an entry of a point's block of result window 6 lies in the whole array. -/
theorem emb6 (h : Fin 8) (r : Fin 512) (p : Fin 256) :
    ((cfg0.win 6).blk t).view.emb (ix4 0 h r p) = ix4 (seqOf t) h (posOf t r) p := by
  blk_ext [idx t, seqOf, posOf]
/-- Where an entry of a point's block of result window 7 lies in the whole array. -/
theorem emb7 (h : Fin 8) (r : Fin 512) (j : Fin 64) :
    ((cfg0.win 7).blk t).view.emb (ix4 0 h r j) = ix4 (seqOf t) h (posOf t r) j := by
  blk_ext [idx t, seqOf, posOf]

/-- No entry of a block of result window 6 is cut off: its place is its own index. -/
theorem inj6 (h : Fin 8) (r : Fin 512) (p : Fin 256) : (cfg0.win 6).xinj (cfg0.grid.coords t) (ix4 0 h r p) = ix4 0 h r p := rfl
/-- No entry of a block of result window 7 is cut off: its place is its own index. -/
theorem inj7 (h : Fin 8) (r : Fin 512) (j : Fin 64) : (cfg0.win 7).xinj (cfg0.grid.coords t) (ix4 0 h r j) = ix4 0 h r j := rfl

/-- The finished array of the absorbed queries is the specified one. -/
theorem result_qn : (dats m 0 c).arrAt 6 cfg0.N = qnArr (aX m c) (aW m c) (aU m c) := by
  refine (dats m 0 c).arrAt_eq_of_covers 6 _ covers6 fun t hf y => ?_
  rw [after0_6]
  obtain ⟨h, r, p, rfl⟩ : ∃ (h : Fin 8) (r : Fin 512) (p : Fin 256), y = ix4 0 h r p :=
    ⟨y 1, y 2, y 3, by rw [eq_ix4 y]; congr 1; exact Subsingleton.elim (α := Fin 1) _ _⟩
  rw [emb6 t h r p, qnArr_apply, cast_eq, inj6, qn_apply]
  rfl

/-- The finished array of the rotated queries is the specified one. -/
theorem result_qr : (dats m 0 c).arrAt 7 cfg0.N = qrArr (aX m c) (aW m c) (aCos m c) (aSin m c) := by
  refine (dats m 0 c).arrAt_eq_of_covers 7 _ covers7 fun t hf y => ?_
  rw [after0_7]
  obtain ⟨h, r, j, rfl⟩ : ∃ (h : Fin 8) (r : Fin 512) (j : Fin 64), y = ix4 0 h r j :=
    ⟨y 1, y 2, y 3, by rw [eq_ix4 y]; congr 1; exact Subsingleton.elim (α := Fin 1) _ _⟩
  rw [emb7 t h r j, qrArr_apply, cast_eq, inj7, qr_apply]
  rfl

end kernel

end Cert.Proof.QProj

end
-- ==== Proof.QProjClaim.lean ====
/-
  The claim of the queries' up projection.
-/
module

public import proofs.«01_k».proof.Defs
public import proofs.«01_k».proof.Proof.QProjValue
public import proofs.«01_k».proof.Proof.Gen.QProjRefIdeal.Run

@[expose] public section

set_option maxRecDepth 16384

noncomputable section

namespace Cert.Proof.QProj

open Idealize.ShloMosaic Idealize.SL.Sem

/-- Over the extended reals, the call's results are the reference's, from any arguments. -/
theorem value : Cert.algebraic_QProjIdeal_QProjRefIdeal (hQProjIdeal := Cert.QProjIdeal.Gen.facts)
    (hQProjRefIdeal := Cert.QProjRefIdeal.Gen.facts) := by
  intro m g m' g' _ agree
  refine ⟨fun c => qnArr (aX m c) (aW m c) (aU m c), fun c => qrArr (aX m c) (aW m c) (aCos m c) (aSin m c), ?_, ?_⟩
  · refine (θ_run _ _ _).mono (fun r h c => ?_) (Cert.QProjIdeal.Value.run_blocks m g)
    obtain ⟨h6, h7, rest⟩ := h c
    exact ⟨h6.trans (result_qn m c), h7.trans (result_qr m c), rest⟩
  · refine (θ_run _ _ _).mono (fun r h c => ?_) (Cert.QProjRefIdeal.Value.run m' g')
    obtain ⟨r0, r1, rest⟩ := h c
    obtain ⟨h0, h1, h2, h3, h4⟩ := agree c
    refine ⟨r0.trans ?_, r1.trans ?_, rest⟩
    · rw [Cert.QProjRefIdeal.Read.val_main_v24_eq, h0, h1, h2]
      exact ref_qnArr _ _ _
    · rw [Cert.QProjRefIdeal.Read.val_main_v26_eq, h0, h1, h3, h4]
      exact ref_qrArr _ _ _ _

end Cert.Proof.QProj

end
-- ==== Proof.SampleMixerPoint.lean ====
/-
  One grid point of the mixer on the sample batch: the state block it leaves. The body takes one row and one head at a time,
  turns the row's 128 gate lanes into a column by selecting the diagonal, and stores one 128 by 128 page for each of the 64
  pairs of a row and a head; each page is the same function of the point's blocks.
-/
module

public import proofs.«01_k».proof.Proof.Gen.SampleMixerIdeal.Value
public import Idealize.ShloMosaic.Lib.Pipeline.ValueKit

@[expose] public section

set_option maxRecDepth 16384

noncomputable section

namespace Cert.Proof.SampleMixer

open Cert.SampleMixerIdeal Cert.SampleMixerIdeal.Gen Idealize.ShloMosaic Idealize.ShloMosaic.TcCoe Idealize.ShloMosaic.Tactic Idealize.SL.Sem

/-- Two lane numbers are equal exactly if the lanes are: the sum over a row that keeps one lane is that lane's entry. -/
theorem pick (f : Fin 128 → EReal) (r : Fin 128) :
    (∑ x : Fin 128, Scalar.select (IntOp.cmpi CmpIPredicate.eq (BitVec.ofNat 32 r) (BitVec.ofNat 32 x)) (f x) 0) = f r := by
  rw [Finset.sum_eq_single r]
  · simp [Scalar.select, IntOp.cmpi]
  · intro x _ hx
    have : (BitVec.ofNat 32 r == BitVec.ofNat 32 x) = false := by
      rw [beq_eq_false_iff_ne]
      intro h
      have h2 := congrArg BitVec.toNat h
      simp only [BitVec.toNat_ofNat] at h2
      exact hx (Fin.ext (by omega))
    simp [Scalar.select, IntOp.cmpi, this]
  · intro h
    exact absurd (Finset.mem_univ r) h

/-- Lane `r` of head `h`. -/
def lane (h : Fin 4) (r : Fin 128) : Fin 512 := ⟨h.val * 128 + r.val, by omega⟩

/-- The first head's lanes are the first 128. -/
theorem lane_zero (r : Fin 128) : lane 0 r = ⟨r.val, by omega⟩ := Fin.ext (by show 0 * 128 + r.val = r.val; omega)

/-- One step of the recurrence over a block of rows and all heads. -/
def step (EF KK v : Vec Ideal S16x512 .f32) (s0 : Vec Ideal S16x4x128x128 .f32) : Vec Ideal S16x4x128x128 .f32 := fun i =>
  EF (ix2 (i 0) (lane (i 1) (i 2))) * s0 i + KK (ix2 (i 0) (lane (i 1) (i 2))) * v (ix2 (i 0) (lane (i 1) (i 3)))

/-- Where page `(n, h)` lies in the block. -/
theorem embS (n h : Nat) (hn : n < 16) (hh : h < 4)
    (inb : ∀ a, (![n, h, 0, 0] : Fin 4 → Nat) a + S1x1x128x128.size a ≤ S16x4x128x128.size a) (r : Fin 128) (p : Fin 128) :
    (Rect.unit (s := S16x4x128x128) ![n, h, 0, 0] S1x1x128x128.size inb).emb (ix4 0 0 r p) = ix4 ⟨n, hn⟩ ⟨h, hh⟩ r p := by
  funext a; apply Fin.ext; fin_cases a <;> simp [Rect.emb_apply]

variable (m : (ℓ : Loc nD τ sig) → Buf (Elt Ideal) ℓ) (c : Dev nD) (t : Fin cfg0.N)

/-- The logits of the bounds, as a point loads them. -/
abbrev bLb : Vec Ideal S2x512 .f32 := View.ld (iblk m c 4 t) (Rect.unit ![0, 0] ![2, 512] inb_S2x512_S2x512_0_0)
/-- The forget gate's columns of a point's rows. -/
abbrev bF : Vec Ideal S16x512 .f32 := View.ld (iblk m c 0 t) (Rect.unit ![0, 2048] ![16, 512] inb_S16x3584_S16x512_0_2048)
/-- The value columns of a point's rows. -/
abbrev bV : Vec Ideal S16x512 .f32 := View.ld (iblk m c 0 t) (Rect.unit ![0, 2560] ![16, 512] inb_S16x3584_S16x512_0_2560)

set_option maxHeartbeats 2000000 in
/-- The state block a point leaves: its 64 stores, one per row and head, are the step. -/
theorem state_eq : (outsAt0 m c t).2.2
    = step (k0_pay12 (bLb m c t) (bF m c t)) (k0_pay10 (bLb m c t) (bF m c t)) (bV m c t) (iblk m c 2 t) := by
  unfold bV
  dsimp only [outsAt0]
  unfold out0_A_8
  rw [View.read_writes_eq_canon _ _ _ (fun _ => cover0_A_8 ..)]
  funext y
  refine View.canon_apply_of_pieces _ _ ?_ y (cover0_A_8 _ _ _ _ _ _ _ _ _ _ _ _ _ _ _ _ _ _ _ _ _ _ _ _ _ _ _ _ _)
  unfold kernelRun0_A
  dsimp only
  sl_unfold_words
  simp only [View.readAt_eq_ld, (hs0_0 t).read_unread, (hs0_2 t).read_unread, (hs0_4 t).read_unread]
  unfold k0_pay13
  generalize k0_pay12 (bLb m c t) (bF m c t) = EF
  generalize k0_pay10 (bLb m c t) (bF m c t) = KK
  generalize View.ld (iblk m c 0 t) (Rect.unit ![0, 2560] ![16, 512] inb_S16x3584_S16x512_0_2560) = v
  generalize iblk m c 2 t = s0
  simp only [List.forall_mem_cons, List.not_mem_nil, IsEmpty.forall_iff, implies_true, and_true]
  repeat' refine And.intro ?_ ?_
  all_goals
    intro (x : S1x1x128x128.Idx)
    obtain ⟨r, p, rfl⟩ : ∃ (r : Fin 128) (p : Fin 128), x = ix4 0 0 r p :=
      ⟨x 2, x 3, by rw [eq_ix4 x]; congr 1 <;> exact Subsingleton.elim (α := Fin 1) _ _⟩
    refine Eq.trans ?_ (congrArg (step EF KK v s0) (embS _ _ (by decide) (by decide) (by decide) r p)).symm
    pointwise [k0_pay9, k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169, k0_pay170,
      k0_pay171, k0_pay172, k0_pay173, k0_pay174, k0_pay175, k0_pay176, k0_pay177, k0_pay178, k0_pay179, k0_pay180,
      k0_pay181, k0_pay182, k0_pay183, k0_pay184, k0_pay185, k0_pay186, k0_pay187, k0_pay188, k0_pay189, k0_pay190,
      k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210,
      k0_pay211, k0_pay212, k0_pay213, k0_pay214, k0_pay215, k0_pay216, k0_pay217, k0_pay218, k0_pay219, k0_pay220,
      k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240,
      k0_pay241, k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270,
      k0_pay271, k0_pay272, k0_pay273, k0_pay274, k0_pay275, k0_pay276, k0_pay277, k0_pay278, k0_pay279, k0_pay280,
      k0_pay281, k0_pay282]
    simp only [pick]
    first
    | rfl
    | show _ = EF (ix2 _ (lane 0 r)) * s0 _ + KK (ix2 _ (lane 0 r)) * v (ix2 _ (lane 0 p))
      rw [lane_zero r, lane_zero p]
      rfl

end Cert.Proof.SampleMixer

end
-- ==== Proof.SampleMixerSpec.lean ====
/-
  The mixer's step on the sample batch, one token a row, as a plain function of the arguments: the gated convolution over
  the two kept values and the new one, and the gated recurrence with its normed and gated read-out by heads.
  `lane h k` is lane `k` of head `h`.
-/
module

public import proofs.«01_k».proof.Proof.SampleMixerPoint

@[expose] public section

set_option maxRecDepth 16384

noncomputable section

namespace Cert.Proof.SampleMixer

open Cert.SampleMixerIdeal Cert.SampleMixerIdeal.Gen Idealize.ShloMosaic Idealize.ShloMosaic.TcCoe Idealize.ShloMosaic.Tactic Idealize.SL.Sem

variable (z : Vec Ideal S128x3584 .f32) (buf : Vec Ideal S128x2x512 .f32) (s0 : Vec Ideal S128x4x128x128 .f32)
  (w : Vec Ideal S3x512 .f32) (lg : Vec Ideal S2x512 .f32) (gn : Vec Ideal S1x128 .f32)

/-- The head a lane of 512 belongs to. -/
def headOf (j : Fin 512) : Fin 4 := ⟨j.val / 128, by omega⟩
/-- A lane's place in its head. -/
def inHead (j : Fin 512) : Fin 128 := ⟨j.val % 128, by omega⟩

/-- The head of a head's lane. -/
theorem headOf_lane (h : Fin 4) (p : Fin 128) : headOf (lane h p) = h := by
  apply Fin.ext
  show (h.val * 128 + p.val) / 128 = h.val
  omega
/-- The place in its head of a head's lane. -/
theorem inHead_lane (h : Fin 4) (p : Fin 128) : inHead (lane h p) = p := by
  apply Fin.ext
  show (h.val * 128 + p.val) % 128 = p.val
  omega
/-- A lane is the lane of its head at its place in it. -/
theorem lane_headOf (j : Fin 512) : lane (headOf j) (inHead j) = j := by
  apply Fin.ext
  show j.val / 128 * 128 + j.val % 128 = j.val
  omega

/-- The largest of a lane's two logits. -/
@[irreducible] def top (j : Fin 512) : EReal :=
  Finset.fold max (Ideal.ofBits FTy.f32 4286578688#32) (fun x : Fin 2 => lg (ix2 x j)) Finset.univ
/-- The lower bound of the forget gate: the first of the softmax over the two logits. -/
@[irreducible] def lower (j : Fin 512) : EReal :=
  Ideal.div (Ideal.exp (lg (ix2 0 j) - top lg j)) (∑ x : Fin 2, Ideal.exp (lg (ix2 x j) - top lg j))
/-- The forget gate, through its logarithm. -/
@[irreducible] def forget (n : Fin 128) (j : Fin 512) : EReal :=
  Ideal.exp (Ideal.log (lower lg j + (1 - lower lg j) * Ideal.logistic (z (ix2 n ⟨2048 + j, by omega⟩))))
/-- The input gate. -/
@[irreducible] def enter (n : Fin 128) (j : Fin 512) : EReal :=
  (1 - lower lg j) * Ideal.logistic (0 - z (ix2 n ⟨2048 + j, by omega⟩))
/-- The scaled query. -/
@[irreducible] def query (n : Fin 128) (j : Fin 512) : EReal :=
  z (ix2 n ⟨1536 + j, by omega⟩) * Ideal.logistic (z (ix2 n ⟨1536 + j, by omega⟩)) * Ideal.ofBits FTy.f32 1035273459#32
/-- The new state: the old one forgotten in part, and the outer product of the input gate and the value. -/
@[irreducible] def state (n : Fin 128) (h : Fin 4) (k p : Fin 128) : EReal :=
  forget z lg n (lane h k) * s0 (ix4 n h k p) + enter z lg n (lane h k) * z (ix2 n ⟨2560 + lane h p, by omega⟩)
/-- What the query reads of the new state. -/
@[irreducible] def mem (n : Fin 128) (h : Fin 4) (p : Fin 128) : EReal :=
  ∑ k : Fin 128, query z n (lane h k) * state z s0 lg n h k p
/-- A head's row normed by its root mean square, scaled and gated. -/
@[irreducible] def normed (o : Fin 128 → EReal) (a g : EReal) (p : Fin 128) : EReal :=
  o p * Ideal.rsqrt (Ideal.div (∑ x, o x * o x) (Ideal.ofBits FTy.f32 1124073472#32) + Ideal.ofBits FTy.f32 897988541#32)
    * a * (g * Ideal.logistic g)
/-- The new value of the convolution. -/
@[irreducible] def fresh (n : Fin 128) (j : Fin 512) : EReal := z (ix2 n ⟨512 + j, by omega⟩) * z (ix2 n ⟨1024 + j, by omega⟩)
/-- The gated convolution of the two kept values and the new one. -/
@[irreducible] def conv (n : Fin 128) (j : Fin 512) : EReal :=
  z (ix2 n ⟨j, by omega⟩)
    * (w (ix2 0 j) * buf (ix3 n 0 j) + w (ix2 1 j) * buf (ix3 n 1 j) + w (ix2 2 j) * fresh z n j)
/-- The recurrence's output. -/
@[irreducible] def gated (n : Fin 128) (j : Fin 512) : EReal :=
  normed (mem z s0 lg n (headOf j)) (gn (ix2 0 (inHead j))) (z (ix2 n ⟨3072 + j, by omega⟩)) (inHead j)
/-- The mixed rows: the convolution, then the recurrence. -/
@[irreducible] def ab (n : Fin 128) (j : Fin 1024) : EReal :=
  if h : j.val < 512 then conv z buf w n ⟨j, h⟩ else gated z s0 lg gn n ⟨j - 512, by omega⟩
/-- The convolution's kept values: the later of the old two, and the new one. -/
@[irreducible] def kept (n : Fin 128) (i : Fin 2) (j : Fin 512) : EReal := if i = 0 then buf (ix3 n 1 j) else fresh z n j

/-- The three result arrays. -/
def abArr (z : Vec Ideal S128x3584 .f32) (buf : Vec Ideal S128x2x512 .f32) (s0 : Vec Ideal S128x4x128x128 .f32)
    (w : Vec Ideal S3x512 .f32) (lg : Vec Ideal S2x512 .f32) (gn : Vec Ideal S1x128 .f32) : Vec Ideal S128x1024 .bf16 :=
  fun i => ab z buf s0 w lg gn (i 0) (i 1)
/-- The array of `kept`. -/
def keptArr (z : Vec Ideal S128x3584 .f32) (buf : Vec Ideal S128x2x512 .f32) : Vec Ideal S128x2x512 .f32 :=
  fun i => kept z buf (i 0) (i 1) (i 2)
/-- The array of `state`. -/
def stateArr (z : Vec Ideal S128x3584 .f32) (s0 : Vec Ideal S128x4x128x128 .f32) (lg : Vec Ideal S2x512 .f32) :
    Vec Ideal S128x4x128x128 .f32 :=
  fun i => state z s0 lg (i 0) (i 1) (i 2) (i 3)

end Cert.Proof.SampleMixer

end
-- ==== Proof.SampleMixerRead.lean ====
/-
  One grid point of the mixer on the sample batch: the rows and the kept values it leaves. The read-outs of the 64 pairs of a
  row and a head are stored row by row in a scratch array and read back by heads; the array they leave is one function of the
  point's queries and its new state.
-/
module

public import proofs.«01_k».proof.Proof.SampleMixerSpec

@[expose] public section

set_option maxRecDepth 16384

noncomputable section

namespace Cert.Proof.SampleMixer

open Cert.SampleMixerIdeal Cert.SampleMixerIdeal.Gen Idealize.ShloMosaic Idealize.ShloMosaic.TcCoe Idealize.ShloMosaic.Tactic Idealize.SL.Sem

/-- The query times the state, over a block of rows. -/
def readout (Q : Vec Ideal S16x512 .f32) (S : Vec Ideal S16x4x128x128 .f32) : Vec Ideal S16x512 .f32 := fun i =>
  ∑ r : Fin 128, Q (ix2 (i 0) (lane (headOf (i 1)) r)) * S (ix4 (i 0) (headOf (i 1)) r (inHead (i 1)))

/-- The read-out at a lane of a head: the head's query times the state's column. -/
theorem readout_lane (Q : Vec Ideal S16x512 .f32) (S : Vec Ideal S16x4x128x128 .f32) (n : Fin 16) (h : Fin 4) (p : Fin 128) :
    readout Q S (ix2 n (lane h p)) = ∑ r : Fin 128, Q (ix2 n (lane h r)) * S (ix4 n h r p) := by
  show ∑ r : Fin 128, Q (ix2 n (lane (headOf (lane h p)) r)) * S (ix4 n (headOf (lane h p)) r (inHead (lane h p))) = _
  rw [headOf_lane, inHead_lane]

/-- Where the read-out of row `n` lies whose lanes begin at `o`. -/
theorem embR (n o : Nat) (hn : n < 16) (ho : o < 512) (hd : o % 128 = 0)
    (inb : ∀ a, (![n, o] : Fin 2 → Nat) a + S1x128.size a ≤ S16x512.size a) (p : Fin 128) :
    (Rect.unit (s := S16x512) ![n, o] S1x128.size inb).emb (ix2 0 p) = ix2 ⟨n, hn⟩ (lane ⟨o / 128, by omega⟩ p) := by
  have e : o / 128 * 128 = o := by omega
  funext a; apply Fin.ext; fin_cases a <;> simp [Rect.emb_apply, lane, e]

/-- An array written by pieces that cover it and agree with `G` is `G`. -/
theorem canon_eq {s : Shape} (L : List (View.Piece (Elt Ideal) s .f32)) (G : Vec Ideal s .f32)
    (hc : ∀ y, ∃ p ∈ L, y ∈ p.1.set) (hp : ∀ p ∈ L, ∀ x, p.2 x = G (p.1.emb x)) : View.canon L = G :=
  funext fun y => View.canon_apply_of_pieces G L hp y (hc y)

/-- A load of written pieces is a load of the array they leave. -/
theorem load_canon {s : Shape} {κ sp} (v : View sig κ sp s .f32) (L : List (View.Piece (Elt Ideal) s .f32)) (r : Rect s) :
    v.readCov L r.toLoadRect = View.ld (View.canon L) r := View.readCov_eq_canon' v L _

variable (m : (ℓ : Loc nD τ sig) → Buf (Elt Ideal) ℓ) (c : Dev nD) (t : Fin cfg0.N)

/-- The query columns of a point's rows. -/
abbrev bQ : Vec Ideal S16x512 .f32 := View.ld (iblk m c 0 t) (Rect.unit ![0, 1536] ![16, 512] inb_S16x3584_S16x512_0_1536)
/-- The read-outs of a point's rows. -/
abbrev bO : Vec Ideal S16x512 .f32 := readout (k0_pay11 (bQ m c t))
  (step (k0_pay12 (bLb m c t) (bF m c t)) (k0_pay10 (bLb m c t) (bF m c t)) (bV m c t) (iblk m c 2 t))

/-- Where a head's rows lie among the mixed rows. -/
theorem embA (o : Nat) (h : Fin 4) (ho : o = 512 + h.val * 128)
    (inb : ∀ a, (![0, o] : Fin 2 → Nat) a + S16x128.size a ≤ S16x1024.size a) (r : Fin 16) (p : Fin 128) :
    (Rect.unit (s := S16x1024) ![0, o] S16x128.size inb).emb (ix2 r p) = ix2 r ⟨512 + lane h p, by omega⟩ := by
  subst ho
  funext a; apply Fin.ext; fin_cases a <;> simp [Rect.emb_apply, lane, Nat.add_assoc]

/-- The place of the convolution's columns in a point's block of mixed rows. -/
theorem embC (inb : ∀ a, (![0, 0] : Fin 2 → Nat) a + S16x512.size a ≤ S16x1024.size a) (r : Fin 16) (j : Fin 512) :
    (Rect.unit (s := S16x1024) ![0, 0] S16x512.size inb).emb (ix2 r j) = ix2 r ⟨j, by omega⟩ := by
  funext a; apply Fin.ext; fin_cases a <;> simp [Rect.emb_apply]

/-- The place of one of the two kept rows in a point's block. -/
theorem embK (i : Fin 2) (o : Nat) (ho : o = i.val) (inb : ∀ a, (![0, o, 0] : Fin 3 → Nat) a + S16x1x512.size a ≤ S16x2x512.size a)
    (r : Fin 16) (j : Fin 512) :
    (Rect.unit (s := S16x2x512) ![0, o, 0] S16x1x512.size inb).emb (ix3 r 0 j) = ix3 r i j := by
  subst ho
  funext a; apply Fin.ext; fin_cases a <;> simp [Rect.emb_apply]

/-- A point's blocks of the projection, of the kept values and of the convolution's taps. -/
abbrev blkZ : Vec Ideal S16x3584 .f32 := iblk m c 0 t
/-- A point's block of the kept values. -/
abbrev blkBuf : Vec Ideal S16x2x512 .f32 := iblk m c 1 t
/-- A point's block of the taps. -/
abbrev blkW : Vec Ideal S3x512 .f32 := iblk m c 3 t

set_option maxHeartbeats 2000000 in
/-- A point's mixed rows are any function that agrees with its five stores: four heads' normed read-outs and the
convolution. -/
theorem rows_of (G : Vec Ideal S16x1024 .bf16)
    (hh : ∀ (r : Fin 16) (h : Fin 4) (p : Fin 128), G (ix2 r ⟨512 + lane h p, by omega⟩)
      = normed (fun x => bO m c t (ix2 r (lane h x))) (iblk m c 5 t (ix2 0 p))
          (iblk m c 0 t (ix2 r ⟨3072 + lane h p, by omega⟩)) p)
    (hc : ∀ (r : Fin 16) (j : Fin 512), G (ix2 r ⟨j, by omega⟩)
      = blkZ m c t (ix2 r ⟨j, by omega⟩)
        * (blkW m c t (ix2 0 j) * blkBuf m c t (ix3 r 0 j) + blkW m c t (ix2 1 j) * blkBuf m c t (ix3 r 1 j)
          + blkW m c t (ix2 2 j)
            * (blkZ m c t (ix2 r ⟨512 + j, by omega⟩) * blkZ m c t (ix2 r ⟨1024 + j, by omega⟩)))) :
    (outsAt0 m c t).1 = G := by
  dsimp only [outsAt0]
  unfold out0_A_6
  rw [View.read_writes_eq_canon _ _ _ (fun _ => cover0_A_6 ..)]
  funext y
  refine View.canon_apply_of_pieces _ _ ?_ y (cover0_A_6 _ _ _ _ _ _ _ _ _ _ _ _ _ _ _ _ _ _ _ _ _ _ _ _ _ _ _ _ _)
  unfold kernelRun0_A
  dsimp only
  sl_unfold_words
  simp only [View.readAt_eq_ld, load_canon, (hs0_0 t).read_unread, (hs0_1 t).read_unread, (hs0_2 t).read_unread,
    (hs0_3 t).read_unread, (hs0_4 t).read_unread, (hs0_5 t).read_unread]
  unfold k0_pay13
  rw [canon_eq _ (bO m c t) ?cov ?pcs]
  case cov =>
    intro y
    refine View.cover_of_tiledL (s := S16x512) _ ![1, 128] ?_ y
    sl_kernel_rfl
  case pcs =>
    unfold bO bV bQ
    generalize k0_pay12 (bLb m c t) (bF m c t) = EF
    generalize k0_pay10 (bLb m c t) (bF m c t) = KK
    generalize View.ld (iblk m c 0 t) (Rect.unit ![0, 2560] ![16, 512] inb_S16x3584_S16x512_0_2560) = v
    generalize k0_pay11 (View.ld (iblk m c 0 t) (Rect.unit ![0, 1536] ![16, 512] inb_S16x3584_S16x512_0_1536)) = Q
    generalize iblk m c 2 t = s0
    simp only [List.forall_mem_cons, List.not_mem_nil, IsEmpty.forall_iff, implies_true, and_true]
    repeat' refine And.intro ?_ ?_
    all_goals
      intro (x : S1x128.Idx)
      obtain ⟨p, rfl⟩ : ∃ (p : Fin 128), x = ix2 0 p :=
        ⟨x 1, by rw [eq_ix2 x]; congr 1 <;> exact Subsingleton.elim (α := Fin 1) _ _⟩
      refine Eq.trans ?_ (congrArg (readout Q (step EF KK v s0))
        (embR _ _ (by decide) (by decide) (by decide) (by decide) p)).symm
      rw [readout_lane]
      pointwise [k0_pay9,  k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120,
        k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140,
        k0_pay141, k0_pay142, k0_pay143, k0_pay144, k0_pay145, k0_pay146, k0_pay147, k0_pay148, k0_pay149, k0_pay150,
        k0_pay151, k0_pay152, k0_pay153, k0_pay154, k0_pay155, k0_pay156, k0_pay157, k0_pay158, k0_pay159, k0_pay160,
        k0_pay161, k0_pay162, k0_pay163, k0_pay164, k0_pay165, k0_pay166, k0_pay167, k0_pay168, k0_pay169, k0_pay170,
        k0_pay171, k0_pay172, k0_pay173, k0_pay174, k0_pay175, k0_pay176, k0_pay177, k0_pay178, k0_pay179, k0_pay180,
        k0_pay181, k0_pay182, k0_pay183, k0_pay184, k0_pay185, k0_pay186, k0_pay187, k0_pay188, k0_pay189, k0_pay190,
        k0_pay191, k0_pay192, k0_pay193, k0_pay194, k0_pay195, k0_pay196, k0_pay197, k0_pay198, k0_pay199, k0_pay200,
        k0_pay201, k0_pay202, k0_pay203, k0_pay204, k0_pay205, k0_pay206, k0_pay207, k0_pay208, k0_pay209, k0_pay210,
        k0_pay211, k0_pay212, k0_pay213, k0_pay214, k0_pay215, k0_pay216, k0_pay217, k0_pay218, k0_pay219, k0_pay220,
        k0_pay221, k0_pay222, k0_pay223, k0_pay224, k0_pay225, k0_pay226, k0_pay227, k0_pay228, k0_pay229, k0_pay230,
        k0_pay231, k0_pay232, k0_pay233, k0_pay234, k0_pay235, k0_pay236, k0_pay237, k0_pay238, k0_pay239, k0_pay240,
        k0_pay241, k0_pay242, k0_pay243, k0_pay244, k0_pay245, k0_pay246, k0_pay247, k0_pay248, k0_pay249, k0_pay250,
        k0_pay251, k0_pay252, k0_pay253, k0_pay254, k0_pay255, k0_pay256, k0_pay257, k0_pay258, k0_pay259, k0_pay260,
        k0_pay261, k0_pay262, k0_pay263, k0_pay264, k0_pay265, k0_pay266, k0_pay267, k0_pay268, k0_pay269, k0_pay270,
        k0_pay271, k0_pay272, k0_pay273, k0_pay274, k0_pay275, k0_pay276, k0_pay277, k0_pay278, k0_pay279, k0_pay280,
        k0_pay281, k0_pay282]
      simp only [pick]
      first
      | rfl
      | refine Finset.sum_congr rfl fun r _ => ?_
        show _ = Q (ix2 _ (lane 0 r)) * (EF (ix2 _ (lane 0 r)) * s0 _ + KK (ix2 _ (lane 0 r)) * v (ix2 _ (lane 0 p)))
        rw [lane_zero r, lane_zero p]
        rfl
  simp only [List.forall_mem_cons, List.not_mem_nil, IsEmpty.forall_iff, implies_true, and_true]
  refine And.intro ?_ (And.intro ?_ ?_)
  · intro (x : S16x128.Idx)
    obtain ⟨r, p, rfl⟩ : ∃ r p, x = ix2 r p := ⟨x 0, x 1, eq_ix2 x⟩
    refine Eq.trans ?_ ((congrArg G (embA _ 3 rfl (by decide) r p)).trans (hh r 3 p)).symm
    rw [show (⟨3072 + lane 3 p, by omega⟩ : Fin 3584) = ⟨3456 + p, by omega⟩ from
      Fin.ext (by show 3072 + (3 * 128 + p.val) = 3456 + p.val; omega)]
    unfold normed
    generalize bO m c t = B
    generalize iblk m c 0 t = z
    generalize iblk m c 5 t = gn
    pointwise [k0_pay2]
    rfl
  · intro (x : S16x128.Idx)
    obtain ⟨r, p, rfl⟩ : ∃ r p, x = ix2 r p := ⟨x 0, x 1, eq_ix2 x⟩
    refine Eq.trans ?_ ((congrArg G (embA _ 2 rfl (by decide) r p)).trans (hh r 2 p)).symm
    rw [show (⟨3072 + lane 2 p, by omega⟩ : Fin 3584) = ⟨3328 + p, by omega⟩ from
      Fin.ext (by show 3072 + (2 * 128 + p.val) = 3328 + p.val; omega)]
    unfold normed
    generalize bO m c t = B
    generalize iblk m c 0 t = z
    generalize iblk m c 5 t = gn
    pointwise [k0_pay1, k0_pay281, k0_pay282]
    rfl
  refine And.intro ?_ (And.intro ?_ ?_)
  · intro (x : S16x128.Idx)
    obtain ⟨r, p, rfl⟩ : ∃ r p, x = ix2 r p := ⟨x 0, x 1, eq_ix2 x⟩
    refine Eq.trans ?_ ((congrArg G (embA _ 1 rfl (by decide) r p)).trans (hh r 1 p)).symm
    rw [show (⟨3072 + lane 1 p, by omega⟩ : Fin 3584) = ⟨3200 + p, by omega⟩ from
      Fin.ext (by show 3072 + (1 * 128 + p.val) = 3200 + p.val; omega)]
    unfold normed
    generalize bO m c t = B
    generalize iblk m c 0 t = z
    generalize iblk m c 5 t = gn
    pointwise [k0_pay280]
    rfl
  · intro (x : S16x128.Idx)
    obtain ⟨r, p, rfl⟩ : ∃ r p, x = ix2 r p := ⟨x 0, x 1, eq_ix2 x⟩
    refine Eq.trans ?_ ((congrArg G (embA _ 0 rfl (by decide) r p)).trans (hh r 0 p)).symm
    unfold normed
    generalize bO m c t = B
    generalize iblk m c 0 t = z
    generalize iblk m c 5 t = gn
    pointwise [k0_pay279, k0_pay278]
    simp only [lane_zero]
  · intro (x : S16x512.Idx)
    obtain ⟨r, j, rfl⟩ : ∃ r j, x = ix2 r j := ⟨x 0, x 1, eq_ix2 x⟩
    refine Eq.trans ?_ ((congrArg G (embC (by decide) r j)).trans (hc r j)).symm
    unfold blkZ blkBuf blkW
    generalize iblk m c 0 t = z
    generalize iblk m c 1 t = b
    generalize iblk m c 3 t = w
    pointwise [k0_pay5, k0_pay3, k0_pay4]

/-- A point's kept values: the later of the old two, and the new one. -/
theorem kept_of (G : Vec Ideal S16x2x512 .f32) (h0 : ∀ (r : Fin 16) (j : Fin 512), G (ix3 r 0 j) = iblk m c 1 t (ix3 r 1 j))
    (h1 : ∀ (r : Fin 16) (j : Fin 512), G (ix3 r 1 j)
      = blkZ m c t (ix2 r ⟨512 + j, by omega⟩) * blkZ m c t (ix2 r ⟨1024 + j, by omega⟩)) :
    (outsAt0 m c t).2.1 = G := by
  dsimp only [outsAt0]
  unfold out0_A_7
  rw [View.read_writes_eq_canon _ _ _ (fun _ => cover0_A_7 ..)]
  funext y
  refine View.canon_apply_of_pieces _ _ ?_ y (cover0_A_7 _ _ _ _ _ _ _ _ _ _ _ _ _ _ _ _ _ _ _ _ _ _ _ _ _ _ _ _ _)
  unfold kernelRun0_A
  dsimp only
  sl_unfold_words
  simp only [View.readAt_eq_ld, (hs0_0 t).read_unread, (hs0_1 t).read_unread]
  simp only [List.forall_mem_cons, List.not_mem_nil, IsEmpty.forall_iff, implies_true, and_true]
  refine And.intro ?_ ?_
  all_goals
    intro (x : S16x1x512.Idx)
    obtain ⟨r, j, rfl⟩ : ∃ r j, x = ix3 r 0 j :=
      ⟨x 0, x 2, by rw [eq_ix3 x]; congr 1; exact Subsingleton.elim (α := Fin 1) _ _⟩
  · refine Eq.trans ?_ ((congrArg G (embK 1 _ rfl (by decide) r j)).trans (h1 r j)).symm
    unfold blkZ
    generalize iblk m c 0 t = z
    pointwise [k0_pay7, k0_pay3]
  · refine Eq.trans ?_ ((congrArg G (embK 0 _ rfl (by decide) r j)).trans (h0 r j)).symm
    generalize iblk m c 1 t = b
    pointwise [k0_pay6, k0_pay4]

end Cert.Proof.SampleMixer

end
-- ==== Proof.SampleMixerValue.lean ====
/-
  The sample mixer's three result arrays are the plain functions of its arguments: each grid point's blocks, read entry by
  entry, over the eight blocks of 16 rows.
-/
module

public import proofs.«01_k».proof.Proof.SampleMixerRead
public import Idealize.ShloMosaic.Lib.Pipeline.ValueKit

@[expose] public section

set_option maxRecDepth 16384

noncomputable section

namespace Cert.Proof.SampleMixer

open Cert.SampleMixerIdeal Cert.SampleMixerIdeal.Gen Idealize.ShloMosaic Idealize.ShloMosaic.TcCoe Idealize.ShloMosaic.Tactic Idealize.SL.Sem

variable (m : (ℓ : Loc nD τ sig) → Buf (Elt Ideal) ℓ) (c : Dev nD)

/-- The argument that holds the input projection's output. -/
abbrev aZ : Vec Ideal S128x3584 .f32 := m ((c : Thread nD τ).loc main_arg0)
/-- The argument that holds the kept values. -/
abbrev aBuf : Vec Ideal S128x2x512 .f32 := m ((c : Thread nD τ).loc main_arg1)
/-- The argument that holds the state. -/
abbrev aS : Vec Ideal S128x4x128x128 .f32 := m ((c : Thread nD τ).loc main_arg2)
/-- The argument that holds the convolution's taps. -/
abbrev aW : Vec Ideal S3x512 .f32 := m ((c : Thread nD τ).loc main_arg3)
/-- The argument that holds the logits of the bounds. -/
abbrev aLg : Vec Ideal S2x512 .f32 := m ((c : Thread nD τ).loc main_arg4)
/-- The argument that holds the gain of the norm. -/
abbrev aGn : Vec Ideal S1x128 .f32 := m ((c : Thread nD τ).loc main_arg5)

/-- Where the windows' blocks lie: point `t` takes rows `16 t` to `16 t + 15`. -/
theorem idx : ∀ t : Fin cfg0.N, win0_0.index t = ![t.val, 0] ∧ win0_1.index t = ![t.val, 0, 0]
    ∧ win0_2.index t = ![t.val, 0, 0, 0] ∧ win0_3.index t = ![0, 0] ∧ win0_4.index t = ![0, 0] ∧ win0_5.index t = ![0, 0]
    ∧ win0_6.index t = ![t.val, 0] ∧ win0_7.index t = ![t.val, 0, 0] ∧ win0_8.index t = ![t.val, 0, 0, 0] :=
  (by decide +kernel : ∀ t : Fin grid0.N, win0_0.index t = ![t.val, 0] ∧ win0_1.index t = ![t.val, 0, 0]
    ∧ win0_2.index t = ![t.val, 0, 0, 0] ∧ win0_3.index t = ![0, 0] ∧ win0_4.index t = ![0, 0] ∧ win0_5.index t = ![0, 0]
    ∧ win0_6.index t = ![t.val, 0] ∧ win0_7.index t = ![t.val, 0, 0] ∧ win0_8.index t = ![t.val, 0, 0, 0])

/-- The grid has 8 points. -/
theorem lt_N (t : Fin cfg0.N) : t.val < 8 := lt_of_lt_of_eq t.isLt N_0

/-- The token a point's row is. -/
def row (t : Fin cfg0.N) (r : Fin 16) : Fin 128 := ⟨t.val * 16 + r, by have := lt_N t; omega⟩

variable (t : Fin cfg0.N)

/-- Where an entry of a point's block 0 lies in the input projection's output. -/
theorem blk0 (r : Fin 16) (j : Fin 3584) : iblk m c 0 t (ix2 r j) = aZ m c (ix2 (row t r) j) := by
  blk_ext [iblk, V, idx t, row]
/-- Where an entry of a point's block 1 lies in the kept values. -/
theorem blk1 (r : Fin 16) (i : Fin 2) (j : Fin 512) : iblk m c 1 t (ix3 r i j) = aBuf m c (ix3 (row t r) i j) := by
  blk_ext [iblk, V, idx t, row]
/-- Where an entry of a point's block 2 lies in the state. -/
theorem blk2 (r : Fin 16) (h : Fin 4) (k p : Fin 128) : iblk m c 2 t (ix4 r h k p) = aS m c (ix4 (row t r) h k p) := by
  blk_ext [iblk, V, idx t, row]
/-- Where an entry of a point's block 3 lies in the convolution's taps. -/
theorem blk3 (i : Fin 3) (j : Fin 512) : iblk m c 3 t (ix2 i j) = aW m c (ix2 i j) := by
  blk_ext [iblk, V, idx t]
/-- Where an entry of a point's block 4 lies in the logits of the bounds. -/
theorem blk4 (i : Fin 2) (j : Fin 512) : iblk m c 4 t (ix2 i j) = aLg m c (ix2 i j) := by
  blk_ext [iblk, V, idx t]
/-- Where an entry of a point's block 5 lies in the gain of the norm. -/
theorem blk5 (j : Fin 128) : iblk m c 5 t (ix2 0 j) = aGn m c (ix2 0 j) := by
  blk_ext [iblk, V, idx t]

/-- The logits a point loads are the argument's. -/
theorem lb_apply (i : Fin 2) (j : Fin 512) : bLb m c t (ix2 i j) = aLg m c (ix2 i j) := by
  rw [← blk4 m c t]
  unfold bLb
  generalize iblk m c 4 t = l
  pointwise []

/-- The kernel's bound, gates and query at an entry. -/
theorem lower_apply (j : Fin 512) : k0_pay8 (bLb m c t) (ix2 0 j) = lower (aLg m c) j := by
  pointwise [k0_pay8]
  simp only [lb_apply]
  unfold lower top
  rfl
/-- A point's forget gate is the specified one of the rows it holds. -/
theorem forget_apply (r : Fin 16) (j : Fin 512) :
    k0_pay12 (bLb m c t) (bF m c t) (ix2 r j) = forget (aZ m c) (aLg m c) (row t r) j := by
  unfold forget
  rw [← lower_apply m c t, ← blk0 m c t r]
  generalize bLb m c t = l
  unfold bF
  generalize iblk m c 0 t = z
  pointwise [k0_pay12]
/-- A point's input gate is the specified one. -/
theorem enter_apply (r : Fin 16) (j : Fin 512) :
    k0_pay10 (bLb m c t) (bF m c t) (ix2 r j) = enter (aZ m c) (aLg m c) (row t r) j := by
  unfold enter
  rw [← lower_apply m c t, ← blk0 m c t r]
  generalize bLb m c t = l
  unfold bF
  generalize iblk m c 0 t = z
  pointwise [k0_pay10]
/-- A point's query is the specified one. -/
theorem query_apply (r : Fin 16) (j : Fin 512) :
    k0_pay11 (bQ m c t) (ix2 r j) = query (aZ m c) (row t r) j := by
  unfold query
  rw [← blk0 m c t r]
  unfold bQ
  generalize iblk m c 0 t = z
  pointwise [k0_pay11]
/-- A point's value columns are the input projection's. -/
theorem value_apply (r : Fin 16) (j : Fin 512) : bV m c t (ix2 r j) = aZ m c (ix2 (row t r) ⟨2560 + j, by omega⟩) := by
  rw [← blk0 m c t r]
  unfold bV
  generalize iblk m c 0 t = z
  pointwise []

/-- The step over a point's blocks is the new state. -/
theorem step_apply (r : Fin 16) (h : Fin 4) (k p : Fin 128) :
    step (k0_pay12 (bLb m c t) (bF m c t)) (k0_pay10 (bLb m c t) (bF m c t)) (bV m c t) (iblk m c 2 t) (ix4 r h k p)
      = state (aZ m c) (aS m c) (aLg m c) (row t r) h k p := by
  unfold state
  rw [← forget_apply m c t, ← enter_apply m c t, ← value_apply m c t, ← blk2 m c t]
  rfl

/-- The read-outs over a point's blocks. -/
theorem mem_apply (r : Fin 16) (h : Fin 4) (p : Fin 128) :
    bO m c t (ix2 r (lane h p)) = mem (aZ m c) (aS m c) (aLg m c) (row t r) h p := by
  unfold bO mem
  rw [readout_lane]
  simp only [query_apply, step_apply]

/-- A point's mixed rows. -/
theorem rows_apply : (outsAt0 m c t).1 = fun i : S16x1024.Idx =>
    ab (aZ m c) (aBuf m c) (aS m c) (aW m c) (aLg m c) (aGn m c) (row t (i 0)) (i 1) := by
  refine rows_of m c t _ (fun r h p => ?_) (fun r j => ?_)
  · show ab _ _ _ _ _ _ (row t r) ⟨512 + lane h p, _⟩ = _
    unfold ab gated
    rw [dif_neg (by show ¬512 + (lane h p).val < 512; omega)]
    have e : (⟨512 + (lane h p).val - 512, by omega⟩ : Fin 512) = lane h p := Fin.ext (by show 512 + (lane h p).val - 512 = _; omega)
    simp only [e, headOf_lane, inHead_lane, blk0, blk5, mem_apply]
    simp only [Nat.add_sub_cancel_left]
  · show ab _ _ _ _ _ _ (row t r) ⟨j, _⟩ = _
    unfold ab conv fresh
    rw [dif_pos j.isLt]
    simp only [blkZ, blkBuf, blkW, blk0, blk1, blk3]

/-- A point's kept values. -/
theorem kept_apply : (outsAt0 m c t).2.1 = fun i : S16x2x512.Idx =>
    kept (aZ m c) (aBuf m c) (row t (i 0)) (i 1) (i 2) := by
  refine kept_of m c t _ (fun r j => ?_) (fun r j => ?_)
  · show kept _ _ (row t r) 0 j = _
    unfold kept
    rw [if_pos rfl, blk1]
  · show kept _ _ (row t r) 1 j = _
    unfold kept fresh
    rw [if_neg (by decide)]
    simp only [blkZ, blk0]

/-- A point's state block. -/
theorem state_apply (r : Fin 16) (h : Fin 4) (k p : Fin 128) :
    (outsAt0 m c t).2.2 (ix4 r h k p) = state (aZ m c) (aS m c) (aLg m c) (row t r) h k p := by
  rw [state_eq, step_apply]

/-- Every block of the results is written. -/
theorem covers6 : (cfg0.win 6).Covers := by decide +kernel
/-- The blocks of result window 7 cover its array. -/
theorem covers7 : (cfg0.win 7).Covers := by decide +kernel
/-- The blocks of result window 8 cover its array. -/
theorem covers8 : (cfg0.win 8).Covers := by decide +kernel

/-- Where an entry of a point's block of result window 6 lies in the whole array. -/
theorem emb6 (r : Fin 16) (j : Fin 1024) : ((cfg0.win 6).blk t).view.emb (ix2 r j) = ix2 (row t r) j := by
  blk_ext [idx t, row]
/-- Where an entry of a point's block of result window 7 lies in the whole array. -/
theorem emb7 (r : Fin 16) (i : Fin 2) (j : Fin 512) : ((cfg0.win 7).blk t).view.emb (ix3 r i j) = ix3 (row t r) i j := by
  blk_ext [idx t, row]
/-- Where an entry of a point's block of result window 8 lies in the whole array. -/
theorem emb8 (r : Fin 16) (h : Fin 4) (k p : Fin 128) :
    ((cfg0.win 8).blk t).view.emb (ix4 r h k p) = ix4 (row t r) h k p := by
  blk_ext [idx t, row]

/-- The kernel's three result arrays. -/
theorem result_ab : (dats m 0 c).arrAt 6 cfg0.N = abArr (aZ m c) (aBuf m c) (aS m c) (aW m c) (aLg m c) (aGn m c) := by
  refine (dats m 0 c).arrAt_eq_of_covers 6 _ covers6 fun t hf y => ?_
  rw [after0_6]
  obtain ⟨r, j, rfl⟩ : ∃ (r : Fin 16) (j : Fin 1024), y = ix2 r j := ⟨y 0, y 1, eq_ix2 y⟩
  refine (congrFun (rows_apply m c t) (ix2 r j)).trans ?_
  rw [emb6 t r j]
  rfl
/-- The finished array of kept values is the specified one. -/
theorem result_kept : (dats m 0 c).arrAt 7 cfg0.N = keptArr (aZ m c) (aBuf m c) := by
  refine (dats m 0 c).arrAt_eq_of_covers 7 _ covers7 fun t hf y => ?_
  rw [after0_7]
  obtain ⟨r, i, j, rfl⟩ : ∃ (r : Fin 16) (i : Fin 2) (j : Fin 512), y = ix3 r i j := ⟨y 0, y 1, y 2, eq_ix3 y⟩
  refine (congrFun (kept_apply m c t) (ix3 r i j)).trans ?_
  rw [emb7 t r i j]
  rfl
/-- The finished array of states is the specified one. -/
theorem result_state : (dats m 0 c).arrAt 8 cfg0.N = stateArr (aZ m c) (aS m c) (aLg m c) := by
  refine (dats m 0 c).arrAt_eq_of_covers 8 _ covers8 fun t hf y => ?_
  rw [after0_8]
  obtain ⟨r, h, k, p, rfl⟩ : ∃ (r : Fin 16) (h : Fin 4) (k p : Fin 128), y = ix4 r h k p :=
    ⟨y 0, y 1, y 2, y 3, eq_ix4 y⟩
  refine (state_apply m c t r h k p).trans ?_
  rw [emb8 t r h k p]
  rfl

end Cert.Proof.SampleMixer

end
-- ==== Proof.SampleMixerRef.lean ====
/-
  The sample mixer's reference, read at one entry over the extended reals.
-/
module

public import proofs.«01_k».proof.Proof.Gen.SampleMixerRefIdeal.Read
public import proofs.«01_k».proof.Proof.SampleMixerSpec

@[expose] public section

set_option maxRecDepth 16384

noncomputable section

namespace Cert.Proof.SampleMixer

open Cert.SampleMixerRefIdeal Cert.SampleMixerRefIdeal.Read Idealize.ShloMosaic

variable (z : Vec Ideal S128x3584 .f32) (buf : Vec Ideal S128x2x512 .f32) (s0 : Vec Ideal S128x4x128x128 .f32)
  (w : Vec Ideal S3x512 .f32) (lg : Vec Ideal S2x512 .f32) (gn : Vec Ideal S1x128 .f32)

/-- The first of two running sums is the first summand. -/
theorem run_first (y : Vec Ideal S2x512 .f32) (v : Vec Ideal S_ .f32) (h) (hv : v ix0 = 0) (j : Fin 512) :
    Host.reduceWindowAdd (F := Ideal) (φ := .f32) (t := S2x512) ![2, 1] ![1, 1] ![1, 0] ![0, 0] y v h Gen.h_S_ (ix2 0 j) = y (ix2 0 j) := by
  have e : ∀ i : S_.Idx, v i = 0 := fun i => by rw [← hv]; congr 1; funext a; exact a.elim0
  have f : List.finRange (Shape.numel ⟨2, ![2, 1]⟩) = [⟨0, by decide⟩, ⟨1, by decide⟩] := by decide
  show Host.reduceWindow (fun a b : EReal => a + b) ![2, 1] ![1, 1] ![1, 0] ![0, 0] y v h Gen.h_S_ (ix2 0 j) = _
  unfold Host.reduceWindow
  dsimp only
  rw [f, e]
  simp only [List.foldl_cons, List.foldl_nil]
  have p0 : ∀ a, ((Shape.rowMajor ⟨2, ![2, 1]⟩).symm ⟨0, by decide⟩ a).val = 0 := by decide
  have p1 : ((Shape.rowMajor ⟨2, ![2, 1]⟩).symm ⟨1, by decide⟩ 0).val = 1 := by decide
  have p2 : ((Shape.rowMajor ⟨2, ![2, 1]⟩).symm ⟨1, by decide⟩ 1).val = 0 := by decide
  rw [dif_neg, dif_pos]
  · rw [zero_add, zero_add]
    congr 1
    funext a
    apply Fin.ext
    fin_cases a
    · show 0 * 1 + _ - 1 = 0
      exact congrArg (fun n => 0 * 1 + n - 1) p1
    · show j.val * 1 + _ - 0 = j.val
      exact (congrArg (fun n => j.val * 1 + n - 0) p2).trans (by omega)
  · intro a
    fin_cases a
    · exact (congrArg (fun n => 1 ≤ 0 * 1 + n ∧ 0 * 1 + n - 1 < 2) p1).mpr (by omega)
    · exact (congrArg (fun n => 0 ≤ j.val * 1 + n ∧ j.val * 1 + n - 0 < 512) p2).mpr (by omega)
  · intro H
    have q := (congrArg (fun n => 1 ≤ 0 * 1 + n) (p0 0)).mp (H 0).1
    exact absurd q (by decide)

/-- The larger of the two layers' logits. -/
theorem ref_top (j : Fin 512) : val_main_v2 (F := Ideal) lg (ix1 j) = top lg j := by
  pointwise [val_main_v2, val_main_v1, val_main_v0, val_main_cst, val_main_cst_0]
  unfold top
  exact max_eq_right ((Finset.le_fold_max _).mpr (Or.inl le_rfl))

/-- The reference's softmax of the logits over the two layers. -/
theorem ref_share (i : Fin 2) (j : Fin 512) : val_main_v10 (F := Ideal) lg (ix2 i j)
    = Ideal.div (Ideal.exp (lg (ix2 i j) - top lg j)) (∑ x : Fin 2, Ideal.exp (lg (ix2 x j) - top lg j)) := by
  pointwise [val_main_v10, val_main_v9, val_main_v8, val_main_v7, val_main_cst_1, val_main_v6, val_main_v5, val_main_v4, val_main_v3]
  simp only [ref_top]

/-- The reference's bound of the forget gate: the running sum of the shares before the second layer is the first share. -/
theorem ref_lower (j : Fin 512) : val_main_v17 (F := Ideal) lg (ix1 j) = lower lg j := by
  unfold lower
  rw [← ref_share]
  pointwise [val_main_v17, val_main_v16, val_main_v15, val_main_v14, val_main_v13, val_main_v12, val_main_cst_2, val_main_call0_call0_v0,
    val_main_call0_call0_cst]
  exact run_first _ _ _ (by pointwise [] <;> exact toEReal_zero) j

/-- The reference's forget gate at a head's lane. -/
theorem ref_forget (n : Fin 128) (h : Fin 4) (k : Fin 128) :
    val_main_v89 (F := Ideal) z lg (ix3 n h k) = forget z lg n (lane h k) := by
  pointwise [val_main_v89, val_main_v88, val_main_v84, val_main_v38, val_main_v37, val_main_v36, val_main_v35, val_main_v34,
    val_main_v33, val_main_v32, val_main_v31, val_main_cst_5, val_main_v30, val_main_v29, val_main_cst_4, val_main_v28,
    val_main_v27, val_main_v26, val_main_v25, val_main_cst_3, val_main_v22]
  simp only [ref_lower]
  unfold forget
  rfl

/-- The reference's input gate at a head's lane. -/
theorem ref_enter (n : Fin 128) (h : Fin 4) (k : Fin 128) :
    val_main_v85 (F := Ideal) z lg (ix3 n h k) = enter z lg n (lane h k) := by
  pointwise [val_main_v85, val_main_v50, val_main_v49, val_main_v48, val_main_v47, val_main_v46, val_main_cst_8, val_main_v45,
    val_main_v44, val_main_cst_7, val_main_v43, val_main_v42, val_main_v41, val_main_v40, val_main_v39, val_main_cst_6, val_main_v22]
  simp only [ref_lower]
  unfold enter
  rw [zero_sub]
  rfl

/-- The reference's query at a head's lane. -/
theorem ref_query (n : Fin 128) (h : Fin 4) (k : Fin 128) :
    val_main_v83 (F := Ideal) z (ix3 n h k) = query z n (lane h k) := by
  pointwise [val_main_v83, val_main_v54, val_main_v53, val_main_cst_9, val_main_v52, val_main_v21, val_main_call1_v5, val_main_call1_v4, val_main_call1_cst_0,
    val_main_call1_v3, val_main_call1_v2, val_main_call1_cst, val_main_call1_v1, val_main_call1_v0]
  unfold query
  rfl

/-- The reference's state after the step. -/
theorem ref_state (n : Fin 128) (h : Fin 4) (k p : Fin 128) :
    val_main_v98 (F := Ideal) z s0 lg (ix4 n h k p) = state z s0 lg n h k p := by
  pointwise [val_main_v98, val_main_v97, val_main_v96, val_main_v95, val_main_v94, val_main_v93, val_main_v92, val_main_v91, val_main_v90,
    val_main_v86, val_main_v23]
  simp only [ref_forget, ref_enter]
  unfold state
  rfl

/-- The reference's read-out of the new state. -/
theorem ref_mem (n : Fin 128) (h : Fin 4) (p : Fin 128) :
    val_main_v99 (F := Ideal) z s0 lg (ix3 n h p) = mem z s0 lg n h p := by
  unfold val_main_v99
  pointwise []
  simp only [ref_query, ref_state]
  unfold mem
  rfl

/-- The reference's normed and gated read-out. -/
theorem ref_gated (n : Fin 128) (j : Fin 512) : val_main_v115 (F := Ideal) z s0 lg gn (ix2 n j) = gated z s0 lg gn n j := by
  pointwise [val_main_v115, val_main_v114, val_main_v113, val_main_v112, val_main_v111, val_main_v110, val_main_v109, val_main_v108,
    val_main_v107, val_main_v106, val_main_cst_12, val_main_v105, val_main_v104, val_main_cst_11, val_main_v103, val_main_v102,
    val_main_cst_10, val_main_v101, val_main_v100, val_main_v87, val_main_v55, val_main_v24, val_main_call2_v5, val_main_call2_v4,
    val_main_call2_cst_0, val_main_call2_v3, val_main_call2_v2, val_main_call2_cst, val_main_call2_v1, val_main_call2_v0]
  simp only [ref_mem]
  unfold gated normed
  rfl

/-- The reference's new entry of the convolution's window. -/
theorem ref_fresh (n : Fin 128) (j : Fin 512) : val_main_v51 (F := Ideal) z (ix2 n j) = fresh z n j := by
  pointwise [val_main_v51, val_main_v19, val_main_v20]
  unfold fresh
  rfl

/-- The reference's convolution at the step. -/
theorem ref_conv (n : Fin 128) (j : Fin 512) : val_main_v77 (F := Ideal) z buf w (ix2 n j) = conv z buf w n j := by
  pointwise [val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60, val_main_v59,
    val_main_v58, val_main_v57, val_main_v56, val_main_v18]
  simp only [ref_fresh]
  unfold conv
  rfl

/-- The reference's mixed rows: the convolution's columns, then the recurrence's. -/
theorem ref_ab (n : Fin 128) (j : Fin 1024) :
    val_main_v117 (F := Ideal) z buf s0 w lg gn (ix2 n j) = ab z buf s0 w lg gn n j := by
  pointwise [val_main_v117, val_main_v116]
  unfold ab
  by_cases h : j.val < 512
  · simp only [h, dif_pos, ref_conv]
  · simp only [h, dif_neg, not_false_iff, ref_gated]

/-- The reference's kept values after the step. -/
theorem ref_kept (n : Fin 128) (i : Fin 2) (j : Fin 512) : val_main_v82 (F := Ideal) z buf (ix3 n i j) = kept z buf n i j := by
  pointwise [val_main_v82, val_main_v81, val_main_v80, val_main_v79, val_main_v78]
  simp only [ref_fresh]
  unfold kept
  by_cases h : i.val < 1
  · rw [dif_pos h, if_pos (Fin.ext (by show i.val = 0; omega))]
  · rw [dif_neg h, if_neg (fun e => h (by rw [e]; decide))]

/-- The reference's results are the same arrays. -/
theorem ref_abArr : val_main_v117 (F := Ideal) z buf s0 w lg gn = abArr z buf s0 w lg gn := by
  funext i
  obtain ⟨n, j, rfl⟩ : ∃ (n : Fin 128) (j : Fin 1024), i = ix2 n j := ⟨i 0, i 1, eq_ix2 i⟩
  exact ref_ab z buf s0 w lg gn n j
/-- The reference's array is the array of `kept`. -/
theorem ref_keptArr : val_main_v82 (F := Ideal) z buf = keptArr z buf := by
  funext i
  obtain ⟨n, r, j, rfl⟩ : ∃ (n : Fin 128) (r : Fin 2) (j : Fin 512), i = ix3 n r j := ⟨i 0, i 1, i 2, eq_ix3 i⟩
  exact ref_kept z buf n r j
/-- The reference's array is the array of `state`. -/
theorem ref_stateArr : val_main_v98 (F := Ideal) z s0 lg = stateArr z s0 lg := by
  funext i
  obtain ⟨n, h, k, p, rfl⟩ : ∃ (n : Fin 128) (h : Fin 4) (k p : Fin 128), i = ix4 n h k p :=
    ⟨i 0, i 1, i 2, i 3, eq_ix4 i⟩
  exact ref_state z s0 lg n h k p

end Cert.Proof.SampleMixer

end
-- ==== Proof.SampleMixerClaim.lean ====
/-
  The claim of the mixer on the sample batch.
-/
module

public import proofs.«01_k».proof.Defs
public import proofs.«01_k».proof.Proof.SampleMixerValue
public import proofs.«01_k».proof.Proof.SampleMixerRef
public import proofs.«01_k».proof.Proof.Gen.SampleMixerRefIdeal.Run

@[expose] public section

set_option maxRecDepth 16384

noncomputable section

namespace Cert.Proof.SampleMixer

open Idealize.ShloMosaic Idealize.SL.Sem

/-- Over the extended reals, the call's results are the reference's, from any arguments. -/
theorem value : Cert.algebraic_SampleMixerIdeal_SampleMixerRefIdeal (hSampleMixerIdeal := Cert.SampleMixerIdeal.Gen.facts)
    (hSampleMixerRefIdeal := Cert.SampleMixerRefIdeal.Gen.facts) := by
  intro m g m' g' _ agree
  refine ⟨fun c => abArr (aZ m c) (aBuf m c) (aS m c) (aW m c) (aLg m c) (aGn m c),
    fun c => keptArr (aZ m c) (aBuf m c), fun c => stateArr (aZ m c) (aS m c) (aLg m c), ?_, ?_⟩
  · refine (θ_run _ _ _).mono (fun r h c => ?_) (Cert.SampleMixerIdeal.Value.run_blocks m g)
    obtain ⟨h6, h7, h8, rest⟩ := h c
    exact ⟨h6.trans (result_ab m c), h7.trans (result_kept m c), h8.trans (result_state m c), rest⟩
  · refine (θ_run _ _ _).mono (fun r h c => ?_) (Cert.SampleMixerRefIdeal.Value.run m' g')
    obtain ⟨r0, r1, r2, rest⟩ := h c
    obtain ⟨h0, h1, h2, h3, h4, h5⟩ := agree c
    refine ⟨r0.trans ?_, r1.trans ?_, r2.trans ?_, rest⟩
    · rw [Cert.SampleMixerRefIdeal.Read.val_main_v117_eq, h0, h1, h2, h3, h4, h5]
      exact ref_abArr _ _ _ _ _ _
    · rw [Cert.SampleMixerRefIdeal.Read.val_main_v82_eq, h0, h1]
      exact ref_keptArr _ _
    · rw [Cert.SampleMixerRefIdeal.Read.val_main_v98_eq, h0, h2, h4]
      exact ref_stateArr _ _ _

end Cert.Proof.SampleMixer

end
-- ==== Proof.DqkvSampleSpec.lean ====
/-
  The down projection of the attention on the sample batch: what it computes, entry by entry, and that the reference computes it.
-/
module

public import proofs.«01_k».proof.Proof.Gen.DqkvSampleRefIdeal.Read
public import proofs.«01_k».proof.Proof.Layer

@[expose] public section

set_option maxRecDepth 16384

noncomputable section

namespace Cert.Proof.DqkvSample

open Cert.DqkvSampleRefIdeal Idealize.ShloMosaic Idealize.ShloMosaic.TcCoe Idealize.ShloMosaic.Tactic

section spec

variable (x : Vec Ideal S128x1024 .f32) (g : Vec Ideal S1x1024 .f32) (md : Vec Ideal S4x1x128x6144 .f32)
  (w : Vec Ideal S1024x704 .f32) (qn : Vec Ideal S1x384 .f32) (kn : Vec Ideal S1x256 .f32)
  (cs sn : Vec Ideal S1x32 .f32)

/-- Row `r` of the attention's input: the residual stream's row, normed and modulated. -/
@[irreducible] def hid (r : Fin 128) (k : Fin 1024) : EReal :=
  modRow (fun k => x (ix2 r k)) (fun k => g (ix2 0 k)) (fun k => md (ix4 1 0 r ⟨1024 + k, by omega⟩))
    (fun k => md (ix4 1 0 r ⟨k, by omega⟩)) k

/-- The row's 704 latent entries: 384 for the queries, 256 for keys and values, 64 for the rotated key. -/
@[irreducible] def lat (r : Fin 128) (n : Fin 704) : EReal := ∑ k : Fin 1024, hid x g md r k * w (ix2 k n)

/-- The queries' latent row, normed. -/
@[irreducible] def cq (r : Fin 128) (j : Fin 384) : EReal :=
  lat x g md w r ⟨j, by omega⟩ * rms (Ideal.ofBits .f32 0x43C00000#32) (fun k : Fin 384 => lat x g md w r ⟨k, by omega⟩)
    * qn (ix2 0 j)

/-- The keys' and values' latent row, normed. -/
@[irreducible] def ckv (r : Fin 128) (j : Fin 256) : EReal :=
  lat x g md w r ⟨384 + j, by omega⟩
    * rms (Ideal.ofBits .f32 0x43800000#32) (fun k : Fin 256 => lat x g md w r ⟨384 + k, by omega⟩) * kn (ix2 0 j)

/-- The rotated key: the row's last 64 entries as 32 pairs `(a, b)`, turned by the angle of the one
    position every row of the batch stands at. -/
@[irreducible] def kr (r : Fin 128) (j : Fin 64) : EReal :=
  if h : j.val < 32 then
    lat x g md w r ⟨640 + j, by omega⟩ * cs (ix2 0 ⟨j, h⟩) - lat x g md w r ⟨672 + j, by omega⟩ * sn (ix2 0 ⟨j, h⟩)
  else
    lat x g md w r ⟨608 + j, by omega⟩ * sn (ix2 0 ⟨j - 32, by omega⟩)
      + lat x g md w r ⟨640 + j, by omega⟩ * cs (ix2 0 ⟨j - 32, by omega⟩)

/-- The array of `cq`. -/
def cqArr : Vec Ideal S128x384 .bf16 := fun i => cq x g md w qn (i 0) (i 1)
/-- The array of `ckv`. -/
def ckvArr : Vec Ideal S128x256 .f32 := fun i => ckv x g md w kn (i 0) (i 1)
/-- The array of `kr`. -/
def krArr : Vec Ideal S128x64 .f32 := fun i => kr x g md w cs sn (i 0) (i 1)
/-- The two bf16 copies. -/
def ckvArrB : Vec Ideal S128x256 .bf16 := fun i => ckv x g md w kn (i 0) (i 1)
/-- The array of `kr` in bf16. -/
def krArrB : Vec Ideal S128x64 .bf16 := fun i => kr x g md w cs sn (i 0) (i 1)

/-- The array of `cq` at an entry. -/
theorem cqArr_apply (r : Fin 128) (j : Fin 384) : cqArr x g md w qn (ix2 r j) = cq x g md w qn r j := rfl
/-- The array of `ckv` at an entry. -/
theorem ckvArr_apply (r : Fin 128) (j : Fin 256) : ckvArr x g md w kn (ix2 r j) = ckv x g md w kn r j := rfl
/-- The array of `kr` at an entry. -/
theorem krArr_apply (r : Fin 128) (j : Fin 64) : krArr x g md w cs sn (ix2 r j) = kr x g md w cs sn r j := rfl
/-- The array of `ckv` in bf16 at an entry. -/
theorem ckvArrB_apply (r : Fin 128) (j : Fin 256) : ckvArrB x g md w kn (ix2 r j) = ckv x g md w kn r j := rfl
/-- The array of `kr` in bf16 at an entry. -/
theorem krArrB_apply (r : Fin 128) (j : Fin 64) : krArrB x g md w cs sn (ix2 r j) = kr x g md w cs sn r j := rfl

end spec

section reference

open Cert.DqkvSampleRefIdeal.Read

variable (x : Vec Ideal S128x1024 .f32) (g : Vec Ideal S1x1024 .f32) (md : Vec Ideal S4x1x128x6144 .f32)
  (w : Vec Ideal S1024x704 .f32) (qn : Vec Ideal S1x384 .f32) (kn : Vec Ideal S1x256 .f32)
  (cs sn : Vec Ideal S1x32 .f32)

/-- The reference's modulated norm at an entry. -/
theorem ref_hid (r : Fin 128) (k : Fin 1024) : val_main_v23 (F := Ideal) x g md (ix2 r k) = hid x g md r k := by
  unfold hid
  pointwise [modRow, rms, width, eps, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]

/-- The reference's down projection at an entry. -/
theorem ref_lat (r : Fin 128) (n : Fin 704) : val_main_v24 (F := Ideal) x g md w (ix2 r n) = lat x g md w r n := by
  unfold val_main_v24 lat
  pointwise []
  simp only [ref_hid]

/-- The reference's normalised latents of the queries at an entry. -/
theorem ref_cq (r : Fin 128) (j : Fin 384) : val_main_v39 (F := Ideal) x g md w qn (ix2 r j) = cq x g md w qn r j := by
  unfold cq rms eps
  pointwise [val_main_v39, val_main_v38, val_main_v37, val_main_v36, val_main_v35, val_main_v34, val_main_v33, val_main_v32,
    val_main_v31, val_main_v30, val_main_v29, val_main_v28, val_main_v27, val_main_v26, val_main_v25, val_main_cst_3,
    val_main_cst_4, val_main_cst_5]
  simp only [ref_lat]

/-- The reference's normalised latents of keys and values at an entry. -/
theorem ref_ckv (r : Fin 128) (j : Fin 256) : val_main_v54 (F := Ideal) x g md w kn (ix2 r j) = ckv x g md w kn r j := by
  unfold ckv rms eps
  pointwise [val_main_v54, val_main_v53, val_main_v52, val_main_v51, val_main_v50, val_main_v49, val_main_v48, val_main_v47,
    val_main_v46, val_main_v45, val_main_v44, val_main_v43, val_main_v42, val_main_v41, val_main_v40, val_main_cst_6,
    val_main_cst_7, val_main_cst_8]
  simp only [ref_lat]

/-- The reference's rotated key at an entry. -/
theorem ref_kr (r : Fin 128) (j : Fin 64) : val_main_v72 (F := Ideal) x g md w cs sn (ix2 r j) = kr x g md w cs sn r j := by
  unfold kr
  pointwise [val_main_v72, val_main_v71, val_main_v70, val_main_v69, val_main_v68, val_main_v67, val_main_v66, val_main_v65,
    val_main_v64, val_main_v63, val_main_v62, val_main_v61, val_main_v60, val_main_v59, val_main_v58, val_main_v57,
    val_main_v56, val_main_v55]
  simp only [ref_lat]
  by_cases h : j.val < 32
  · have e : (⟨640 + (32 + j.val), by omega⟩ : Fin 704) = ⟨672 + j.val, by omega⟩ :=
      Fin.ext (by show 640 + (32 + j.val) = 672 + j.val; omega)
    simp [h, e]
  · have e0 : (⟨640 + (j.val - 32), by omega⟩ : Fin 704) = ⟨608 + j.val, by omega⟩ :=
      Fin.ext (by show 640 + (j.val - 32) = 608 + j.val; omega)
    have e1 : (⟨640 + (32 + (j.val - 32)), by omega⟩ : Fin 704) = ⟨640 + j.val, by omega⟩ :=
      Fin.ext (by show 640 + (32 + (j.val - 32)) = 640 + j.val; omega)
    simp [h, e0, e1]

/-- The reference's array is the array of `cq`. -/
theorem ref_cqArr : val_main_v73 (F := Ideal) x g md w qn = cqArr x g md w qn := by
  funext i
  obtain ⟨r, j, rfl⟩ : ∃ (r : Fin 128) (j : Fin 384), i = ix2 r j := ⟨i 0, i 1, eq_ix2 i⟩
  rw [cqArr_apply, ← ref_cq]
  rfl

/-- The reference's array is the array of `ckv`. -/
theorem ref_ckvArr : val_main_v54 (F := Ideal) x g md w kn = ckvArr x g md w kn := by
  funext i
  obtain ⟨r, j, rfl⟩ : ∃ (r : Fin 128) (j : Fin 256), i = ix2 r j := ⟨i 0, i 1, eq_ix2 i⟩
  rw [ckvArr_apply, ref_ckv]

/-- The reference's array is the array of `kr`. -/
theorem ref_krArr : val_main_v72 (F := Ideal) x g md w cs sn = krArr x g md w cs sn := by
  funext i
  obtain ⟨r, j, rfl⟩ : ∃ (r : Fin 128) (j : Fin 64), i = ix2 r j := ⟨i 0, i 1, eq_ix2 i⟩
  rw [krArr_apply, ref_kr]

/-- The reference's array is the array of `ckv` in bf16. -/
theorem ref_ckvArrB : val_main_v74 (F := Ideal) x g md w kn = ckvArrB x g md w kn :=
  ref_ckvArr x g md w kn

/-- The reference's array is the array of `kr` in bf16. -/
theorem ref_krArrB : val_main_v75 (F := Ideal) x g md w cs sn = krArrB x g md w cs sn :=
  ref_krArr x g md w cs sn

end reference

end Cert.Proof.DqkvSample

end
-- ==== Proof.DqkvSampleValue.lean ====
/-
  The down projection of the attention on the sample batch: the kernel's five results.
-/
module

public import proofs.«01_k».proof.Proof.Gen.DqkvSampleIdeal.Value
public import proofs.«01_k».proof.Proof.DqkvSampleSpec
public import Idealize.ShloMosaic.Lib.Pipeline.ValueKit
public import Idealize.ShloMosaic.Lib.Claim

@[expose] public section

set_option maxRecDepth 16384

noncomputable section

namespace Cert.Proof.DqkvSample

open Cert.DqkvSampleIdeal Cert.DqkvSampleIdeal.Gen Idealize.ShloMosaic Idealize.ShloMosaic.TcCoe Idealize.ShloMosaic.Tactic Idealize.SL.Sem

section body

variable (x : Vec Ideal S128x1024 .f32) (g : Vec Ideal S1x1024 .f32) (sc sh : Vec Ideal S1x1x128x1024 .f32)
  (w : Vec Ideal S1024x768 .bf16)

/-- The block's products with the padded weights. -/
theorem pay3_apply (r : Fin 128) (n : Fin 768) :
    k0_pay3 x g sc sh w (ix2 r n) = ∑ k : Fin 1024, modRow (fun k => x (ix2 r k)) (fun k => g (ix2 0 k))
      (fun k => sc (ix4 0 0 r k)) (fun k => sh (ix4 0 0 r k)) k * w (ix2 k n) := by
  pointwise [k0_pay3, modRow, rms, width, eps]

/-- The queries' norm of a row of the down projection. -/
theorem pay6_apply (qn : Vec Ideal S1x384 .f32) (r : Fin 128) (j : Fin 384) :
    k0_pay6 (k0_pay4 x g sc sh w) qn (k0_pay5 x g sc sh w) (ix2 r j)
      = k0_pay3 x g sc sh w (ix2 r ⟨j, by omega⟩) * rms (Ideal.ofBits .f32 0x43C00000#32)
        (fun k : Fin 384 => k0_pay3 x g sc sh w (ix2 r ⟨k, by omega⟩)) * qn (ix2 0 j) := by
  unfold k0_pay6 k0_pay5 k0_pay4
  generalize k0_pay3 x g sc sh w = v
  pointwise [rms, eps]

/-- The latents' norm of a row of the down projection. -/
theorem pay7_apply (v : Vec Ideal S128x768 .f32) (kn : Vec Ideal S1x256 .f32) (r : Fin 128) (j : Fin 256) :
    k0_pay7 v kn (ix2 r j) = v (ix2 r ⟨384 + j, by omega⟩) * rms (Ideal.ofBits .f32 0x43800000#32)
        (fun k : Fin 256 => v (ix2 r ⟨384 + k, by omega⟩)) * kn (ix2 0 j) := by
  pointwise [k0_pay7, rms, eps]

/-- Lane `j` lies in a pair's first half exactly if `j % 64 < 32`; over 64 lanes, if `j < 32`. -/
theorem pay1_apply (v : Vec Ideal S128x768 .f32) (cs sn : Vec Ideal S128x128 .f32) (r : Fin 128) (j : Fin 64) :
    k0_pay1 (k0_pay9 v) (k0_pay10 cs) (k0_pay11 sn) (Scalar.select (Scalar.cmpi .eq 64#32 0#32) 1#32 64#32) k0_pay12 k0_pay13
        k0_pay14 (ix2 r j)
      = v (ix2 r ⟨640 + j, by omega⟩) * cs (ix2 r ⟨j, by omega⟩)
        + (if h : j.val < 32 then v (ix2 r ⟨672 + j, by omega⟩) else v (ix2 r ⟨608 + j, by omega⟩)) * sn (ix2 r ⟨j, by omega⟩) := by
  pointwise [k0_pay1, k0_pay9, k0_pay10, k0_pay11, k0_pay12, k0_pay13, k0_pay14]
  have e := laneMask_eq ⟨j.val, by omega⟩
  unfold laneMask at e
  dsimp only at e
  rw [e]
  by_cases h : j.val < 32
  · have e0 : (⟨640 + (j.val + 128 - 96) % 128, by omega⟩ : Fin 768) = ⟨672 + j.val, by omega⟩ :=
      Fin.ext (by show 640 + (j.val + 128 - 96) % 128 = 672 + j.val; omega)
    have e1 : j.val % 64 < 32 := by omega
    rw [e0, if_pos e1, dif_pos h]
    rfl
  · have e0 : (⟨640 + (j.val + 128 - 32) % 128, by omega⟩ : Fin 768) = ⟨608 + j.val, by omega⟩ :=
      Fin.ext (by show 640 + (j.val + 128 - 32) % 128 = 608 + j.val; omega)
    have e1 : ¬j.val % 64 < 32 := by omega
    rw [e0, if_neg e1, dif_neg h]
    rfl

end body

section kernel

variable (m : (ℓ : Loc nD τ sig) → Buf (Elt Ideal) ℓ) (c : Dev nD)

/-- The argument that holds the residual stream. -/
abbrev aX : Vec Ideal S128x1024 .f32 := m ((c : Thread nD τ).loc main_arg0)
/-- The argument that holds the norm's gain. -/
abbrev aG : Vec Ideal S1x1024 .f32 := m ((c : Thread nD τ).loc main_arg1)
/-- The argument that holds the modulation. -/
abbrev aMod : Vec Ideal S4x1x128x6144 .f32 := m ((c : Thread nD τ).loc main_arg2)
/-- The argument that holds the down projection. -/
abbrev aW : Vec Ideal S1024x704 .f32 := m ((c : Thread nD τ).loc main_arg3)
/-- The argument that holds the gain of the queries' norm. -/
abbrev aQn : Vec Ideal S1x384 .f32 := m ((c : Thread nD τ).loc main_arg4)
/-- The argument that holds the gain of the latents' norm. -/
abbrev aKn : Vec Ideal S1x256 .f32 := m ((c : Thread nD τ).loc main_arg5)
/-- The argument that holds the cosines. -/
abbrev aCos : Vec Ideal S1x32 .f32 := m ((c : Thread nD τ).loc main_arg6)
/-- The argument that holds the sines. -/
abbrev aSin : Vec Ideal S1x32 .f32 := m ((c : Thread nD τ).loc main_arg7)

/-- The weights the launch is given: cast to bf16 and padded. -/
theorem V_w : V m c main_v1 = truncf (F := Ideal) .bf16 (pad S1024x768 ![0, 0] ![0, 64] ![0, 0] (aW m c)
    (sitofp (F := Ideal) .f32 (constantI S_ 32 0#32)) pads_S1024x704_S1024x768_000_0640 h_S_ : FVec Ideal S1024x768 .f32) bitsLt_bf16_f32 := by
  unfold_abbrev_sides
  simp only [hostOps0, hostOps0_1, hostOps0_2, List.flatten_cons, List.flatten_nil, List.append_nil, List.cons_append,
    List.nil_append]
  after_results
  rfl

/-- The table's one row over the lanes. -/
def four (a b : Vec Ideal S1x32 .f32) : Vec Ideal S1x128 .f32 :=
  concatenate S1x128 1 [⟨S1x32, a⟩, ⟨S1x32, b⟩, ⟨S1x32, a⟩, ⟨S1x32, b⟩] concatenates_S1x32_S1x32_S1x32_S1x32_S1x128_d1

/-- The cosine table laid out over the lanes. -/
theorem V_cos : V m c main_v6 = broadcastInDim S128x128 ![0, 1] bcast_S1x128_S128x128_0_1 (four (aCos m c) (aCos m c)) := by
  unfold_abbrev_sides
  simp only [hostOps0, hostOps0_1, hostOps0_2, List.flatten_cons, List.flatten_nil, List.append_nil, List.cons_append,
    List.nil_append]
  after_results
  rfl

/-- The sines with their signs turned. -/
def negSin : Vec Ideal S1x32 .f32 := Host.negf (F := Ideal) (φ := .f32) (aSin m c)

/-- The sine table laid out over the lanes, its first halves negated. -/
theorem V_sin : V m c main_v7
    = broadcastInDim S128x128 ![0, 1] bcast_S1x128_S128x128_0_1 (four (negSin m c) (aSin m c)) := by
  unfold_abbrev_sides
  simp only [hostOps0, hostOps0_1, hostOps0_2, List.flatten_cons, List.flatten_nil, List.append_nil, List.cons_append,
    List.nil_append]
  after_results
  rfl

/-- The weights as the call finds them: 704 columns of the argument, then padding that no result reads. -/
theorem V_w_apply (k : Fin 1024) (n : Fin 704) : V m c main_v1 (ix2 k ⟨n, by omega⟩) = aW m c (ix2 k n) := by
  rw [V_w]
  pointwise []

/-- The cosines and sines as the call finds them, laid over the lanes. -/
theorem V_cos_lo (r : Fin 128) (j : Fin 64) (h : j.val < 32) : V m c main_v6 (ix2 r ⟨j, by omega⟩) = aCos m c (ix2 0 ⟨j, h⟩) := by
  rw [V_cos]
  pointwise [four]
  simp [h]
/-- The cosine table in the second half of the key's lanes. -/
theorem V_cos_hi (r : Fin 128) (j : Fin 64) (h : ¬j.val < 32) :
    V m c main_v6 (ix2 r ⟨j, by omega⟩) = aCos m c (ix2 0 ⟨j - 32, by omega⟩) := by
  have h1 : j.val - 32 < 32 := by omega
  rw [V_cos]
  pointwise [four]
  simp [h, h1]
/-- The sine table in the first half of the key's lanes, with its sign. -/
theorem V_sin_lo (r : Fin 128) (j : Fin 64) (h : j.val < 32) : V m c main_v7 (ix2 r ⟨j, by omega⟩) = -aSin m c (ix2 0 ⟨j, h⟩) := by
  rw [V_sin]
  pointwise [four, negSin]
  simp [h]
/-- The sine table in the second half of the key's lanes. -/
theorem V_sin_hi (r : Fin 128) (j : Fin 64) (h : ¬j.val < 32) :
    V m c main_v7 (ix2 r ⟨j, by omega⟩) = aSin m c (ix2 0 ⟨j - 32, by omega⟩) := by
  have h1 : j.val - 32 < 32 := by omega
  rw [V_sin]
  pointwise [four, negSin]
  simp [h, h1]

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- Where the windows' blocks lie. -/
theorem idx : ∀ t : Fin cfg0.N, win0_0.index t = ![0, 0] ∧ win0_1.index t = ![0, 0]
    ∧ win0_2.index t = ![1, 0, 0, 0] ∧ win0_3.index t = ![1, 0, 0, 1] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, win0_0.index t = ![0, 0] ∧ win0_1.index t = ![0, 0]
    ∧ win0_2.index t = ![1, 0, 0, 0] ∧ win0_3.index t = ![1, 0, 0, 1] ∧ win0_4.index t = ![0, 0]
    ∧ win0_5.index t = ![0, 0] ∧ win0_6.index t = ![0, 0] ∧ win0_7.index t = ![0, 0] ∧ win0_8.index t = ![0, 0])

/-- The indices of the result blocks at every point. -/
theorem idx_out : ∀ t : Fin cfg0.N, win0_9.index t = ![0, 0] ∧ win0_10.index t = ![0, 0]
    ∧ win0_11.index t = ![0, 0] ∧ win0_12.index t = ![0, 0] ∧ win0_13.index t = ![0, 0] :=
  (by decide +kernel : ∀ t : Fin grid0.N, win0_9.index t = ![0, 0] ∧ win0_10.index t = ![0, 0]
    ∧ win0_11.index t = ![0, 0] ∧ win0_12.index t = ![0, 0] ∧ win0_13.index t = ![0, 0])

variable (t : Fin cfg0.N)

/-- Where an entry of a point's block 0 lies in the residual stream. -/
theorem blk0 (r : Fin 128) (k : Fin 1024) : iblk m c 0 t (ix2 r k) = aX m c (ix2 r k) := by
  show (((cfg0.win 0).blk t).view.read (Elt Ideal) (V m c main_arg0)) (ix2 r k) = _
  rw [V_main_arg0]
  blk_ext [idx t]
/-- Where an entry of a point's block 1 lies in the norm's gain. -/
theorem blk1 (k : Fin 1024) : iblk m c 1 t (ix2 0 k) = aG m c (ix2 0 k) := by
  show (((cfg0.win 1).blk t).view.read (Elt Ideal) (V m c main_arg1)) (ix2 0 k) = _
  rw [V_main_arg1]
  blk_ext [idx t]
/-- Where an entry of a point's block 2 lies in the modulation. -/
theorem blk2 (r : Fin 128) (k : Fin 1024) :
    iblk m c 2 t (ix4 0 0 r k) = aMod m c (ix4 1 0 r ⟨k, by omega⟩) := by
  show (((cfg0.win 2).blk t).view.read (Elt Ideal) (V m c main_arg2)) (ix4 0 0 r k) = _
  rw [V_main_arg2]
  blk_ext [idx t]
/-- Where an entry of a point's block 3 lies in the modulation. -/
theorem blk3 (r : Fin 128) (k : Fin 1024) :
    iblk m c 3 t (ix4 0 0 r k) = aMod m c (ix4 1 0 r ⟨1024 + k, by omega⟩) := by
  show (((cfg0.win 3).blk t).view.read (Elt Ideal) (V m c main_arg2)) (ix4 0 0 r k) = _
  rw [V_main_arg2]
  blk_ext [idx t]
/-- Where an entry of a point's block 4 lies in the down projection. -/
theorem blk4 (k : Fin 1024) (n : Fin 704) : iblk m c 4 t (ix2 k ⟨n, by omega⟩) = aW m c (ix2 k n) := by
  rw [← V_w_apply m c k n]
  show (((cfg0.win 4).blk t).view.read (Elt Ideal) (V m c main_v1)) (ix2 k ⟨n, by omega⟩) = _
  generalize V m c main_v1 = v
  blk_ext [idx t]
/-- Where an entry of a point's block 5 lies in the gain of the queries' norm. -/
theorem blk5 (j : Fin 384) : iblk m c 5 t (ix2 0 j) = aQn m c (ix2 0 j) := by
  show (((cfg0.win 5).blk t).view.read (Elt Ideal) (V m c main_arg4)) (ix2 0 j) = _
  rw [V_main_arg4]
  blk_ext [idx t]
/-- Where an entry of a point's block 6 lies in the gain of the latents' norm. -/
theorem blk6 (j : Fin 256) : iblk m c 6 t (ix2 0 j) = aKn m c (ix2 0 j) := by
  show (((cfg0.win 6).blk t).view.read (Elt Ideal) (V m c main_arg5)) (ix2 0 j) = _
  rw [V_main_arg5]
  blk_ext [idx t]
/-- Where an entry of a point's block 7 lies in the array the host prepares for it. -/
theorem blk7 (r : Fin 128) (j : Fin 128) : iblk m c 7 t (ix2 r j) = V m c main_v6 (ix2 r j) := by
  show (((cfg0.win 7).blk t).view.read (Elt Ideal) (V m c main_v6)) (ix2 r j) = _
  generalize V m c main_v6 = v
  blk_ext [idx t]
/-- Where an entry of a point's block 8 lies in the array the host prepares for it. -/
theorem blk8 (r : Fin 128) (j : Fin 128) : iblk m c 8 t (ix2 r j) = V m c main_v7 (ix2 r j) := by
  show (((cfg0.win 8).blk t).view.read (Elt Ideal) (V m c main_v7)) (ix2 r j) = _
  generalize V m c main_v7 = v
  blk_ext [idx t]

/-- The block's products are the rows' latent entries. -/
theorem lat_apply (r : Fin 128) (n : Fin 704) :
    k0_pay3 (iblk m c 0 t) (iblk m c 1 t) (iblk m c 3 t) (iblk m c 2 t) (iblk m c 4 t) (ix2 r ⟨n, by omega⟩)
      = lat (aX m c) (aG m c) (aMod m c) (aW m c) r n := by
  rw [pay3_apply]
  unfold lat hid
  simp only [blk0, blk1, blk2, blk3, blk4]

/-- What a point stores at an entry of its block of the normalised latents of the queries. -/
theorem cq_apply (r : Fin 128) (j : Fin 384) :
    out0_9 (iblk m c 0 t) (iblk m c 1 t) (iblk m c 2 t) (iblk m c 3 t) (iblk m c 4 t) (iblk m c 5 t) (iblk m c 6 t)
        (iblk m c 7 t) (iblk m c 8 t) (ix2 r j)
      = cq (aX m c) (aG m c) (aMod m c) (aW m c) (aQn m c) r j := by
  unfold out0_9
  rw [View.canon_unit_zero zero2]
  simp only [View.ld_unit_zero (S := S128x1024) zero2, View.ld_unit_zero (S := S1x1024) zero2,
    View.ld_unit_zero (S := S1x1x128x1024) zero4, View.ld_unit_zero (S := S1024x768) zero2, View.ld_unit_zero (S := S1x384) zero2]
  rw [pay6_apply]
  unfold cq
  have e : ∀ k : Fin 384, k0_pay3 (iblk m c 0 t) (iblk m c 1 t) (iblk m c 3 t) (iblk m c 2 t) (iblk m c 4 t)
      (ix2 r ⟨k, by omega⟩) = _ := fun k => lat_apply m c t r ⟨k, by omega⟩
  simp only [e, blk5]

/-- The products as the later stores read them. -/
theorem prod_eq : k0_pay15 (iblk m c 0 t) (iblk m c 1 t) (iblk m c 2 t) (iblk m c 3 t) (iblk m c 4 t) (iblk m c 5 t)
      (iblk m c 6 t) (iblk m c 7 t) (iblk m c 8 t)
    = k0_pay3 (iblk m c 0 t) (iblk m c 1 t) (iblk m c 3 t) (iblk m c 2 t) (iblk m c 4 t) := by
  unfold k0_pay15
  simp only [View.ld_unit_zero (S := S128x1024) zero2, View.ld_unit_zero (S := S1x1024) zero2,
    View.ld_unit_zero (S := S1x1x128x1024) zero4, View.ld_unit_zero (S := S1024x768) zero2]

/-- What a point stores at an entry of its block of the normalised latents of keys and values. -/
theorem ckv_apply (r : Fin 128) (j : Fin 256) :
    out0_10 (iblk m c 0 t) (iblk m c 1 t) (iblk m c 2 t) (iblk m c 3 t) (iblk m c 4 t) (iblk m c 5 t) (iblk m c 6 t)
        (iblk m c 7 t) (iblk m c 8 t) (ix2 r j)
      = ckv (aX m c) (aG m c) (aMod m c) (aW m c) (aKn m c) r j := by
  unfold out0_10
  rw [View.canon_unit_zero zero2, prod_eq]
  simp only [View.ld_unit_zero (S := S1x256) zero2]
  rw [pay7_apply]
  unfold ckv
  have e : ∀ k : Fin 256, k0_pay3 (iblk m c 0 t) (iblk m c 1 t) (iblk m c 3 t) (iblk m c 2 t) (iblk m c 4 t)
      (ix2 r ⟨384 + k, by omega⟩) = _ := fun k => lat_apply m c t r ⟨384 + k, by omega⟩
  simp only [e, blk6]

/-- What a point stores at an entry of its block of the normalised latents, rounded. -/
theorem ckvB_apply (r : Fin 128) (j : Fin 256) :
    out0_12 (iblk m c 0 t) (iblk m c 1 t) (iblk m c 2 t) (iblk m c 3 t) (iblk m c 4 t) (iblk m c 5 t) (iblk m c 6 t)
        (iblk m c 7 t) (iblk m c 8 t) (ix2 r j)
      = ckv (aX m c) (aG m c) (aMod m c) (aW m c) (aKn m c) r j := by
  rw [← ckv_apply m c t r j]
  unfold out0_12 out0_10
  rw [View.canon_unit_zero zero2, View.canon_unit_zero zero2]
  rfl

/-- What a point stores at an entry of its block of the rotated key. -/
theorem kr_apply (r : Fin 128) (j : Fin 64) :
    out0_11 (iblk m c 0 t) (iblk m c 1 t) (iblk m c 2 t) (iblk m c 3 t) (iblk m c 4 t) (iblk m c 5 t) (iblk m c 6 t)
        (iblk m c 7 t) (iblk m c 8 t) (ix2 r j)
      = kr (aX m c) (aG m c) (aMod m c) (aW m c) (aCos m c) (aSin m c) r j := by
  unfold out0_11
  rw [View.canon_unit_zero zero2]
  unfold k0_pay16 k0_pay17 k0_pay18 k0_pay19 k0_pay20 k0_pay21
  rw [prod_eq]
  simp only [View.ld_unit_zero (S := S128x128) zero2]
  rw [pay1_apply, blk7, blk8]
  unfold kr
  by_cases h : j.val < 32
  · rw [dif_pos h, dif_pos h, V_cos_lo m c _ j h, V_sin_lo m c _ j h, mul_neg, ← sub_eq_add_neg]
    exact congrArg₂ (fun a b => a * _ - b * _) (lat_apply m c t r ⟨640 + j, by omega⟩) (lat_apply m c t r ⟨672 + j, by omega⟩)
  · rw [dif_neg h, dif_neg h, V_cos_hi m c _ j h, V_sin_hi m c _ j h, add_comm]
    exact congrArg₂ (fun a b => a * _ + b * _) (lat_apply m c t r ⟨608 + j, by omega⟩) (lat_apply m c t r ⟨640 + j, by omega⟩)

/-- What a point stores at an entry of its block of the rotated key, rounded. -/
theorem krB_apply (r : Fin 128) (j : Fin 64) :
    out0_13 (iblk m c 0 t) (iblk m c 1 t) (iblk m c 2 t) (iblk m c 3 t) (iblk m c 4 t) (iblk m c 5 t) (iblk m c 6 t)
        (iblk m c 7 t) (iblk m c 8 t) (ix2 r j)
      = kr (aX m c) (aG m c) (aMod m c) (aW m c) (aCos m c) (aSin m c) r j := by
  rw [← kr_apply m c t r j]
  unfold out0_13 out0_11
  rw [View.canon_unit_zero zero2, View.canon_unit_zero zero2]
  rfl

/-- The blocks of result window 9 cover its array. -/
theorem covers9 : (cfg0.win 9).Covers := by decide +kernel
/-- The blocks of result window 10 cover its array. -/
theorem covers10 : (cfg0.win 10).Covers := by decide +kernel
/-- The blocks of result window 11 cover its array. -/
theorem covers11 : (cfg0.win 11).Covers := by decide +kernel
/-- The blocks of result window 12 cover its array. -/
theorem covers12 : (cfg0.win 12).Covers := by decide +kernel
/-- The blocks of result window 13 cover its array. -/
theorem covers13 : (cfg0.win 13).Covers := by decide +kernel

/-- Where an entry of a point's block of result window 9 lies in the whole array. -/
theorem emb9 (r : Fin 128) (j : Fin 384) : ((cfg0.win 9).blk t).view.emb (ix2 r j) = ix2 r j := by
  blk_ext [idx_out t]
/-- Where an entry of a point's block of result window 10 lies in the whole array. -/
theorem emb10 (r : Fin 128) (j : Fin 256) : ((cfg0.win 10).blk t).view.emb (ix2 r j) = ix2 r j := by
  blk_ext [idx_out t]
/-- Where an entry of a point's block of result window 11 lies in the whole array. -/
theorem emb11 (r : Fin 128) (j : Fin 64) : ((cfg0.win 11).blk t).view.emb (ix2 r j) = ix2 r j := by
  blk_ext [idx_out t]
/-- Where an entry of a point's block of result window 12 lies in the whole array. -/
theorem emb12 (r : Fin 128) (j : Fin 256) : ((cfg0.win 12).blk t).view.emb (ix2 r j) = ix2 r j := by
  blk_ext [idx_out t]
/-- Where an entry of a point's block of result window 13 lies in the whole array. -/
theorem emb13 (r : Fin 128) (j : Fin 64) : ((cfg0.win 13).blk t).view.emb (ix2 r j) = ix2 r j := by
  blk_ext [idx_out t]

/-- No entry of a block of result window 9 is cut off: its place is its own index. -/
theorem inj9 (r : Fin 128) (j : Fin 384) : (cfg0.win 9).xinj (cfg0.grid.coords t) (ix2 r j) = ix2 r j := rfl
/-- No entry of a block of result window 10 is cut off: its place is its own index. -/
theorem inj10 (r : Fin 128) (j : Fin 256) : (cfg0.win 10).xinj (cfg0.grid.coords t) (ix2 r j) = ix2 r j := rfl
/-- No entry of a block of result window 11 is cut off: its place is its own index. -/
theorem inj11 (r : Fin 128) (j : Fin 64) : (cfg0.win 11).xinj (cfg0.grid.coords t) (ix2 r j) = ix2 r j := rfl
/-- No entry of a block of result window 12 is cut off: its place is its own index. -/
theorem inj12 (r : Fin 128) (j : Fin 256) : (cfg0.win 12).xinj (cfg0.grid.coords t) (ix2 r j) = ix2 r j := rfl
/-- No entry of a block of result window 13 is cut off: its place is its own index. -/
theorem inj13 (r : Fin 128) (j : Fin 64) : (cfg0.win 13).xinj (cfg0.grid.coords t) (ix2 r j) = ix2 r j := rfl

/-- The finished array of the normalised latents of the queries is the specified one. -/
theorem result_cq : (dats m 0 c).arrAt 9 cfg0.N = cqArr (aX m c) (aG m c) (aMod m c) (aW m c) (aQn m c) := by
  refine (dats m 0 c).arrAt_eq_of_covers 9 _ covers9 fun t hf y => ?_
  rw [after0_9]
  obtain ⟨r, j, rfl⟩ : ∃ (r : Fin 128) (j : Fin 384), y = ix2 r j := ⟨y 0, y 1, eq_ix2 y⟩
  rw [emb9 t r j, cqArr_apply, cast_eq, inj9, cq_apply]

/-- The finished array of the normalised latents of keys and values is the specified one. -/
theorem result_ckv : (dats m 0 c).arrAt 10 cfg0.N = ckvArr (aX m c) (aG m c) (aMod m c) (aW m c) (aKn m c) := by
  refine (dats m 0 c).arrAt_eq_of_covers 10 _ covers10 fun t hf y => ?_
  rw [after0_10]
  obtain ⟨r, j, rfl⟩ : ∃ (r : Fin 128) (j : Fin 256), y = ix2 r j := ⟨y 0, y 1, eq_ix2 y⟩
  rw [emb10 t r j, ckvArr_apply, cast_eq, inj10, ckv_apply]

/-- The finished array of the rotated key is the specified one. -/
theorem result_kr : (dats m 0 c).arrAt 11 cfg0.N = krArr (aX m c) (aG m c) (aMod m c) (aW m c) (aCos m c) (aSin m c) := by
  refine (dats m 0 c).arrAt_eq_of_covers 11 _ covers11 fun t hf y => ?_
  rw [after0_11]
  obtain ⟨r, j, rfl⟩ : ∃ (r : Fin 128) (j : Fin 64), y = ix2 r j := ⟨y 0, y 1, eq_ix2 y⟩
  rw [emb11 t r j, krArr_apply, cast_eq, inj11, kr_apply]

/-- The finished array of the normalised latents, rounded is the specified one. -/
theorem result_ckvB : (dats m 0 c).arrAt 12 cfg0.N = ckvArrB (aX m c) (aG m c) (aMod m c) (aW m c) (aKn m c) := by
  refine (dats m 0 c).arrAt_eq_of_covers 12 _ covers12 fun t hf y => ?_
  rw [after0_12]
  obtain ⟨r, j, rfl⟩ : ∃ (r : Fin 128) (j : Fin 256), y = ix2 r j := ⟨y 0, y 1, eq_ix2 y⟩
  rw [emb12 t r j, ckvArrB_apply, cast_eq, inj12, ckvB_apply]

/-- The finished array of the rotated key, rounded is the specified one. -/
theorem result_krB : (dats m 0 c).arrAt 13 cfg0.N = krArrB (aX m c) (aG m c) (aMod m c) (aW m c) (aCos m c) (aSin m c) := by
  refine (dats m 0 c).arrAt_eq_of_covers 13 _ covers13 fun t hf y => ?_
  rw [after0_13]
  obtain ⟨r, j, rfl⟩ : ∃ (r : Fin 128) (j : Fin 64), y = ix2 r j := ⟨y 0, y 1, eq_ix2 y⟩
  rw [emb13 t r j, krArrB_apply, cast_eq, inj13, krB_apply]

end kernel

end Cert.Proof.DqkvSample

end
-- ==== Proof.DqkvSampleClaim.lean ====
/-
  The claim of the attention's down projection on the sample batch.
-/
module

public import proofs.«01_k».proof.Defs
public import proofs.«01_k».proof.Proof.DqkvSampleValue
public import proofs.«01_k».proof.Proof.Gen.DqkvSampleRefIdeal.Run

@[expose] public section

set_option maxRecDepth 16384

noncomputable section

namespace Cert.Proof.DqkvSample

open Idealize.ShloMosaic Idealize.SL.Sem

/-- Over the extended reals, the call's results are the reference's, from any arguments. -/
theorem value : Cert.algebraic_DqkvSampleIdeal_DqkvSampleRefIdeal (hDqkvSampleIdeal := Cert.DqkvSampleIdeal.Gen.facts)
    (hDqkvSampleRefIdeal := Cert.DqkvSampleRefIdeal.Gen.facts) := by
  intro m g m' g' _ agree
  refine ⟨fun c => cqArr (aX m c) (aG m c) (aMod m c) (aW m c) (aQn m c),
    fun c => ckvArr (aX m c) (aG m c) (aMod m c) (aW m c) (aKn m c),
    fun c => krArr (aX m c) (aG m c) (aMod m c) (aW m c) (aCos m c) (aSin m c),
    fun c => ckvArrB (aX m c) (aG m c) (aMod m c) (aW m c) (aKn m c),
    fun c => krArrB (aX m c) (aG m c) (aMod m c) (aW m c) (aCos m c) (aSin m c), ?_, ?_⟩
  · refine (θ_run _ _ _).mono (fun r h c => ?_) (Cert.DqkvSampleIdeal.Value.run_blocks m g)
    obtain ⟨h9, h10, h11, h12, h13, rest⟩ := h c
    exact ⟨h9.trans (result_cq m c), h10.trans (result_ckv m c), h11.trans (result_kr m c), h12.trans (result_ckvB m c),
      h13.trans (result_krB m c), rest⟩
  · refine (θ_run _ _ _).mono (fun r h c => ?_) (Cert.DqkvSampleRefIdeal.Value.run m' g')
    obtain ⟨r0, r1, r2, r3, r4, rest⟩ := h c
    obtain ⟨h0, h1, h2, h3, h4, h5, h6, h7⟩ := agree c
    refine ⟨r0.trans ?_, r1.trans ?_, r2.trans ?_, r3.trans ?_, r4.trans ?_, rest⟩
    · rw [Cert.DqkvSampleRefIdeal.Read.val_main_v73_eq, h0, h1, h2, h3, h4]
      exact ref_cqArr _ _ _ _ _
    · rw [Cert.DqkvSampleRefIdeal.Read.val_main_v54_eq, h0, h1, h2, h3, h5]
      exact ref_ckvArr _ _ _ _ _
    · rw [Cert.DqkvSampleRefIdeal.Read.val_main_v72_eq, h0, h1, h2, h3, h6, h7]
      exact ref_krArr _ _ _ _ _ _
    · rw [Cert.DqkvSampleRefIdeal.Read.val_main_v74_eq, h0, h1, h2, h3, h5]
      exact ref_ckvArrB _ _ _ _ _
    · rw [Cert.DqkvSampleRefIdeal.Read.val_main_v75_eq, h0, h1, h2, h3, h6, h7]
      exact ref_krArrB _ _ _ _ _ _

end Cert.Proof.DqkvSample

end
-- ==== Proof.FfnSamplePoint.lean ====
/-
  What one grid point of the feed-forward kernel on the sample batch leaves behind, as functions of the blocks it reads: the hidden rows
  and the accumulator in scratch, and — at the second point — the finished rows.
-/
module

public import proofs.«01_k».proof.Proof.Gen.FfnSampleIdeal.Value

@[expose] public section

set_option maxRecDepth 16384

noncomputable section

namespace Cert.Proof.FfnSample

open Cert.FfnSampleIdeal Cert.FfnSampleIdeal.Gen Idealize.ShloMosaic Idealize.ShloMosaic.TcCoe Idealize.ShloMosaic.Tactic Idealize.SL.Sem

variable {F : FTy → Type} [FloatOps F]
variable (m : (ℓ : Loc nD τ sig) → Buf (Elt F) ℓ)

/-- The offsets that are all zero, written as a constant function. -/
theorem zero2 : (![0, 0] : Fin 2 → Nat) = fun _ => 0 := funext fun a => by fin_cases a <;> rfl
/-- The offsets that are all zero, written as a constant function. -/
theorem zero4 : (![0, 0, 0, 0] : Fin 4 → Nat) = fun _ => 0 := funext fun a => by fin_cases a <;> rfl

/-- The normed, modulated rows the first point keeps. -/
theorem hidden_first (c : Dev nD) (t : Fin cfg0.N) (h0 : t.val % 2 = 0) (h1 : ¬t.val % 2 = 1) :
    (outsAt0 m c t.val t.isLt).2.1 = k0_pay1 (iblk m c 0 t) (iblk m c 1 t) (iblk m c 3 t) (iblk m c 2 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread,
    View.ld_unit_zero (S := S128x1024) zero2, View.ld_unit_zero (S := S1x1024) zero2, View.ld_unit_zero (S := S1x1x128x1024) zero4]

/-- The accumulator after the first point: one block of the hidden width, added to zeros. -/
theorem acc_first (c : Dev nD) (t : Fin cfg0.N) (h0 : t.val % 2 = 0) (h1 : ¬t.val % 2 = 1) :
    (outsAt0 m c t.val t.isLt).2.2 = k0_pay3 (k0_pay1 (iblk m c 0 t) (iblk m c 1 t) (iblk m c 3 t) (iblk m c 2 t))
      (iblk m c 5 t) (iblk m c 6 t) k0_pay2 (iblk m c 7 t) := by
  rw [outsAt0_A m c t h0 h1]
  dsimp only
  unfold sout0_A_1
  rw [View.read_writes_eq_canon _ _ _ (fun _ => scover0_A_1 ..)]
  unfold kernelRun0_A
  dsimp only
  sl_unfold_words
  rw [View.canon_cons_unit_zero (S := S128x1024) zero2]
  simp only [View.readAt_eq_ld, (hs0_0 t).read_unread, (hs0_1 t).read_unread, (hs0_2 t).read_unread, (hs0_3 t).read_unread,
    (hs0_5 t).read_unread, (hs0_6 t).read_unread, (hs0_7 t).read_unread,
    View.readCov_unit_zero (S := S128x1024) _ zero2,
    View.ld_unit_zero (S := S128x1024) zero2, View.ld_unit_zero (S := S1x1024) zero2, View.ld_unit_zero (S := S1x1x128x1024) zero4,
    View.ld_unit_zero (S := S1024x1408) zero2, View.ld_unit_zero (S := S1408x1024) zero2]

/-- What the second point writes: the residual, gated and normed, over both blocks of the hidden width. -/
theorem out_second (c : Dev nD) (t : Fin cfg0.N) (h0 : ¬t.val % 2 = 0) (h1 : t.val % 2 = 1) :
    (outsAt0 m c t.val t.isLt).1 = k0_pay4 (iblk m c 0 t) (iblk m c 4 t)
      (k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t))
      (iblk m c 8 t) := by
  rw [outsAt0_B m c t h0 h1]
  dsimp only
  unfold out0_B_9
  rw [View.read_writes_eq_canon _ _ _ (fun _ => cover0_B_9 ..)]
  unfold kernelRun0_B
  dsimp only
  sl_unfold_words
  rw [View.canon_unit_zero zero2]
  simp only [View.readAt_eq_ld, (hs0_0 t).read_unread, (hs0_4 t).read_unread,
    (hs0_5 t).read_unread, (hs0_6 t).read_unread, (hs0_7 t).read_unread, (hs0_8 t).read_unread,
    (Memref.isWhole_whole _).read_unread,
    View.readCov_unit_zero (S := S128x1024) _ zero2,
    View.ld_unit_zero (S := S128x1024) zero2, View.ld_unit_zero (S := S1x1024) zero2, View.ld_unit_zero (S := S1x1x128x1024) zero4,
    View.ld_unit_zero (S := S1024x1408) zero2, View.ld_unit_zero (S := S1408x1024) zero2]

end Cert.Proof.FfnSample

end
-- ==== Proof.FfnSamplePay.lean ====
/-
  The feed-forward kernel's block computations on the sample batch, read at one entry over the extended reals.
-/
module

public import proofs.«01_k».proof.Proof.Gen.FfnSampleIdeal.Skeleton
public import proofs.«01_k».proof.Proof.Layer

@[expose] public section

set_option maxRecDepth 16384

noncomputable section

namespace Cert.Proof.FfnSample

open Cert.FfnSampleIdeal Cert.FfnSampleIdeal.Gen Idealize.ShloMosaic

/-- The hidden rows: each row normed and modulated by its own words. -/
theorem pay1_apply (x : Vec Ideal S128x1024 .f32) (g : Vec Ideal S1x1024 .f32) (sc sh : Vec Ideal S1x1x128x1024 .f32)
    (r : Fin 128) (k : Fin 1024) :
    k0_pay1 x g sc sh (ix2 r k) = modRow (fun k => x (ix2 r k)) (fun k => g (ix2 0 k)) (fun k => sc (ix4 0 0 r k))
      (fun k => sh (ix4 0 0 r k)) k := by
  pointwise [k0_pay1, modRow, rms, width, eps]

/-- The accumulator starts at zero. -/
theorem pay2_apply (r : Fin 128) (k : Fin 1024) : (k0_pay2 (F := Ideal)) (ix2 r k) = 0 := by
  pointwise [k0_pay2]

/-- One block of the hidden width: gate, up, activation, down, added to the accumulator. -/
theorem pay3_apply (h : Vec Ideal S128x1024 .bf16) (wg wu : Vec Ideal S1024x1408 .bf16) (acc : Vec Ideal S128x1024 .f32)
    (wd : Vec Ideal S1408x1024 .bf16) (r : Fin 128) (j : Fin 1024) :
    k0_pay3 h wg wu acc wd (ix2 r j) = acc (ix2 r j) + ∑ f : Fin 1408,
      swiglu (∑ k : Fin 1024, h (ix2 r k) * wg (ix2 k f)) (∑ k : Fin 1024, h (ix2 r k) * wu (ix2 k f)) * wd (ix2 f j) := by
  pointwise [k0_pay3, swiglu]

/-- The finished rows: residual plus gated sum, normed. -/
theorem pay4_apply (x : Vec Ideal S128x1024 .f32) (gate : Vec Ideal S1x1x128x1024 .f32) (acc : Vec Ideal S128x1024 .f32)
    (gf : Vec Ideal S1x1024 .f32) (r : Fin 128) (j : Fin 1024) :
    k0_pay4 x gate acc gf (ix2 r j) = (x (ix2 r j) + gate (ix4 0 0 r j) * acc (ix2 r j))
      * rms width (fun k : Fin 1024 => x (ix2 r k) + gate (ix4 0 0 r k) * acc (ix2 r k)) * gf (ix2 0 j) := by
  pointwise [k0_pay4, rms, width, eps]

end Cert.Proof.FfnSample

end
-- ==== Proof.FfnSampleRef.lean ====
/-
  The feed-forward reference for the sample batch, read at one entry over the extended reals.
-/
module

public import proofs.«01_k».proof.Proof.Gen.FfnSampleRefIdeal.Read
public import proofs.«01_k».proof.Proof.Layer

@[expose] public section

set_option maxRecDepth 16384

noncomputable section

namespace Cert.Proof.FfnSample

open Cert.FfnSampleRefIdeal Cert.FfnSampleRefIdeal.Read Idealize.ShloMosaic

variable (x : Vec Ideal S128x1024 .f32) (g : Vec Ideal S1x1024 .f32) (md : Vec Ideal S4x1x128x6144 .f32)
  (wgu : Vec Ideal S1024x5632 .bf16) (wd : Vec Ideal S2816x1024 .bf16) (gf : Vec Ideal S1x1024 .f32)

/-- Row `r` of the hidden input: the residual stream's row, normed and modulated by the row's own words. -/
@[irreducible] def hid (r : Fin 128) (k : Fin 1024) : EReal :=
  modRow (fun k => x (ix2 r k)) (fun k => g (ix2 0 k)) (fun k => md (ix4 3 0 r ⟨4096 + k, by omega⟩))
    (fun k => md (ix4 3 0 r ⟨3072 + k, by omega⟩)) k

/-- Hidden unit `f` of row `r`: the gated product of its two projections. -/
@[irreducible] def unit (r : Fin 128) (f : Fin 2816) : EReal :=
  swiglu (∑ k : Fin 1024, hid x g md r k * wgu (ix2 k ⟨f, by omega⟩))
    (∑ k : Fin 1024, hid x g md r k * wgu (ix2 k ⟨2816 + f, by omega⟩))

/-- Entry `j` of row `r` after the residual. -/
@[irreducible] def resid (r : Fin 128) (j : Fin 1024) : EReal :=
  x (ix2 r j) + md (ix4 3 0 r ⟨5120 + j, by omega⟩) * ∑ f : Fin 2816, unit x g md wgu r f * wd (ix2 f j)

/-- The result's entry: the residual row, normed. -/
@[irreducible] def out (r : Fin 128) (j : Fin 1024) : EReal :=
  resid x g md wgu wd r j * rms width (resid x g md wgu wd r) * gf (ix2 0 j)

/-- The reference's modulated norm at an entry. -/
theorem ref_hid (r : Fin 128) (k : Fin 1024) : val_main_v23 (F := Ideal) x g md (ix2 r k) = hid x g md r k := by
  pointwise [hid, modRow, rms, width, eps, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]

/-- The reference's gate and up products at an entry. -/
theorem ref_gu (r : Fin 128) (f : Fin 5632) :
    val_main_v25 (F := Ideal) x g md wgu (ix2 r f) = ∑ k : Fin 1024, hid x g md r k * wgu (ix2 k f) := by
  unfold val_main_v25 val_main_v24
  pointwise []
  simp only [ref_hid]

/-- The reference's gated hidden unit at an entry. -/
theorem ref_unit (r : Fin 128) (f : Fin 2816) : val_main_v29 (F := Ideal) x g md wgu (ix2 r f) = unit x g md wgu r f := by
  pointwise [val_main_v29, val_main_v28, val_main_v27, val_main_call0_v5, val_main_call0_v4, val_main_call0_cst_0,
    val_main_call0_v3, val_main_call0_v2, val_main_call0_cst, val_main_call0_v1, val_main_call0_v0, val_main_v26]
  simp only [ref_gu, unit, swiglu, Ideal.logistic]

/-- The reference's residual stream after the feed-forward at an entry. -/
theorem ref_resid (r : Fin 128) (j : Fin 1024) : val_main_v36 (F := Ideal) x g md wgu wd (ix2 r j) = resid x g md wgu wd r j := by
  pointwise [val_main_v36, val_main_v35, val_main_v34, val_main_v33, val_main_v32, val_main_v31, val_main_v30]
  simp only [ref_unit, resid]

/-- The reference's result at row `r`, entry `j`. -/
theorem ref_apply (r : Fin 128) (j : Fin 1024) :
    val_main_v50 (F := Ideal) x g md wgu wd gf (ix2 r j) = out x g md wgu wd gf r j := by
  pointwise [val_main_v50, val_main_v49, val_main_v48, val_main_v47, val_main_v46, val_main_v45, val_main_v44, val_main_v43,
    val_main_v42, val_main_v41, val_main_v40, val_main_v39, val_main_v38, val_main_v37, val_main_cst_3, val_main_cst_4,
    val_main_cst_5]
  simp only [ref_resid, out, rms, width, eps]

end Cert.Proof.FfnSample

end
-- ==== Proof.FfnSampleValue.lean ====
/-
  The feed-forward kernel's result array on the sample batch is the function `out` of its arguments: what the second grid
  point writes, read entry by entry, with the two blocks of the hidden width put together to one sum.
-/
module

public import proofs.«01_k».proof.Proof.FfnSamplePoint
public import proofs.«01_k».proof.Proof.FfnSamplePay
public import proofs.«01_k».proof.Proof.FfnSampleRef
public import Idealize.ShloMosaic.Lib.Pipeline.ValueKit

@[expose] public section

set_option maxRecDepth 16384

noncomputable section

namespace Cert.Proof.FfnSample

open Cert.FfnSampleIdeal Cert.FfnSampleIdeal.Gen Idealize.ShloMosaic Idealize.ShloMosaic.TcCoe Idealize.ShloMosaic.Tactic Idealize.SL.Sem

variable (m : (ℓ : Loc nD τ sig) → Buf (Elt Ideal) ℓ) (c : Dev nD)

/-- The argument that holds the residual stream. -/
abbrev aX : Vec Ideal S128x1024 .f32 := m ((c : Thread nD τ).loc main_arg0)
/-- The argument that holds the norm's gain. -/
abbrev aG : Vec Ideal S1x1024 .f32 := m ((c : Thread nD τ).loc main_arg1)
/-- The argument that holds the modulation. -/
abbrev aMod : Vec Ideal S4x1x128x6144 .f32 := m ((c : Thread nD τ).loc main_arg2)
/-- The argument that holds the gate and up weights. -/
abbrev aGu : Vec Ideal S1024x5632 .bf16 := m ((c : Thread nD τ).loc main_arg3)
/-- The argument that holds the down weights. -/
abbrev aDown : Vec Ideal S2816x1024 .bf16 := m ((c : Thread nD τ).loc main_arg4)
/-- The argument that holds the final norm's gain. -/
abbrev aFin : Vec Ideal S1x1024 .f32 := m ((c : Thread nD τ).loc main_arg5)

/-- Where the windows' blocks lie: every row at once, hidden block `t % 2`. -/
theorem idx : ∀ t : Fin cfg0.N, win0_0.index t = ![0, 0] ∧ win0_1.index t = ![0, 0]
    ∧ win0_2.index t = ![3, 0, 0, 3] ∧ win0_3.index t = ![3, 0, 0, 4] ∧ win0_4.index t = ![3, 0, 0, 5]
    ∧ win0_5.index t = ![0, t.val % 2] ∧ win0_6.index t = ![0, 2 + t.val % 2] ∧ win0_7.index t = ![t.val % 2, 0]
    ∧ win0_8.index t = ![0, 0] ∧ win0_9.index t = ![0, 0] :=
  (by decide +kernel : ∀ t : Fin grid0.N, win0_0.index t = ![0, 0] ∧ win0_1.index t = ![0, 0]
    ∧ win0_2.index t = ![3, 0, 0, 3] ∧ win0_3.index t = ![3, 0, 0, 4] ∧ win0_4.index t = ![3, 0, 0, 5]
    ∧ win0_5.index t = ![0, t.val % 2] ∧ win0_6.index t = ![0, 2 + t.val % 2] ∧ win0_7.index t = ![t.val % 2, 0]
    ∧ win0_8.index t = ![0, 0] ∧ win0_9.index t = ![0, 0])

/-- The grid has 2 points. -/
theorem lt_N (t : Fin cfg0.N) : t.val < 2 := lt_of_lt_of_eq t.isLt N_0

/-- The hidden unit that unit `f` of a point's half is. -/
def unitOf (t : Fin cfg0.N) (f : Fin 1408) : Fin 2816 := ⟨t.val % 2 * 1408 + f, by omega⟩

variable (t : Fin cfg0.N)

/-- Where an entry of a point's block 0 lies in the residual stream. -/
theorem blk0 (r : Fin 128) (k : Fin 1024) : iblk m c 0 t (ix2 r k) = aX m c (ix2 r k) := by
  blk_ext [iblk, V, idx t]
/-- Where an entry of a point's block 1 lies in the norm's gain. -/
theorem blk1 (k : Fin 1024) : iblk m c 1 t (ix2 0 k) = aG m c (ix2 0 k) := by
  blk_ext [iblk, V, idx t]
/-- Where an entry of a point's block 2 lies in the modulation. -/
theorem blk2 (r : Fin 128) (k : Fin 1024) : iblk m c 2 t (ix4 0 0 r k) = aMod m c (ix4 3 0 r ⟨3072 + k, by omega⟩) := by
  blk_ext [iblk, V, idx t]
/-- Where an entry of a point's block 3 lies in the modulation. -/
theorem blk3 (r : Fin 128) (k : Fin 1024) : iblk m c 3 t (ix4 0 0 r k) = aMod m c (ix4 3 0 r ⟨4096 + k, by omega⟩) := by
  blk_ext [iblk, V, idx t]
/-- Where an entry of a point's block 4 lies in the modulation. -/
theorem blk4 (r : Fin 128) (k : Fin 1024) : iblk m c 4 t (ix4 0 0 r k) = aMod m c (ix4 3 0 r ⟨5120 + k, by omega⟩) := by
  blk_ext [iblk, V, idx t]
/-- Where an entry of a point's block 5 lies in the gate and up weights. -/
theorem blk5 (k : Fin 1024) (f : Fin 1408) : iblk m c 5 t (ix2 k f) = aGu m c (ix2 k ⟨unitOf t f, by omega⟩) := by
  blk_ext [iblk, V, idx t, unitOf]
/-- Where an entry of a point's block 6 lies in the gate and up weights. -/
theorem blk6 (k : Fin 1024) (f : Fin 1408) : iblk m c 6 t (ix2 k f) = aGu m c (ix2 k ⟨2816 + unitOf t f, by omega⟩) := by
  blk_ext [iblk, V, idx t, unitOf]
/-- Where an entry of a point's block 7 lies in the down weights. -/
theorem blk7 (f : Fin 1408) (j : Fin 1024) : iblk m c 7 t (ix2 f j) = aDown m c (ix2 (unitOf t f) j) := by
  blk_ext [iblk, V, idx t, unitOf]
/-- Where an entry of a point's block 8 lies in the final norm's gain. -/
theorem blk8 (k : Fin 1024) : iblk m c 8 t (ix2 0 k) = aFin m c (ix2 0 k) := by
  blk_ext [iblk, V, idx t]

/-- The kept rows at an even point are the hidden input's rows. -/
theorem hidden_apply (r : Fin 128) (k : Fin 1024) :
    k0_pay1 (iblk m c 0 t) (iblk m c 1 t) (iblk m c 3 t) (iblk m c 2 t) (ix2 r k)
      = hid (aX m c) (aG m c) (aMod m c) r k := by
  rw [pay1_apply]
  unfold hid
  simp only [blk0, blk1, blk2, blk3]

/-- One hidden block's share of the down projection. -/
@[irreducible] def part (r : Fin 128) (j : Fin 1024) (p : Nat) (hp : p < 2) : EReal :=
  ∑ f : Fin 1408, unit (aX m c) (aG m c) (aMod m c) (aGu m c) r ⟨p * 1408 + f, by omega⟩
    * aDown m c (ix2 ⟨p * 1408 + f, by omega⟩ j)

/-- A point adds its hidden block's share to the accumulator, once the kept rows are the hidden input's. -/
theorem step_apply (h : Vec Ideal S128x1024 .bf16) (acc : Vec Ideal S128x1024 .f32) (r : Fin 128) (j : Fin 1024)
    (hh : ∀ k, h (ix2 r k) = hid (aX m c) (aG m c) (aMod m c) r k) :
    k0_pay3 h (iblk m c 5 t) (iblk m c 6 t) acc (iblk m c 7 t) (ix2 r j)
      = acc (ix2 r j) + part m c r j (t.val % 2) (Nat.mod_lt _ (by decide)) := by
  rw [pay3_apply]
  unfold part unit
  simp only [hh, blk5, blk6, blk7, unitOf]

/-- Both hidden blocks' shares are the whole down projection. -/
theorem parts (r : Fin 128) (j : Fin 1024) :
    0 + part m c r j 0 (by decide) + part m c r j 1 (by decide)
      = ∑ f : Fin 2816, unit (aX m c) (aG m c) (aMod m c) (aGu m c) r f * aDown m c (ix2 f j) := by
  rw [Fin.sum_univ_two_halves 1408 1408 rfl, zero_add]
  unfold part
  congr 1

/-- What the second point writes. -/
theorem out_apply (h1 : t.val % 2 = 1) (r : Fin 128) (j : Fin 1024) :
    (outsAt0 m c t.val t.isLt).1 (ix2 r j)
      = out (aX m c) (aG m c) (aMod m c) (aGu m c) (aDown m c) (aFin m c) r j := by
  have hp : t.val - 1 < cfg0.N := Nat.lt_of_le_of_lt (Nat.sub_le _ _) t.isLt
  have e0 : (t.val - 1) % 2 = 0 := by omega
  have e1 : ¬(t.val - 1) % 2 = 1 := by omega
  have key : ∀ j, k0_pay3 (outsAt0 m c (t.val - 1) hp).2.1 (iblk m c 5 t) (iblk m c 6 t) (outsAt0 m c (t.val - 1) hp).2.2
      (iblk m c 7 t) (ix2 r j)
      = ∑ f : Fin 2816, unit (aX m c) (aG m c) (aMod m c) (aGu m c) r f * aDown m c (ix2 f j) := fun j => by
    rw [hidden_first m c ⟨t.val - 1, hp⟩ e0 e1, acc_first m c ⟨t.val - 1, hp⟩ e0 e1]
    rw [step_apply m c t _ _ r j (fun k => by rw [hidden_apply])]
    rw [step_apply m c ⟨t.val - 1, hp⟩ _ _ r j (fun k => hidden_apply m c _ r k), pay2_apply, ← parts]
    congr 2
    simp only [e0]
  rw [out_second m c t (by omega) h1, pay4_apply]
  unfold out
  have res : ∀ j, aX m c (ix2 r j) + aMod m c (ix4 3 0 r ⟨5120 + j, by omega⟩)
      * (∑ f : Fin 2816, unit (aX m c) (aG m c) (aMod m c) (aGu m c) r f * aDown m c (ix2 f j))
      = resid (aX m c) (aG m c) (aMod m c) (aGu m c) (aDown m c) r j := fun j => by unfold resid; rfl
  simp only [key, blk0, blk4, blk8, res]

/-- Every block of the result is written. -/
theorem covers : (cfg0.win 9).Covers := by decide +kernel

/-- The function `out`, as an array. -/
def outArr (X : Vec Ideal S128x1024 .f32) (g : Vec Ideal S1x1024 .f32) (md : Vec Ideal S4x1x128x6144 .f32)
    (wgu : Vec Ideal S1024x5632 .bf16) (wd : Vec Ideal S2816x1024 .bf16) (gf : Vec Ideal S1x1024 .f32) : Vec Ideal S128x1024 .f32 := fun i =>
  out X g md wgu wd gf (i 0) (i 1)

/-- The kernel's result array. -/
theorem result : (dats m 0 c).arrAt 9 cfg0.N = outArr (aX m c) (aG m c) (aMod m c) (aGu m c) (aDown m c) (aFin m c) := by
  refine (dats m 0 c).arrAt_eq_of_covers 9 _ covers fun t hf y => ?_
  rw [after0_9]
  have h1 : t.val % 2 = 1 := (flush0_9 t).mp hf
  obtain ⟨r, j, rfl⟩ : ∃ (r : Fin 128) (j : Fin 1024), y = ix2 r j := ⟨y 0, y 1, eq_ix2 y⟩
  have hi : ((cfg0.win 9).blk t).view.emb (ix2 r j) = ix2 r j := by
    blk_ext [idx t]
  refine (out_apply m c t h1 r j).trans ?_
  rw [hi]
  rfl

end Cert.Proof.FfnSample

end
-- ==== Proof.FfnSampleClaim.lean ====
/-
  The feed-forward claim on the sample batch: kernel and reference, from memories that agree on the arguments, end with one result.
-/
module

public import proofs.«01_k».proof.Defs
public import proofs.«01_k».proof.Proof.FfnSampleValue
public import proofs.«01_k».proof.Proof.Gen.FfnSampleRefIdeal.Run

@[expose] public section

set_option maxRecDepth 16384

noncomputable section

namespace Cert.Proof.FfnSample

open Idealize.ShloMosaic Idealize.SL.Sem

/-- The reference's result array is `out` of its arguments. -/
theorem ref_result (X : Vec Ideal Cert.FfnSampleRefIdeal.S128x1024 .f32) (g : Vec Ideal Cert.FfnSampleRefIdeal.S1x1024 .f32)
    (md : Vec Ideal Cert.FfnSampleRefIdeal.S4x1x128x6144 .f32) (wgu : Vec Ideal Cert.FfnSampleRefIdeal.S1024x5632 .bf16)
    (wd : Vec Ideal Cert.FfnSampleRefIdeal.S2816x1024 .bf16) (gf : Vec Ideal Cert.FfnSampleRefIdeal.S1x1024 .f32) :
    Cert.FfnSampleRefIdeal.Read.val_main_v50 (F := Ideal) X g md wgu wd gf = outArr X g md wgu wd gf := by
  funext i
  obtain ⟨r, j, rfl⟩ : ∃ (r : Fin 128) (j : Fin 1024), i = ix2 r j := ⟨i 0, i 1, eq_ix2 i⟩
  rw [ref_apply]
  rfl

/-- Over the extended reals, the call's results are the reference's, from any arguments. -/
theorem value : Cert.algebraic_FfnSampleIdeal_FfnSampleRefIdeal
    (hFfnSampleIdeal := Cert.FfnSampleIdeal.Gen.facts) (hFfnSampleRefIdeal := Cert.FfnSampleRefIdeal.Gen.facts) := by
  intro m g m' g' _ agree
  refine ⟨fun c => outArr (aX m c) (aG m c) (aMod m c) (aGu m c) (aDown m c) (aFin m c), ?_, ?_⟩
  · exact (θ_run _ _ _).mono (fun r h c => ⟨(h c).1.trans (result m c), (h c).2⟩) (Cert.FfnSampleIdeal.Value.run_blocks m g)
  · refine (θ_run _ _ _).mono (fun r h c => ⟨(h c).1.trans ?_, (h c).2⟩) (Cert.FfnSampleRefIdeal.Value.run m' g')
    obtain ⟨h0, h1, h2, h3, h4, h5⟩ := agree c
    rw [Cert.FfnSampleRefIdeal.Read.val_main_v50_eq, h0, h1, h2, h3, h4, h5]
    exact ref_result _ _ _ _ _ _

end Cert.Proof.FfnSample

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_operands
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutRefIdeal
public import proofs.«01_k».proof.Proof.Gen.Dqkv
public import proofs.«01_k».proof.Proof.Gen.Dqkv.Skeleton
public import proofs.«01_k».proof.Proof.Gen.Dqkv.Launch
public import proofs.«01_k».proof.Proof.Gen.Dqkv.Points
public import proofs.«01_k».proof.Proof.Gen.Dqkv.Frame
public import proofs.«01_k».proof.Proof.Gen.DqkvIdeal
public import proofs.«01_k».proof.Proof.Gen.DqkvIdeal.Skeleton
public import proofs.«01_k».proof.Proof.Gen.DqkvIdeal.Launch
public import proofs.«01_k».proof.Proof.Gen.DqkvIdeal.Points
public import proofs.«01_k».proof.Proof.Gen.DqkvIdeal.Frame
public import proofs.«01_k».proof.Proof.Gen.DqkvRefIdeal
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.MlaOutIdeal.Value
public import proofs.«01_k».proof.Proof.Gen.MlaOutRefIdeal.Run
public import proofs.«01_k».proof.Proof.Gen.MlaOutRefIdeal.Read
public import proofs.«01_k».proof.Proof.Gen.DqkvIdeal.Value
public import proofs.«01_k».proof.Proof.Gen.DqkvRefIdeal.Run
public import proofs.«01_k».proof.Proof.Gen.DqkvRefIdeal.Read
public import proofs.«01_k».proof.Proof.Gen.QProjIdeal.Value
public import proofs.«01_k».proof.Proof.Gen.QProjRefIdeal.Run
public import proofs.«01_k».proof.Proof.Gen.QProjRefIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleIdeal.Value
public import proofs.«01_k».proof.Proof.Gen.FfnSampleRefIdeal.Run
public import proofs.«01_k».proof.Proof.Gen.FfnSampleRefIdeal.Read
public import proofs.«01_k».proof.Proof.Gen.DqkvSample
public import proofs.«01_k».proof.Proof.Gen.DqkvSample.Skeleton
public import proofs.«01_k».proof.Proof.Gen.DqkvSample.Launch
public import proofs.«01_k».proof.Proof.Gen.DqkvSample.Points
public import proofs.«01_k».proof.Proof.Gen.DqkvSample.Frame
public import proofs.«01_k».proof.Proof.Gen.DqkvSampleIdeal
public import proofs.«01_k».proof.Proof.Gen.DqkvSampleIdeal.Skeleton
public import proofs.«01_k».proof.Proof.Gen.DqkvSampleIdeal.Launch
public import proofs.«01_k».proof.Proof.Gen.DqkvSampleIdeal.Points
public import proofs.«01_k».proof.Proof.Gen.DqkvSampleIdeal.Frame
public import proofs.«01_k».proof.Proof.Gen.DqkvSampleRefIdeal
public import proofs.«01_k».proof.Proof.Gen.DqkvSampleIdeal.Value
public import proofs.«01_k».proof.Proof.Gen.DqkvSampleRefIdeal.Run
public import proofs.«01_k».proof.Proof.Gen.DqkvSampleRefIdeal.Read
public import proofs.«01_k».proof.Proof.Gen.SampleMixer
public import proofs.«01_k».proof.Proof.Gen.SampleMixer.Skeleton
public import proofs.«01_k».proof.Proof.Gen.SampleMixer.Launch
public import proofs.«01_k».proof.Proof.Gen.SampleMixer.Points
public import proofs.«01_k».proof.Proof.Gen.SampleMixer.Frame
public import proofs.«01_k».proof.Proof.Gen.SampleMixerIdeal
public import proofs.«01_k».proof.Proof.Gen.SampleMixerIdeal.Skeleton
public import proofs.«01_k».proof.Proof.Gen.SampleMixerIdeal.Launch
public import proofs.«01_k».proof.Proof.Gen.SampleMixerIdeal.Points
public import proofs.«01_k».proof.Proof.Gen.SampleMixerIdeal.Frame
public import proofs.«01_k».proof.Proof.Gen.SampleMixerRefIdeal
public import proofs.«01_k».proof.Proof.Gen.SampleMixerIdeal.Value
public import proofs.«01_k».proof.Proof.Gen.SampleMixerRefIdeal.Run
public import proofs.«01_k».proof.Proof.Gen.SampleMixerRefIdeal.Read
public import proofs.«01_k».proof.Proof.AttnClaim
public import proofs.«01_k».proof.Proof.FfnClaim
public import proofs.«01_k».proof.Proof.InProjClaim
public import proofs.«01_k».proof.Proof.OutProjClaim
public import proofs.«01_k».proof.Proof.MlaOutClaim
public import proofs.«01_k».proof.Proof.DqkvClaim
public import proofs.«01_k».proof.Proof.QProjClaim
public import proofs.«01_k».proof.Proof.SampleMixerClaim
public import proofs.«01_k».proof.Proof.DqkvSampleClaim
public import proofs.«01_k».proof.Proof.FfnSampleClaim
public import Idealize.ShloMosaic.Adequacy
public import Idealize.ShloMosaic.Init

@[expose] public section

noncomputable section

namespace Cert.Proof

open Idealize.ShloMosaic Idealize.SL.Sem Cert.Attn

/-- The attention's reference is a straight line of host operations: it keeps its arguments, and no semaphore is
    declared that it could leave raised. -/
theorem frame_attnRefIdeal : Cert.quiescent_AttnRefIdeal := fun m ρ _ =>
  (θ_run Cert.AttnRefIdeal.defs _ _).mono
    (fun r h => ⟨fun c => (h c).2, sem_eq_zero_of_no_sems (by decide) r.2⟩) (Cert.AttnRefIdeal.Value.run m ρ)

/-- The same of the feed-forward reference. -/
theorem frame_ffnRefIdeal : Cert.quiescent_FfnRefIdeal := fun m ρ _ =>
  (θ_run Cert.FfnRefIdeal.defs _ _).mono
    (fun r h => ⟨fun c => (h c).2, sem_eq_zero_of_no_sems (by decide) r.2⟩) (Cert.FfnRefIdeal.Value.run m ρ)

/-- The same of the input projection's reference. -/
theorem frame_inProjRefIdeal : Cert.quiescent_InProjRefIdeal := fun m ρ _ =>
  (θ_run Cert.InProjRefIdeal.defs _ _).mono
    (fun r h => ⟨fun c => (h c).2, sem_eq_zero_of_no_sems (by decide) r.2⟩) (Cert.InProjRefIdeal.Value.run m ρ)

/-- The same of the output projection's reference. -/
theorem frame_outProjRefIdeal : Cert.quiescent_OutProjRefIdeal := fun m ρ _ =>
  (θ_run Cert.OutProjRefIdeal.defs _ _).mono
    (fun r h => ⟨fun c => (h c).2, sem_eq_zero_of_no_sems (by decide) r.2⟩) (Cert.OutProjRefIdeal.Value.run m ρ)

/-- The same of the attention's output projection's reference. -/
theorem frame_mlaOutRefIdeal : Cert.quiescent_MlaOutRefIdeal := fun m ρ _ =>
  (θ_run Cert.MlaOutRefIdeal.defs _ _).mono
    (fun r h => ⟨fun c => (h c).2, sem_eq_zero_of_no_sems (by decide) r.2⟩) (Cert.MlaOutRefIdeal.Value.run m ρ)

/-- The same of the down projection's reference, after its five results. -/
theorem frame_dqkvRefIdeal : Cert.quiescent_DqkvRefIdeal := fun m ρ _ =>
  (θ_run Cert.DqkvRefIdeal.defs _ _).mono
    (fun r h => ⟨fun c => (h c).2.2.2.2.2, sem_eq_zero_of_no_sems (by decide) r.2⟩) (Cert.DqkvRefIdeal.Value.run m ρ)

/-- The same of the up projection's reference, after its two results. -/
theorem frame_qProjRefIdeal : Cert.quiescent_QProjRefIdeal := fun m ρ _ =>
  (θ_run Cert.QProjRefIdeal.defs _ _).mono
    (fun r h => ⟨fun c => (h c).2.2, sem_eq_zero_of_no_sems (by decide) r.2⟩) (Cert.QProjRefIdeal.Value.run m ρ)

/-- The same of the feed-forward reference for the sample batch. -/
theorem frame_ffnSampleRefIdeal : Cert.quiescent_FfnSampleRefIdeal := fun m ρ _ =>
  (θ_run Cert.FfnSampleRefIdeal.defs _ _).mono
    (fun r h => ⟨fun c => (h c).2, sem_eq_zero_of_no_sems (by decide) r.2⟩) (Cert.FfnSampleRefIdeal.Value.run m ρ)

/-- The same of the down projection's reference for the sample batch. -/
theorem frame_dqkvSampleRefIdeal : Cert.quiescent_DqkvSampleRefIdeal := fun m ρ _ =>
  (θ_run Cert.DqkvSampleRefIdeal.defs _ _).mono
    (fun r h => ⟨fun c => (h c).2.2.2.2.2, sem_eq_zero_of_no_sems (by decide) r.2⟩) (Cert.DqkvSampleRefIdeal.Value.run m ρ)

/-- The same of the sample mixers' reference, after its three results. -/
theorem frame_sampleMixerRefIdeal : Cert.quiescent_SampleMixerRefIdeal := fun m ρ _ =>
  (θ_run Cert.SampleMixerRefIdeal.defs _ _).mono
    (fun r h => ⟨fun c => (h c).2.2.2, sem_eq_zero_of_no_sems (by decide) r.2⟩) (Cert.SampleMixerRefIdeal.Value.run m ρ)

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.MlaOut.Gen.facts, Cert.MlaOutIdeal.Gen.facts, Cert.MlaOutRefIdeal.Gen.facts,
  Cert.Dqkv.Gen.facts, Cert.DqkvIdeal.Gen.facts, Cert.DqkvRefIdeal.Gen.facts,
  Cert.QProj.Gen.facts, Cert.QProjIdeal.Gen.facts, Cert.QProjRefIdeal.Gen.facts,
  Cert.FfnSample.Gen.facts, Cert.FfnSampleIdeal.Gen.facts, Cert.FfnSampleRefIdeal.Gen.facts,
  Cert.DqkvSample.Gen.facts, Cert.DqkvSampleIdeal.Gen.facts, Cert.DqkvSampleRefIdeal.Gen.facts,
  Cert.SampleMixer.Gen.facts, Cert.SampleMixerIdeal.Gen.facts, Cert.SampleMixerRefIdeal.Gen.facts,
  Cert.Pre_finite_operands.Gen.facts,
  fun m ρ _ => Cert.Attn.Gen.frame m ρ,
  fun m ρ _ => Cert.AttnIdeal.Gen.frame m ρ,
  fun m ρ _ => Cert.AttnIdeal.Gen.frame m ρ,
  frame_attnRefIdeal,
  fun m ρ _ => frame_attnRefIdeal m ρ trivial,
  fun m ρ _ => Cert.Ffn.Gen.frame m ρ,
  fun m ρ _ => Cert.FfnIdeal.Gen.frame m ρ,
  frame_ffnRefIdeal,
  fun m ρ _ => Cert.InProj.Gen.frame m ρ,
  fun m ρ _ => Cert.InProjIdeal.Gen.frame m ρ,
  frame_inProjRefIdeal,
  fun m ρ _ => Cert.OutProj.Gen.frame m ρ,
  fun m ρ _ => Cert.OutProjIdeal.Gen.frame m ρ,
  frame_outProjRefIdeal,
  fun m ρ _ => Cert.MlaOut.Gen.frame m ρ,
  fun m ρ _ => Cert.MlaOutIdeal.Gen.frame m ρ,
  frame_mlaOutRefIdeal,
  fun m ρ _ => Cert.Dqkv.Gen.frame m ρ,
  fun m ρ _ => Cert.DqkvIdeal.Gen.frame m ρ,
  frame_dqkvRefIdeal,
  fun m ρ _ => Cert.QProj.Gen.frame m ρ,
  fun m ρ _ => Cert.QProjIdeal.Gen.frame m ρ,
  frame_qProjRefIdeal,
  fun m ρ _ => Cert.FfnSample.Gen.frame m ρ,
  fun m ρ _ => Cert.FfnSampleIdeal.Gen.frame m ρ,
  frame_ffnSampleRefIdeal,
  fun m ρ _ => Cert.DqkvSample.Gen.frame m ρ,
  fun m ρ _ => Cert.DqkvSampleIdeal.Gen.frame m ρ,
  frame_dqkvSampleRefIdeal,
  fun m ρ _ => Cert.SampleMixer.Gen.frame m ρ,
  fun m ρ _ => Cert.SampleMixerIdeal.Gen.frame m ρ,
  frame_sampleMixerRefIdeal,
  ⟨IdealRules.named_const.statement Cert.AttnIdeal.κ "mask" .f32 0xF149F2CA#32 ⊥ rfl,
    IdealRules.named_const.statement Cert.AttnIdeal.κ "scale" .f32 0x3D93CD3A#32 (((Real.sqrt 192)⁻¹ : ℝ) : EReal) rfl⟩,
  Attn.value,
  trivial,
  Ffn.value,
  trivial,
  InProj.value,
  trivial,
  OutProj.value,
  trivial,
  MlaOut.value,
  trivial,
  Dqkv.value,
  trivial,
  QProj.value,
  trivial,
  FfnSample.value,
  trivial,
  DqkvSample.value,
  trivial,
  SampleMixer.value⟩

end Cert.Proof

end
